-- ==== Defs.lean ====
def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MkvKernel (m : (ℓ : Loc Cert.MkvKernel.nD Cert.MkvKernel.τ Cert.MkvKernel.sig) → Buf (Elt Bits) ℓ) : Prop :=
  True

def Pre_MkvKernelIdeal (m : (ℓ : Loc Cert.MkvKernelIdeal.nD Cert.MkvKernelIdeal.τ Cert.MkvKernelIdeal.sig) → Buf (Elt Ideal) ℓ) : Prop :=
  True

def Pre_MkvReferenceIdeal (m : (ℓ : Loc Cert.MkvReferenceIdeal.nD Cert.MkvReferenceIdeal.τ Cert.MkvReferenceIdeal.sig) → Buf (Elt Ideal) ℓ) : Prop :=
  True

def Pre_SideKernel (m : (ℓ : Loc Cert.SideKernel.nD Cert.SideKernel.τ Cert.SideKernel.sig) → Buf (Elt Bits) ℓ) : Prop :=
  True

def Pre_SideKernelIdeal (m : (ℓ : Loc Cert.SideKernelIdeal.nD Cert.SideKernelIdeal.τ Cert.SideKernelIdeal.sig) → Buf (Elt Ideal) ℓ) : Prop :=
  True

def Pre_SideReferenceIdeal (m : (ℓ : Loc Cert.SideReferenceIdeal.nD Cert.SideReferenceIdeal.τ Cert.SideReferenceIdeal.sig) → Buf (Elt Ideal) ℓ) : Prop :=
  True

def Pre_InbKernel (m : (ℓ : Loc Cert.InbKernel.nD Cert.InbKernel.τ Cert.InbKernel.sig) → Buf (Elt Bits) ℓ) : Prop :=
  True

def Pre_InbKernelIdeal (m : (ℓ : Loc Cert.InbKernelIdeal.nD Cert.InbKernelIdeal.τ Cert.InbKernelIdeal.sig) → Buf (Elt Ideal) ℓ) : Prop :=
  True

def Pre_InbReferenceIdeal (m : (ℓ : Loc Cert.InbReferenceIdeal.nD Cert.InbReferenceIdeal.τ Cert.InbReferenceIdeal.sig) → Buf (Elt Ideal) ℓ) : Prop :=
  True

def Pre_RinKernel (m : (ℓ : Loc Cert.RinKernel.nD Cert.RinKernel.τ Cert.RinKernel.sig) → Buf (Elt Bits) ℓ) : Prop :=
  True

def Pre_RinKernelIdeal (m : (ℓ : Loc Cert.RinKernelIdeal.nD Cert.RinKernelIdeal.τ Cert.RinKernelIdeal.sig) → Buf (Elt Ideal) ℓ) : Prop :=
  True

def Pre_RinReferenceIdeal (m : (ℓ : Loc Cert.RinReferenceIdeal.nD Cert.RinReferenceIdeal.τ Cert.RinReferenceIdeal.sig) → Buf (Elt Ideal) ℓ) : Prop :=
  True

def Pre_NewKernel (m : (ℓ : Loc Cert.NewKernel.nD Cert.NewKernel.τ Cert.NewKernel.sig) → Buf (Elt Bits) ℓ) : Prop :=
  True

def Pre_NewKernelIdeal (m : (ℓ : Loc Cert.NewKernelIdeal.nD Cert.NewKernelIdeal.τ Cert.NewKernelIdeal.sig) → Buf (Elt Ideal) ℓ) : Prop :=
  True

def Pre_NewReferenceIdeal (m : (ℓ : Loc Cert.NewReferenceIdeal.nD Cert.NewReferenceIdeal.τ Cert.NewReferenceIdeal.sig) → Buf (Elt Ideal) ℓ) : Prop :=
  True

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_MkvKernel [hMkvKernel : Cert.MkvKernel.Facts] : Prop :=
  ∀ (m : (ℓ : Loc Cert.MkvKernel.nD Cert.MkvKernel.τ Cert.MkvKernel.sig) → Buf (Elt Bits) ℓ) (g : Dev Cert.MkvKernel.nD → PrngReg), Pre_MkvKernel m →
    θ_run (Cert.MkvKernel.defs (F := Bits)) (onTc (τ := Cert.MkvKernel.τ) (Cert.MkvKernel.main (F := Bits))) ⟨m, fun _ => 0, g⟩ (fun r => (∀ c : Dev Cert.MkvKernel.nD,
      r.2.mem ((c.tc : Thread Cert.MkvKernel.nD Cert.MkvKernel.τ).loc Cert.MkvKernel.main_arg0) = m ((c.tc : Thread Cert.MkvKernel.nD Cert.MkvKernel.τ).loc Cert.MkvKernel.main_arg0)
      ∧ r.2.mem ((c.tc : Thread Cert.MkvKernel.nD Cert.MkvKernel.τ).loc Cert.MkvKernel.main_arg1) = m ((c.tc : Thread Cert.MkvKernel.nD Cert.MkvKernel.τ).loc Cert.MkvKernel.main_arg1)
      ∧ r.2.mem ((c.tc : Thread Cert.MkvKernel.nD Cert.MkvKernel.τ).loc Cert.MkvKernel.main_arg2) = m ((c.tc : Thread Cert.MkvKernel.nD Cert.MkvKernel.τ).loc Cert.MkvKernel.main_arg2))
      ∧ r.2.sem = fun _ => 0)

def quiescent_MkvKernelIdeal [hMkvKernelIdeal : Cert.MkvKernelIdeal.Facts] : Prop :=
  ∀ (m : (ℓ : Loc Cert.MkvKernelIdeal.nD Cert.MkvKernelIdeal.τ Cert.MkvKernelIdeal.sig) → Buf (Elt Ideal) ℓ) (g : Dev Cert.MkvKernelIdeal.nD → PrngReg), Pre_MkvKernelIdeal m →
    θ_run (Cert.MkvKernelIdeal.defs (F := Ideal)) (onTc (τ := Cert.MkvKernelIdeal.τ) (Cert.MkvKernelIdeal.main (F := Ideal))) ⟨m, fun _ => 0, g⟩ (fun r => (∀ c : Dev Cert.MkvKernelIdeal.nD,
      r.2.mem ((c.tc : Thread Cert.MkvKernelIdeal.nD Cert.MkvKernelIdeal.τ).loc Cert.MkvKernelIdeal.main_arg0) = m ((c.tc : Thread Cert.MkvKernelIdeal.nD Cert.MkvKernelIdeal.τ).loc Cert.MkvKernelIdeal.main_arg0)
      ∧ r.2.mem ((c.tc : Thread Cert.MkvKernelIdeal.nD Cert.MkvKernelIdeal.τ).loc Cert.MkvKernelIdeal.main_arg1) = m ((c.tc : Thread Cert.MkvKernelIdeal.nD Cert.MkvKernelIdeal.τ).loc Cert.MkvKernelIdeal.main_arg1)
      ∧ r.2.mem ((c.tc : Thread Cert.MkvKernelIdeal.nD Cert.MkvKernelIdeal.τ).loc Cert.MkvKernelIdeal.main_arg2) = m ((c.tc : Thread Cert.MkvKernelIdeal.nD Cert.MkvKernelIdeal.τ).loc Cert.MkvKernelIdeal.main_arg2))
      ∧ r.2.sem = fun _ => 0)

def quiescent_MkvReferenceIdeal [hMkvReferenceIdeal : Cert.MkvReferenceIdeal.Facts] : Prop :=
  ∀ (m : (ℓ : Loc Cert.MkvReferenceIdeal.nD Cert.MkvReferenceIdeal.τ Cert.MkvReferenceIdeal.sig) → Buf (Elt Ideal) ℓ) (g : Dev Cert.MkvReferenceIdeal.nD → PrngReg), Pre_MkvReferenceIdeal m →
    θ_run (Cert.MkvReferenceIdeal.defs (F := Ideal)) (onTc (τ := Cert.MkvReferenceIdeal.τ) (Cert.MkvReferenceIdeal.main (F := Ideal))) ⟨m, fun _ => 0, g⟩ (fun r => (∀ c : Dev Cert.MkvReferenceIdeal.nD,
      r.2.mem ((c.tc : Thread Cert.MkvReferenceIdeal.nD Cert.MkvReferenceIdeal.τ).loc Cert.MkvReferenceIdeal.main_arg0) = m ((c.tc : Thread Cert.MkvReferenceIdeal.nD Cert.MkvReferenceIdeal.τ).loc Cert.MkvReferenceIdeal.main_arg0)
      ∧ r.2.mem ((c.tc : Thread Cert.MkvReferenceIdeal.nD Cert.MkvReferenceIdeal.τ).loc Cert.MkvReferenceIdeal.main_arg1) = m ((c.tc : Thread Cert.MkvReferenceIdeal.nD Cert.MkvReferenceIdeal.τ).loc Cert.MkvReferenceIdeal.main_arg1)
      ∧ r.2.mem ((c.tc : Thread Cert.MkvReferenceIdeal.nD Cert.MkvReferenceIdeal.τ).loc Cert.MkvReferenceIdeal.main_arg2) = m ((c.tc : Thread Cert.MkvReferenceIdeal.nD Cert.MkvReferenceIdeal.τ).loc Cert.MkvReferenceIdeal.main_arg2))
      ∧ r.2.sem = fun _ => 0)

def quiescent_SideKernel [hSideKernel : Cert.SideKernel.Facts] : Prop :=
  ∀ (m : (ℓ : Loc Cert.SideKernel.nD Cert.SideKernel.τ Cert.SideKernel.sig) → Buf (Elt Bits) ℓ) (g : Dev Cert.SideKernel.nD → PrngReg), Pre_SideKernel m →
    θ_run (Cert.SideKernel.defs (F := Bits)) (onTc (τ := Cert.SideKernel.τ) (Cert.SideKernel.main (F := Bits))) ⟨m, fun _ => 0, g⟩ (fun r => (∀ c : Dev Cert.SideKernel.nD,
      r.2.mem ((c.tc : Thread Cert.SideKernel.nD Cert.SideKernel.τ).loc Cert.SideKernel.main_arg0) = m ((c.tc : Thread Cert.SideKernel.nD Cert.SideKernel.τ).loc Cert.SideKernel.main_arg0)
      ∧ r.2.mem ((c.tc : Thread Cert.SideKernel.nD Cert.SideKernel.τ).loc Cert.SideKernel.main_arg1) = m ((c.tc : Thread Cert.SideKernel.nD Cert.SideKernel.τ).loc Cert.SideKernel.main_arg1)
      ∧ r.2.mem ((c.tc : Thread Cert.SideKernel.nD Cert.SideKernel.τ).loc Cert.SideKernel.main_arg2) = m ((c.tc : Thread Cert.SideKernel.nD Cert.SideKernel.τ).loc Cert.SideKernel.main_arg2))
      ∧ r.2.sem = fun _ => 0)

def quiescent_SideKernelIdeal [hSideKernelIdeal : Cert.SideKernelIdeal.Facts] : Prop :=
  ∀ (m : (ℓ : Loc Cert.SideKernelIdeal.nD Cert.SideKernelIdeal.τ Cert.SideKernelIdeal.sig) → Buf (Elt Ideal) ℓ) (g : Dev Cert.SideKernelIdeal.nD → PrngReg), Pre_SideKernelIdeal m →
    θ_run (Cert.SideKernelIdeal.defs (F := Ideal)) (onTc (τ := Cert.SideKernelIdeal.τ) (Cert.SideKernelIdeal.main (F := Ideal))) ⟨m, fun _ => 0, g⟩ (fun r => (∀ c : Dev Cert.SideKernelIdeal.nD,
      r.2.mem ((c.tc : Thread Cert.SideKernelIdeal.nD Cert.SideKernelIdeal.τ).loc Cert.SideKernelIdeal.main_arg0) = m ((c.tc : Thread Cert.SideKernelIdeal.nD Cert.SideKernelIdeal.τ).loc Cert.SideKernelIdeal.main_arg0)
      ∧ r.2.mem ((c.tc : Thread Cert.SideKernelIdeal.nD Cert.SideKernelIdeal.τ).loc Cert.SideKernelIdeal.main_arg1) = m ((c.tc : Thread Cert.SideKernelIdeal.nD Cert.SideKernelIdeal.τ).loc Cert.SideKernelIdeal.main_arg1)
      ∧ r.2.mem ((c.tc : Thread Cert.SideKernelIdeal.nD Cert.SideKernelIdeal.τ).loc Cert.SideKernelIdeal.main_arg2) = m ((c.tc : Thread Cert.SideKernelIdeal.nD Cert.SideKernelIdeal.τ).loc Cert.SideKernelIdeal.main_arg2))
      ∧ r.2.sem = fun _ => 0)

def quiescent_SideReferenceIdeal [hSideReferenceIdeal : Cert.SideReferenceIdeal.Facts] : Prop :=
  ∀ (m : (ℓ : Loc Cert.SideReferenceIdeal.nD Cert.SideReferenceIdeal.τ Cert.SideReferenceIdeal.sig) → Buf (Elt Ideal) ℓ) (g : Dev Cert.SideReferenceIdeal.nD → PrngReg), Pre_SideReferenceIdeal m →
    θ_run (Cert.SideReferenceIdeal.defs (F := Ideal)) (onTc (τ := Cert.SideReferenceIdeal.τ) (Cert.SideReferenceIdeal.main (F := Ideal))) ⟨m, fun _ => 0, g⟩ (fun r => (∀ c : Dev Cert.SideReferenceIdeal.nD,
      r.2.mem ((c.tc : Thread Cert.SideReferenceIdeal.nD Cert.SideReferenceIdeal.τ).loc Cert.SideReferenceIdeal.main_arg0) = m ((c.tc : Thread Cert.SideReferenceIdeal.nD Cert.SideReferenceIdeal.τ).loc Cert.SideReferenceIdeal.main_arg0)
      ∧ r.2.mem ((c.tc : Thread Cert.SideReferenceIdeal.nD Cert.SideReferenceIdeal.τ).loc Cert.SideReferenceIdeal.main_arg1) = m ((c.tc : Thread Cert.SideReferenceIdeal.nD Cert.SideReferenceIdeal.τ).loc Cert.SideReferenceIdeal.main_arg1)
      ∧ r.2.mem ((c.tc : Thread Cert.SideReferenceIdeal.nD Cert.SideReferenceIdeal.τ).loc Cert.SideReferenceIdeal.main_arg2) = m ((c.tc : Thread Cert.SideReferenceIdeal.nD Cert.SideReferenceIdeal.τ).loc Cert.SideReferenceIdeal.main_arg2))
      ∧ r.2.sem = fun _ => 0)

def quiescent_InbKernel [hInbKernel : Cert.InbKernel.Facts] : Prop :=
  ∀ (m : (ℓ : Loc Cert.InbKernel.nD Cert.InbKernel.τ Cert.InbKernel.sig) → Buf (Elt Bits) ℓ) (g : Dev Cert.InbKernel.nD → PrngReg), Pre_InbKernel m →
    θ_run (Cert.InbKernel.defs (F := Bits)) (onTc (τ := Cert.InbKernel.τ) (Cert.InbKernel.main (F := Bits))) ⟨m, fun _ => 0, g⟩ (fun r => (∀ c : Dev Cert.InbKernel.nD,
      r.2.mem ((c.tc : Thread Cert.InbKernel.nD Cert.InbKernel.τ).loc Cert.InbKernel.main_arg0) = m ((c.tc : Thread Cert.InbKernel.nD Cert.InbKernel.τ).loc Cert.InbKernel.main_arg0)
      ∧ r.2.mem ((c.tc : Thread Cert.InbKernel.nD Cert.InbKernel.τ).loc Cert.InbKernel.main_arg1) = m ((c.tc : Thread Cert.InbKernel.nD Cert.InbKernel.τ).loc Cert.InbKernel.main_arg1)
      ∧ r.2.mem ((c.tc : Thread Cert.InbKernel.nD Cert.InbKernel.τ).loc Cert.InbKernel.main_arg2) = m ((c.tc : Thread Cert.InbKernel.nD Cert.InbKernel.τ).loc Cert.InbKernel.main_arg2))
      ∧ r.2.sem = fun _ => 0)

def quiescent_InbKernelIdeal [hInbKernelIdeal : Cert.InbKernelIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg), Pre_InbKernelIdeal m →
    θ_run (Cert.InbKernelIdeal.defs (F := Ideal)) (onTc (τ := Cert.InbKernelIdeal.τ) (Cert.InbKernelIdeal.main (F := Ideal))) ⟨m, fun _ => 0, g⟩ (fun r => (∀ c : Dev Cert.InbKernelIdeal.nD,
      r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
      ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
      ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2))
      ∧ r.2.sem = fun _ => 0)

def quiescent_InbReferenceIdeal [hInbReferenceIdeal : Cert.InbReferenceIdeal.Facts] : Prop :=
  ∀ (m : (ℓ : Loc Cert.InbReferenceIdeal.nD Cert.InbReferenceIdeal.τ Cert.InbReferenceIdeal.sig) → Buf (Elt Ideal) ℓ) (g : Dev Cert.InbReferenceIdeal.nD → PrngReg), Pre_InbReferenceIdeal m →
    θ_run (Cert.InbReferenceIdeal.defs (F := Ideal)) (onTc (τ := Cert.InbReferenceIdeal.τ) (Cert.InbReferenceIdeal.main (F := Ideal))) ⟨m, fun _ => 0, g⟩ (fun r => (∀ c : Dev Cert.InbReferenceIdeal.nD,
      r.2.mem ((c.tc : Thread Cert.InbReferenceIdeal.nD Cert.InbReferenceIdeal.τ).loc Cert.InbReferenceIdeal.main_arg0) = m ((c.tc : Thread Cert.InbReferenceIdeal.nD Cert.InbReferenceIdeal.τ).loc Cert.InbReferenceIdeal.main_arg0)
      ∧ r.2.mem ((c.tc : Thread Cert.InbReferenceIdeal.nD Cert.InbReferenceIdeal.τ).loc Cert.InbReferenceIdeal.main_arg1) = m ((c.tc : Thread Cert.InbReferenceIdeal.nD Cert.InbReferenceIdeal.τ).loc Cert.InbReferenceIdeal.main_arg1)
      ∧ r.2.mem ((c.tc : Thread Cert.InbReferenceIdeal.nD Cert.InbReferenceIdeal.τ).loc Cert.InbReferenceIdeal.main_arg2) = m ((c.tc : Thread Cert.InbReferenceIdeal.nD Cert.InbReferenceIdeal.τ).loc Cert.InbReferenceIdeal.main_arg2))
      ∧ r.2.sem = fun _ => 0)

def quiescent_RinKernel [hRinKernel : Cert.RinKernel.Facts] : Prop :=
  ∀ (m : (ℓ : Loc Cert.RinKernel.nD Cert.RinKernel.τ Cert.RinKernel.sig) → Buf (Elt Bits) ℓ) (g : Dev Cert.RinKernel.nD → PrngReg), Pre_RinKernel m →
    θ_run (Cert.RinKernel.defs (F := Bits)) (onTc (τ := Cert.RinKernel.τ) (Cert.RinKernel.main (F := Bits))) ⟨m, fun _ => 0, g⟩ (fun r => (∀ c : Dev Cert.RinKernel.nD,
      r.2.mem ((c.tc : Thread Cert.RinKernel.nD Cert.RinKernel.τ).loc Cert.RinKernel.main_arg0) = m ((c.tc : Thread Cert.RinKernel.nD Cert.RinKernel.τ).loc Cert.RinKernel.main_arg0)
      ∧ r.2.mem ((c.tc : Thread Cert.RinKernel.nD Cert.RinKernel.τ).loc Cert.RinKernel.main_arg1) = m ((c.tc : Thread Cert.RinKernel.nD Cert.RinKernel.τ).loc Cert.RinKernel.main_arg1)
      ∧ r.2.mem ((c.tc : Thread Cert.RinKernel.nD Cert.RinKernel.τ).loc Cert.RinKernel.main_arg2) = m ((c.tc : Thread Cert.RinKernel.nD Cert.RinKernel.τ).loc Cert.RinKernel.main_arg2)
      ∧ r.2.mem ((c.tc : Thread Cert.RinKernel.nD Cert.RinKernel.τ).loc Cert.RinKernel.main_arg3) = m ((c.tc : Thread Cert.RinKernel.nD Cert.RinKernel.τ).loc Cert.RinKernel.main_arg3)
      ∧ r.2.mem ((c.tc : Thread Cert.RinKernel.nD Cert.RinKernel.τ).loc Cert.RinKernel.main_arg4) = m ((c.tc : Thread Cert.RinKernel.nD Cert.RinKernel.τ).loc Cert.RinKernel.main_arg4))
      ∧ r.2.sem = fun _ => 0)

def quiescent_RinKernelIdeal [hRinKernelIdeal : Cert.RinKernelIdeal.Facts] : Prop :=
  ∀ (m : (ℓ : Loc Cert.RinKernelIdeal.nD Cert.RinKernelIdeal.τ Cert.RinKernelIdeal.sig) → Buf (Elt Ideal) ℓ) (g : Dev Cert.RinKernelIdeal.nD → PrngReg), Pre_RinKernelIdeal m →
    θ_run (Cert.RinKernelIdeal.defs (F := Ideal)) (onTc (τ := Cert.RinKernelIdeal.τ) (Cert.RinKernelIdeal.main (F := Ideal))) ⟨m, fun _ => 0, g⟩ (fun r => (∀ c : Dev Cert.RinKernelIdeal.nD,
      r.2.mem ((c.tc : Thread Cert.RinKernelIdeal.nD Cert.RinKernelIdeal.τ).loc Cert.RinKernelIdeal.main_arg0) = m ((c.tc : Thread Cert.RinKernelIdeal.nD Cert.RinKernelIdeal.τ).loc Cert.RinKernelIdeal.main_arg0)
      ∧ r.2.mem ((c.tc : Thread Cert.RinKernelIdeal.nD Cert.RinKernelIdeal.τ).loc Cert.RinKernelIdeal.main_arg1) = m ((c.tc : Thread Cert.RinKernelIdeal.nD Cert.RinKernelIdeal.τ).loc Cert.RinKernelIdeal.main_arg1)
      ∧ r.2.mem ((c.tc : Thread Cert.RinKernelIdeal.nD Cert.RinKernelIdeal.τ).loc Cert.RinKernelIdeal.main_arg2) = m ((c.tc : Thread Cert.RinKernelIdeal.nD Cert.RinKernelIdeal.τ).loc Cert.RinKernelIdeal.main_arg2)
      ∧ r.2.mem ((c.tc : Thread Cert.RinKernelIdeal.nD Cert.RinKernelIdeal.τ).loc Cert.RinKernelIdeal.main_arg3) = m ((c.tc : Thread Cert.RinKernelIdeal.nD Cert.RinKernelIdeal.τ).loc Cert.RinKernelIdeal.main_arg3)
      ∧ r.2.mem ((c.tc : Thread Cert.RinKernelIdeal.nD Cert.RinKernelIdeal.τ).loc Cert.RinKernelIdeal.main_arg4) = m ((c.tc : Thread Cert.RinKernelIdeal.nD Cert.RinKernelIdeal.τ).loc Cert.RinKernelIdeal.main_arg4))
      ∧ r.2.sem = fun _ => 0)

def quiescent_RinReferenceIdeal [hRinReferenceIdeal : Cert.RinReferenceIdeal.Facts] : Prop :=
  ∀ (m : (ℓ : Loc Cert.RinReferenceIdeal.nD Cert.RinReferenceIdeal.τ Cert.RinReferenceIdeal.sig) → Buf (Elt Ideal) ℓ) (g : Dev Cert.RinReferenceIdeal.nD → PrngReg), Pre_RinReferenceIdeal m →
    θ_run (Cert.RinReferenceIdeal.defs (F := Ideal)) (onTc (τ := Cert.RinReferenceIdeal.τ) (Cert.RinReferenceIdeal.main (F := Ideal))) ⟨m, fun _ => 0, g⟩ (fun r => (∀ c : Dev Cert.RinReferenceIdeal.nD,
      r.2.mem ((c.tc : Thread Cert.RinReferenceIdeal.nD Cert.RinReferenceIdeal.τ).loc Cert.RinReferenceIdeal.main_arg0) = m ((c.tc : Thread Cert.RinReferenceIdeal.nD Cert.RinReferenceIdeal.τ).loc Cert.RinReferenceIdeal.main_arg0)
      ∧ r.2.mem ((c.tc : Thread Cert.RinReferenceIdeal.nD Cert.RinReferenceIdeal.τ).loc Cert.RinReferenceIdeal.main_arg1) = m ((c.tc : Thread Cert.RinReferenceIdeal.nD Cert.RinReferenceIdeal.τ).loc Cert.RinReferenceIdeal.main_arg1)
      ∧ r.2.mem ((c.tc : Thread Cert.RinReferenceIdeal.nD Cert.RinReferenceIdeal.τ).loc Cert.RinReferenceIdeal.main_arg2) = m ((c.tc : Thread Cert.RinReferenceIdeal.nD Cert.RinReferenceIdeal.τ).loc Cert.RinReferenceIdeal.main_arg2)
      ∧ r.2.mem ((c.tc : Thread Cert.RinReferenceIdeal.nD Cert.RinReferenceIdeal.τ).loc Cert.RinReferenceIdeal.main_arg3) = m ((c.tc : Thread Cert.RinReferenceIdeal.nD Cert.RinReferenceIdeal.τ).loc Cert.RinReferenceIdeal.main_arg3)
      ∧ r.2.mem ((c.tc : Thread Cert.RinReferenceIdeal.nD Cert.RinReferenceIdeal.τ).loc Cert.RinReferenceIdeal.main_arg4) = m ((c.tc : Thread Cert.RinReferenceIdeal.nD Cert.RinReferenceIdeal.τ).loc Cert.RinReferenceIdeal.main_arg4))
      ∧ r.2.sem = fun _ => 0)

def quiescent_NewKernel [hNewKernel : Cert.NewKernel.Facts] : Prop :=
  ∀ (m : (ℓ : Loc Cert.NewKernel.nD Cert.NewKernel.τ Cert.NewKernel.sig) → Buf (Elt Bits) ℓ) (g : Dev Cert.NewKernel.nD → PrngReg), Pre_NewKernel m →
    θ_run (Cert.NewKernel.defs (F := Bits)) (onTc (τ := Cert.NewKernel.τ) (Cert.NewKernel.main (F := Bits))) ⟨m, fun _ => 0, g⟩ (fun r => (∀ c : Dev Cert.NewKernel.nD,
      r.2.mem ((c.tc : Thread Cert.NewKernel.nD Cert.NewKernel.τ).loc Cert.NewKernel.main_arg0) = m ((c.tc : Thread Cert.NewKernel.nD Cert.NewKernel.τ).loc Cert.NewKernel.main_arg0)
      ∧ r.2.mem ((c.tc : Thread Cert.NewKernel.nD Cert.NewKernel.τ).loc Cert.NewKernel.main_arg1) = m ((c.tc : Thread Cert.NewKernel.nD Cert.NewKernel.τ).loc Cert.NewKernel.main_arg1)
      ∧ r.2.mem ((c.tc : Thread Cert.NewKernel.nD Cert.NewKernel.τ).loc Cert.NewKernel.main_arg2) = m ((c.tc : Thread Cert.NewKernel.nD Cert.NewKernel.τ).loc Cert.NewKernel.main_arg2)
      ∧ r.2.mem ((c.tc : Thread Cert.NewKernel.nD Cert.NewKernel.τ).loc Cert.NewKernel.main_arg3) = m ((c.tc : Thread Cert.NewKernel.nD Cert.NewKernel.τ).loc Cert.NewKernel.main_arg3)
      ∧ r.2.mem ((c.tc : Thread Cert.NewKernel.nD Cert.NewKernel.τ).loc Cert.NewKernel.main_arg4) = m ((c.tc : Thread Cert.NewKernel.nD Cert.NewKernel.τ).loc Cert.NewKernel.main_arg4))
      ∧ r.2.sem = fun _ => 0)

def quiescent_NewKernelIdeal [hNewKernelIdeal : Cert.NewKernelIdeal.Facts] : Prop :=
  ∀ (m : (ℓ : Loc Cert.NewKernelIdeal.nD Cert.NewKernelIdeal.τ Cert.NewKernelIdeal.sig) → Buf (Elt Ideal) ℓ) (g : Dev Cert.NewKernelIdeal.nD → PrngReg), Pre_NewKernelIdeal m →
    θ_run (Cert.NewKernelIdeal.defs (F := Ideal)) (onTc (τ := Cert.NewKernelIdeal.τ) (Cert.NewKernelIdeal.main (F := Ideal))) ⟨m, fun _ => 0, g⟩ (fun r => (∀ c : Dev Cert.NewKernelIdeal.nD,
      r.2.mem ((c.tc : Thread Cert.NewKernelIdeal.nD Cert.NewKernelIdeal.τ).loc Cert.NewKernelIdeal.main_arg0) = m ((c.tc : Thread Cert.NewKernelIdeal.nD Cert.NewKernelIdeal.τ).loc Cert.NewKernelIdeal.main_arg0)
      ∧ r.2.mem ((c.tc : Thread Cert.NewKernelIdeal.nD Cert.NewKernelIdeal.τ).loc Cert.NewKernelIdeal.main_arg1) = m ((c.tc : Thread Cert.NewKernelIdeal.nD Cert.NewKernelIdeal.τ).loc Cert.NewKernelIdeal.main_arg1)
      ∧ r.2.mem ((c.tc : Thread Cert.NewKernelIdeal.nD Cert.NewKernelIdeal.τ).loc Cert.NewKernelIdeal.main_arg2) = m ((c.tc : Thread Cert.NewKernelIdeal.nD Cert.NewKernelIdeal.τ).loc Cert.NewKernelIdeal.main_arg2)
      ∧ r.2.mem ((c.tc : Thread Cert.NewKernelIdeal.nD Cert.NewKernelIdeal.τ).loc Cert.NewKernelIdeal.main_arg3) = m ((c.tc : Thread Cert.NewKernelIdeal.nD Cert.NewKernelIdeal.τ).loc Cert.NewKernelIdeal.main_arg3)
      ∧ r.2.mem ((c.tc : Thread Cert.NewKernelIdeal.nD Cert.NewKernelIdeal.τ).loc Cert.NewKernelIdeal.main_arg4) = m ((c.tc : Thread Cert.NewKernelIdeal.nD Cert.NewKernelIdeal.τ).loc Cert.NewKernelIdeal.main_arg4))
      ∧ r.2.sem = fun _ => 0)

def quiescent_NewReferenceIdeal [hNewReferenceIdeal : Cert.NewReferenceIdeal.Facts] : Prop :=
  ∀ (m : (ℓ : Loc Cert.NewReferenceIdeal.nD Cert.NewReferenceIdeal.τ Cert.NewReferenceIdeal.sig) → Buf (Elt Ideal) ℓ) (g : Dev Cert.NewReferenceIdeal.nD → PrngReg), Pre_NewReferenceIdeal m →
    θ_run (Cert.NewReferenceIdeal.defs (F := Ideal)) (onTc (τ := Cert.NewReferenceIdeal.τ) (Cert.NewReferenceIdeal.main (F := Ideal))) ⟨m, fun _ => 0, g⟩ (fun r => (∀ c : Dev Cert.NewReferenceIdeal.nD,
      r.2.mem ((c.tc : Thread Cert.NewReferenceIdeal.nD Cert.NewReferenceIdeal.τ).loc Cert.NewReferenceIdeal.main_arg0) = m ((c.tc : Thread Cert.NewReferenceIdeal.nD Cert.NewReferenceIdeal.τ).loc Cert.NewReferenceIdeal.main_arg0)
      ∧ r.2.mem ((c.tc : Thread Cert.NewReferenceIdeal.nD Cert.NewReferenceIdeal.τ).loc Cert.NewReferenceIdeal.main_arg1) = m ((c.tc : Thread Cert.NewReferenceIdeal.nD Cert.NewReferenceIdeal.τ).loc Cert.NewReferenceIdeal.main_arg1)
      ∧ r.2.mem ((c.tc : Thread Cert.NewReferenceIdeal.nD Cert.NewReferenceIdeal.τ).loc Cert.NewReferenceIdeal.main_arg2) = m ((c.tc : Thread Cert.NewReferenceIdeal.nD Cert.NewReferenceIdeal.τ).loc Cert.NewReferenceIdeal.main_arg2)
      ∧ r.2.mem ((c.tc : Thread Cert.NewReferenceIdeal.nD Cert.NewReferenceIdeal.τ).loc Cert.NewReferenceIdeal.main_arg3) = m ((c.tc : Thread Cert.NewReferenceIdeal.nD Cert.NewReferenceIdeal.τ).loc Cert.NewReferenceIdeal.main_arg3)
      ∧ r.2.mem ((c.tc : Thread Cert.NewReferenceIdeal.nD Cert.NewReferenceIdeal.τ).loc Cert.NewReferenceIdeal.main_arg4) = m ((c.tc : Thread Cert.NewReferenceIdeal.nD Cert.NewReferenceIdeal.τ).loc Cert.NewReferenceIdeal.main_arg4))
      ∧ r.2.sem = fun _ => 0)

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)) →
    ∃ (v0 : (c : Dev Cert.MemKernelIdeal.nD) → Buf (Elt Ideal) ((c.tc : Thread Cert.MemKernelIdeal.nD Cert.MemKernelIdeal.τ).loc Cert.MemKernelIdeal.main_v0)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v0) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v23) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v1) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v21) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v21) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v19) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_MkvKernel_MkvKernelIdeal : Prop :=
  True

def algebraic_MkvKernelIdeal_MkvReferenceIdeal [hMkvKernelIdeal : Cert.MkvKernelIdeal.Facts] [hMkvReferenceIdeal : Cert.MkvReferenceIdeal.Facts] : Prop :=
  ∀ (m : (ℓ : Loc Cert.MkvKernelIdeal.nD Cert.MkvKernelIdeal.τ Cert.MkvKernelIdeal.sig) → Buf (Elt Ideal) ℓ) (g : Dev Cert.MkvKernelIdeal.nD → PrngReg)
    (m' : (ℓ : Loc Cert.MkvReferenceIdeal.nD Cert.MkvReferenceIdeal.τ Cert.MkvReferenceIdeal.sig) → Buf (Elt Ideal) ℓ) (g' : Dev Cert.MkvReferenceIdeal.nD → PrngReg), Pre_MkvKernelIdeal m →
    (∀ c : Dev Cert.MkvKernelIdeal.nD,
      m' ((c.tc : Thread Cert.MkvReferenceIdeal.nD Cert.MkvReferenceIdeal.τ).loc Cert.MkvReferenceIdeal.main_arg0) = m ((c.tc : Thread Cert.MkvKernelIdeal.nD Cert.MkvKernelIdeal.τ).loc Cert.MkvKernelIdeal.main_arg0)
      ∧ m' ((c.tc : Thread Cert.MkvReferenceIdeal.nD Cert.MkvReferenceIdeal.τ).loc Cert.MkvReferenceIdeal.main_arg1) = m ((c.tc : Thread Cert.MkvKernelIdeal.nD Cert.MkvKernelIdeal.τ).loc Cert.MkvKernelIdeal.main_arg1)
      ∧ m' ((c.tc : Thread Cert.MkvReferenceIdeal.nD Cert.MkvReferenceIdeal.τ).loc Cert.MkvReferenceIdeal.main_arg2) = m ((c.tc : Thread Cert.MkvKernelIdeal.nD Cert.MkvKernelIdeal.τ).loc Cert.MkvKernelIdeal.main_arg2)) →
    ∃ (v0 : (c : Dev Cert.MkvKernelIdeal.nD) → Buf (Elt Ideal) ((c.tc : Thread Cert.MkvKernelIdeal.nD Cert.MkvKernelIdeal.τ).loc Cert.MkvKernelIdeal.main_v2)),
      θ_run (Cert.MkvKernelIdeal.defs (F := Ideal)) (onTc (τ := Cert.MkvKernelIdeal.τ) (Cert.MkvKernelIdeal.main (F := Ideal))) ⟨m, fun _ => 0, g⟩ (fun r => ∀ c : Dev Cert.MkvKernelIdeal.nD,
          r.2.mem ((c.tc : Thread Cert.MkvKernelIdeal.nD Cert.MkvKernelIdeal.τ).loc Cert.MkvKernelIdeal.main_v2) = v0 c
          ∧ r.2.mem ((c.tc : Thread Cert.MkvKernelIdeal.nD Cert.MkvKernelIdeal.τ).loc Cert.MkvKernelIdeal.main_arg0) = m ((c.tc : Thread Cert.MkvKernelIdeal.nD Cert.MkvKernelIdeal.τ).loc Cert.MkvKernelIdeal.main_arg0)
          ∧ r.2.mem ((c.tc : Thread Cert.MkvKernelIdeal.nD Cert.MkvKernelIdeal.τ).loc Cert.MkvKernelIdeal.main_arg1) = m ((c.tc : Thread Cert.MkvKernelIdeal.nD Cert.MkvKernelIdeal.τ).loc Cert.MkvKernelIdeal.main_arg1)
          ∧ r.2.mem ((c.tc : Thread Cert.MkvKernelIdeal.nD Cert.MkvKernelIdeal.τ).loc Cert.MkvKernelIdeal.main_arg2) = m ((c.tc : Thread Cert.MkvKernelIdeal.nD Cert.MkvKernelIdeal.τ).loc Cert.MkvKernelIdeal.main_arg2))
      ∧ θ_run (Cert.MkvReferenceIdeal.defs (F := Ideal)) (onTc (τ := Cert.MkvReferenceIdeal.τ) (Cert.MkvReferenceIdeal.main (F := Ideal))) ⟨m', fun _ => 0, g'⟩ (fun r => ∀ c : Dev Cert.MkvReferenceIdeal.nD,
          r.2.mem ((c.tc : Thread Cert.MkvReferenceIdeal.nD Cert.MkvReferenceIdeal.τ).loc Cert.MkvReferenceIdeal.main_v13) = v0 c
          ∧ r.2.mem ((c.tc : Thread Cert.MkvReferenceIdeal.nD Cert.MkvReferenceIdeal.τ).loc Cert.MkvReferenceIdeal.main_arg0) = m' ((c.tc : Thread Cert.MkvReferenceIdeal.nD Cert.MkvReferenceIdeal.τ).loc Cert.MkvReferenceIdeal.main_arg0)
          ∧ r.2.mem ((c.tc : Thread Cert.MkvReferenceIdeal.nD Cert.MkvReferenceIdeal.τ).loc Cert.MkvReferenceIdeal.main_arg1) = m' ((c.tc : Thread Cert.MkvReferenceIdeal.nD Cert.MkvReferenceIdeal.τ).loc Cert.MkvReferenceIdeal.main_arg1)
          ∧ r.2.mem ((c.tc : Thread Cert.MkvReferenceIdeal.nD Cert.MkvReferenceIdeal.τ).loc Cert.MkvReferenceIdeal.main_arg2) = m' ((c.tc : Thread Cert.MkvReferenceIdeal.nD Cert.MkvReferenceIdeal.τ).loc Cert.MkvReferenceIdeal.main_arg2))

def preserves_SideKernel_SideKernelIdeal : Prop :=
  True

def algebraic_SideKernelIdeal_SideReferenceIdeal [hSideKernelIdeal : Cert.SideKernelIdeal.Facts] [hSideReferenceIdeal : Cert.SideReferenceIdeal.Facts] : Prop :=
  ∀ (m : (ℓ : Loc Cert.SideKernelIdeal.nD Cert.SideKernelIdeal.τ Cert.SideKernelIdeal.sig) → Buf (Elt Ideal) ℓ) (g : Dev Cert.SideKernelIdeal.nD → PrngReg)
    (m' : (ℓ : Loc Cert.SideReferenceIdeal.nD Cert.SideReferenceIdeal.τ Cert.SideReferenceIdeal.sig) → Buf (Elt Ideal) ℓ) (g' : Dev Cert.SideReferenceIdeal.nD → PrngReg), Pre_SideKernelIdeal m →
    (∀ c : Dev Cert.SideKernelIdeal.nD,
      m' ((c.tc : Thread Cert.SideReferenceIdeal.nD Cert.SideReferenceIdeal.τ).loc Cert.SideReferenceIdeal.main_arg0) = m ((c.tc : Thread Cert.SideKernelIdeal.nD Cert.SideKernelIdeal.τ).loc Cert.SideKernelIdeal.main_arg0)
      ∧ m' ((c.tc : Thread Cert.SideReferenceIdeal.nD Cert.SideReferenceIdeal.τ).loc Cert.SideReferenceIdeal.main_arg1) = m ((c.tc : Thread Cert.SideKernelIdeal.nD Cert.SideKernelIdeal.τ).loc Cert.SideKernelIdeal.main_arg1)
      ∧ m' ((c.tc : Thread Cert.SideReferenceIdeal.nD Cert.SideReferenceIdeal.τ).loc Cert.SideReferenceIdeal.main_arg2) = m ((c.tc : Thread Cert.SideKernelIdeal.nD Cert.SideKernelIdeal.τ).loc Cert.SideKernelIdeal.main_arg2)) →
    ∃ (v0 : (c : Dev Cert.SideKernelIdeal.nD) → Buf (Elt Ideal) ((c.tc : Thread Cert.SideKernelIdeal.nD Cert.SideKernelIdeal.τ).loc Cert.SideKernelIdeal.main_v5)) (v1 : (c : Dev Cert.SideKernelIdeal.nD) → Buf (Elt Ideal) ((c.tc : Thread Cert.SideKernelIdeal.nD Cert.SideKernelIdeal.τ).loc Cert.SideKernelIdeal.main_v7)) (v2 : (c : Dev Cert.SideKernelIdeal.nD) → Buf (Elt Ideal) ((c.tc : Thread Cert.SideKernelIdeal.nD Cert.SideKernelIdeal.τ).loc Cert.SideKernelIdeal.main_v9)) (v3 : (c : Dev Cert.SideKernelIdeal.nD) → Buf (Elt Ideal) ((c.tc : Thread Cert.SideKernelIdeal.nD Cert.SideKernelIdeal.τ).loc Cert.SideKernelIdeal.main_v11)) (v4 : (c : Dev Cert.SideKernelIdeal.nD) → Buf (Elt Ideal) ((c.tc : Thread Cert.SideKernelIdeal.nD Cert.SideKernelIdeal.τ).loc Cert.SideKernelIdeal.main_v16)) (v5 : (c : Dev Cert.SideKernelIdeal.nD) → Buf (Elt Ideal) ((c.tc : Thread Cert.SideKernelIdeal.nD Cert.SideKernelIdeal.τ).loc Cert.SideKernelIdeal.main_v17)),
      θ_run (Cert.SideKernelIdeal.defs (F := Ideal)) (onTc (τ := Cert.SideKernelIdeal.τ) (Cert.SideKernelIdeal.main (F := Ideal))) ⟨m, fun _ => 0, g⟩ (fun r => ∀ c : Dev Cert.SideKernelIdeal.nD,
          r.2.mem ((c.tc : Thread Cert.SideKernelIdeal.nD Cert.SideKernelIdeal.τ).loc Cert.SideKernelIdeal.main_v5) = v0 c
          ∧ r.2.mem ((c.tc : Thread Cert.SideKernelIdeal.nD Cert.SideKernelIdeal.τ).loc Cert.SideKernelIdeal.main_v7) = v1 c
          ∧ r.2.mem ((c.tc : Thread Cert.SideKernelIdeal.nD Cert.SideKernelIdeal.τ).loc Cert.SideKernelIdeal.main_v9) = v2 c
          ∧ r.2.mem ((c.tc : Thread Cert.SideKernelIdeal.nD Cert.SideKernelIdeal.τ).loc Cert.SideKernelIdeal.main_v11) = v3 c
          ∧ r.2.mem ((c.tc : Thread Cert.SideKernelIdeal.nD Cert.SideKernelIdeal.τ).loc Cert.SideKernelIdeal.main_v16) = v4 c
          ∧ r.2.mem ((c.tc : Thread Cert.SideKernelIdeal.nD Cert.SideKernelIdeal.τ).loc Cert.SideKernelIdeal.main_v17) = v5 c
          ∧ r.2.mem ((c.tc : Thread Cert.SideKernelIdeal.nD Cert.SideKernelIdeal.τ).loc Cert.SideKernelIdeal.main_arg0) = m ((c.tc : Thread Cert.SideKernelIdeal.nD Cert.SideKernelIdeal.τ).loc Cert.SideKernelIdeal.main_arg0)
          ∧ r.2.mem ((c.tc : Thread Cert.SideKernelIdeal.nD Cert.SideKernelIdeal.τ).loc Cert.SideKernelIdeal.main_arg1) = m ((c.tc : Thread Cert.SideKernelIdeal.nD Cert.SideKernelIdeal.τ).loc Cert.SideKernelIdeal.main_arg1)
          ∧ r.2.mem ((c.tc : Thread Cert.SideKernelIdeal.nD Cert.SideKernelIdeal.τ).loc Cert.SideKernelIdeal.main_arg2) = m ((c.tc : Thread Cert.SideKernelIdeal.nD Cert.SideKernelIdeal.τ).loc Cert.SideKernelIdeal.main_arg2))
      ∧ θ_run (Cert.SideReferenceIdeal.defs (F := Ideal)) (onTc (τ := Cert.SideReferenceIdeal.τ) (Cert.SideReferenceIdeal.main (F := Ideal))) ⟨m', fun _ => 0, g'⟩ (fun r => ∀ c : Dev Cert.SideReferenceIdeal.nD,
          r.2.mem ((c.tc : Thread Cert.SideReferenceIdeal.nD Cert.SideReferenceIdeal.τ).loc Cert.SideReferenceIdeal.main_v20) = v0 c
          ∧ r.2.mem ((c.tc : Thread Cert.SideReferenceIdeal.nD Cert.SideReferenceIdeal.τ).loc Cert.SideReferenceIdeal.main_v21) = v1 c
          ∧ r.2.mem ((c.tc : Thread Cert.SideReferenceIdeal.nD Cert.SideReferenceIdeal.τ).loc Cert.SideReferenceIdeal.main_v22) = v2 c
          ∧ r.2.mem ((c.tc : Thread Cert.SideReferenceIdeal.nD Cert.SideReferenceIdeal.τ).loc Cert.SideReferenceIdeal.main_v23) = v3 c
          ∧ r.2.mem ((c.tc : Thread Cert.SideReferenceIdeal.nD Cert.SideReferenceIdeal.τ).loc Cert.SideReferenceIdeal.main_v26) = v4 c
          ∧ r.2.mem ((c.tc : Thread Cert.SideReferenceIdeal.nD Cert.SideReferenceIdeal.τ).loc Cert.SideReferenceIdeal.main_v27) = v5 c
          ∧ r.2.mem ((c.tc : Thread Cert.SideReferenceIdeal.nD Cert.SideReferenceIdeal.τ).loc Cert.SideReferenceIdeal.main_arg0) = m' ((c.tc : Thread Cert.SideReferenceIdeal.nD Cert.SideReferenceIdeal.τ).loc Cert.SideReferenceIdeal.main_arg0)
          ∧ r.2.mem ((c.tc : Thread Cert.SideReferenceIdeal.nD Cert.SideReferenceIdeal.τ).loc Cert.SideReferenceIdeal.main_arg1) = m' ((c.tc : Thread Cert.SideReferenceIdeal.nD Cert.SideReferenceIdeal.τ).loc Cert.SideReferenceIdeal.main_arg1)
          ∧ r.2.mem ((c.tc : Thread Cert.SideReferenceIdeal.nD Cert.SideReferenceIdeal.τ).loc Cert.SideReferenceIdeal.main_arg2) = m' ((c.tc : Thread Cert.SideReferenceIdeal.nD Cert.SideReferenceIdeal.τ).loc Cert.SideReferenceIdeal.main_arg2))

def preserves_InbKernel_InbKernelIdeal : Prop :=
  True

def algebraic_InbKernelIdeal_InbReferenceIdeal [hInbKernelIdeal : Cert.InbKernelIdeal.Facts] [hInbReferenceIdeal : Cert.InbReferenceIdeal.Facts] : Prop :=
  ∀ (m : (ℓ : Loc Cert.InbKernelIdeal.nD Cert.InbKernelIdeal.τ Cert.InbKernelIdeal.sig) → Buf (Elt Ideal) ℓ) (g : Dev Cert.InbKernelIdeal.nD → PrngReg)
    (m' : (ℓ : Loc Cert.InbReferenceIdeal.nD Cert.InbReferenceIdeal.τ Cert.InbReferenceIdeal.sig) → Buf (Elt Ideal) ℓ) (g' : Dev Cert.InbReferenceIdeal.nD → PrngReg), Pre_InbKernelIdeal m →
    (∀ c : Dev Cert.InbKernelIdeal.nD,
      m' ((c.tc : Thread Cert.InbReferenceIdeal.nD Cert.InbReferenceIdeal.τ).loc Cert.InbReferenceIdeal.main_arg0) = m ((c.tc : Thread Cert.InbKernelIdeal.nD Cert.InbKernelIdeal.τ).loc Cert.InbKernelIdeal.main_arg0)
      ∧ m' ((c.tc : Thread Cert.InbReferenceIdeal.nD Cert.InbReferenceIdeal.τ).loc Cert.InbReferenceIdeal.main_arg1) = m ((c.tc : Thread Cert.InbKernelIdeal.nD Cert.InbKernelIdeal.τ).loc Cert.InbKernelIdeal.main_arg1)
      ∧ m' ((c.tc : Thread Cert.InbReferenceIdeal.nD Cert.InbReferenceIdeal.τ).loc Cert.InbReferenceIdeal.main_arg2) = m ((c.tc : Thread Cert.InbKernelIdeal.nD Cert.InbKernelIdeal.τ).loc Cert.InbKernelIdeal.main_arg2)) →
    ∃ (v0 : (c : Dev Cert.InbKernelIdeal.nD) → Buf (Elt Ideal) ((c.tc : Thread Cert.InbKernelIdeal.nD Cert.InbKernelIdeal.τ).loc Cert.InbKernelIdeal.main_v2)),
      θ_run (Cert.InbKernelIdeal.defs (F := Ideal)) (onTc (τ := Cert.InbKernelIdeal.τ) (Cert.InbKernelIdeal.main (F := Ideal))) ⟨m, fun _ => 0, g⟩ (fun r => ∀ c : Dev Cert.InbKernelIdeal.nD,
          r.2.mem ((c.tc : Thread Cert.InbKernelIdeal.nD Cert.InbKernelIdeal.τ).loc Cert.InbKernelIdeal.main_v2) = v0 c
          ∧ r.2.mem ((c.tc : Thread Cert.InbKernelIdeal.nD Cert.InbKernelIdeal.τ).loc Cert.InbKernelIdeal.main_arg0) = m ((c.tc : Thread Cert.InbKernelIdeal.nD Cert.InbKernelIdeal.τ).loc Cert.InbKernelIdeal.main_arg0)
          ∧ r.2.mem ((c.tc : Thread Cert.InbKernelIdeal.nD Cert.InbKernelIdeal.τ).loc Cert.InbKernelIdeal.main_arg1) = m ((c.tc : Thread Cert.InbKernelIdeal.nD Cert.InbKernelIdeal.τ).loc Cert.InbKernelIdeal.main_arg1)
          ∧ r.2.mem ((c.tc : Thread Cert.InbKernelIdeal.nD Cert.InbKernelIdeal.τ).loc Cert.InbKernelIdeal.main_arg2) = m ((c.tc : Thread Cert.InbKernelIdeal.nD Cert.InbKernelIdeal.τ).loc Cert.InbKernelIdeal.main_arg2))
      ∧ θ_run (Cert.InbReferenceIdeal.defs (F := Ideal)) (onTc (τ := Cert.InbReferenceIdeal.τ) (Cert.InbReferenceIdeal.main (F := Ideal))) ⟨m', fun _ => 0, g'⟩ (fun r => ∀ c : Dev Cert.InbReferenceIdeal.nD,
          r.2.mem ((c.tc : Thread Cert.InbReferenceIdeal.nD Cert.InbReferenceIdeal.τ).loc Cert.InbReferenceIdeal.main_v13) = v0 c
          ∧ r.2.mem ((c.tc : Thread Cert.InbReferenceIdeal.nD Cert.InbReferenceIdeal.τ).loc Cert.InbReferenceIdeal.main_arg0) = m' ((c.tc : Thread Cert.InbReferenceIdeal.nD Cert.InbReferenceIdeal.τ).loc Cert.InbReferenceIdeal.main_arg0)
          ∧ r.2.mem ((c.tc : Thread Cert.InbReferenceIdeal.nD Cert.InbReferenceIdeal.τ).loc Cert.InbReferenceIdeal.main_arg1) = m' ((c.tc : Thread Cert.InbReferenceIdeal.nD Cert.InbReferenceIdeal.τ).loc Cert.InbReferenceIdeal.main_arg1)
          ∧ r.2.mem ((c.tc : Thread Cert.InbReferenceIdeal.nD Cert.InbReferenceIdeal.τ).loc Cert.InbReferenceIdeal.main_arg2) = m' ((c.tc : Thread Cert.InbReferenceIdeal.nD Cert.InbReferenceIdeal.τ).loc Cert.InbReferenceIdeal.main_arg2))

def preserves_RinKernel_RinKernelIdeal : Prop :=
  True

def algebraic_RinKernelIdeal_RinReferenceIdeal [hRinKernelIdeal : Cert.RinKernelIdeal.Facts] [hRinReferenceIdeal : Cert.RinReferenceIdeal.Facts] : Prop :=
  ∀ (m : (ℓ : Loc Cert.RinKernelIdeal.nD Cert.RinKernelIdeal.τ Cert.RinKernelIdeal.sig) → Buf (Elt Ideal) ℓ) (g : Dev Cert.RinKernelIdeal.nD → PrngReg)
    (m' : (ℓ : Loc Cert.RinReferenceIdeal.nD Cert.RinReferenceIdeal.τ Cert.RinReferenceIdeal.sig) → Buf (Elt Ideal) ℓ) (g' : Dev Cert.RinReferenceIdeal.nD → PrngReg), Pre_RinKernelIdeal m →
    (∀ c : Dev Cert.RinKernelIdeal.nD,
      m' ((c.tc : Thread Cert.RinReferenceIdeal.nD Cert.RinReferenceIdeal.τ).loc Cert.RinReferenceIdeal.main_arg0) = m ((c.tc : Thread Cert.RinKernelIdeal.nD Cert.RinKernelIdeal.τ).loc Cert.RinKernelIdeal.main_arg0)
      ∧ m' ((c.tc : Thread Cert.RinReferenceIdeal.nD Cert.RinReferenceIdeal.τ).loc Cert.RinReferenceIdeal.main_arg1) = m ((c.tc : Thread Cert.RinKernelIdeal.nD Cert.RinKernelIdeal.τ).loc Cert.RinKernelIdeal.main_arg1)
      ∧ m' ((c.tc : Thread Cert.RinReferenceIdeal.nD Cert.RinReferenceIdeal.τ).loc Cert.RinReferenceIdeal.main_arg2) = m ((c.tc : Thread Cert.RinKernelIdeal.nD Cert.RinKernelIdeal.τ).loc Cert.RinKernelIdeal.main_arg2)
      ∧ m' ((c.tc : Thread Cert.RinReferenceIdeal.nD Cert.RinReferenceIdeal.τ).loc Cert.RinReferenceIdeal.main_arg3) = m ((c.tc : Thread Cert.RinKernelIdeal.nD Cert.RinKernelIdeal.τ).loc Cert.RinKernelIdeal.main_arg3)
      ∧ m' ((c.tc : Thread Cert.RinReferenceIdeal.nD Cert.RinReferenceIdeal.τ).loc Cert.RinReferenceIdeal.main_arg4) = m ((c.tc : Thread Cert.RinKernelIdeal.nD Cert.RinKernelIdeal.τ).loc Cert.RinKernelIdeal.main_arg4)) →
    ∃ (v0 : (c : Dev Cert.RinKernelIdeal.nD) → Buf (Elt Ideal) ((c.tc : Thread Cert.RinKernelIdeal.nD Cert.RinKernelIdeal.τ).loc Cert.RinKernelIdeal.main_v5_0)) (v1 : (c : Dev Cert.RinKernelIdeal.nD) → Buf (Elt Ideal) ((c.tc : Thread Cert.RinKernelIdeal.nD Cert.RinKernelIdeal.τ).loc Cert.RinKernelIdeal.main_v5_1)),
      θ_run (Cert.RinKernelIdeal.defs (F := Ideal)) (onTc (τ := Cert.RinKernelIdeal.τ) (Cert.RinKernelIdeal.main (F := Ideal))) ⟨m, fun _ => 0, g⟩ (fun r => ∀ c : Dev Cert.RinKernelIdeal.nD,
          r.2.mem ((c.tc : Thread Cert.RinKernelIdeal.nD Cert.RinKernelIdeal.τ).loc Cert.RinKernelIdeal.main_v5_0) = v0 c
          ∧ r.2.mem ((c.tc : Thread Cert.RinKernelIdeal.nD Cert.RinKernelIdeal.τ).loc Cert.RinKernelIdeal.main_v5_1) = v1 c
          ∧ r.2.mem ((c.tc : Thread Cert.RinKernelIdeal.nD Cert.RinKernelIdeal.τ).loc Cert.RinKernelIdeal.main_arg0) = m ((c.tc : Thread Cert.RinKernelIdeal.nD Cert.RinKernelIdeal.τ).loc Cert.RinKernelIdeal.main_arg0)
          ∧ r.2.mem ((c.tc : Thread Cert.RinKernelIdeal.nD Cert.RinKernelIdeal.τ).loc Cert.RinKernelIdeal.main_arg1) = m ((c.tc : Thread Cert.RinKernelIdeal.nD Cert.RinKernelIdeal.τ).loc Cert.RinKernelIdeal.main_arg1)
          ∧ r.2.mem ((c.tc : Thread Cert.RinKernelIdeal.nD Cert.RinKernelIdeal.τ).loc Cert.RinKernelIdeal.main_arg2) = m ((c.tc : Thread Cert.RinKernelIdeal.nD Cert.RinKernelIdeal.τ).loc Cert.RinKernelIdeal.main_arg2)
          ∧ r.2.mem ((c.tc : Thread Cert.RinKernelIdeal.nD Cert.RinKernelIdeal.τ).loc Cert.RinKernelIdeal.main_arg3) = m ((c.tc : Thread Cert.RinKernelIdeal.nD Cert.RinKernelIdeal.τ).loc Cert.RinKernelIdeal.main_arg3)
          ∧ r.2.mem ((c.tc : Thread Cert.RinKernelIdeal.nD Cert.RinKernelIdeal.τ).loc Cert.RinKernelIdeal.main_arg4) = m ((c.tc : Thread Cert.RinKernelIdeal.nD Cert.RinKernelIdeal.τ).loc Cert.RinKernelIdeal.main_arg4))
      ∧ θ_run (Cert.RinReferenceIdeal.defs (F := Ideal)) (onTc (τ := Cert.RinReferenceIdeal.τ) (Cert.RinReferenceIdeal.main (F := Ideal))) ⟨m', fun _ => 0, g'⟩ (fun r => ∀ c : Dev Cert.RinReferenceIdeal.nD,
          r.2.mem ((c.tc : Thread Cert.RinReferenceIdeal.nD Cert.RinReferenceIdeal.τ).loc Cert.RinReferenceIdeal.main_v70) = v0 c
          ∧ r.2.mem ((c.tc : Thread Cert.RinReferenceIdeal.nD Cert.RinReferenceIdeal.τ).loc Cert.RinReferenceIdeal.main_v71) = v1 c
          ∧ r.2.mem ((c.tc : Thread Cert.RinReferenceIdeal.nD Cert.RinReferenceIdeal.τ).loc Cert.RinReferenceIdeal.main_arg0) = m' ((c.tc : Thread Cert.RinReferenceIdeal.nD Cert.RinReferenceIdeal.τ).loc Cert.RinReferenceIdeal.main_arg0)
          ∧ r.2.mem ((c.tc : Thread Cert.RinReferenceIdeal.nD Cert.RinReferenceIdeal.τ).loc Cert.RinReferenceIdeal.main_arg1) = m' ((c.tc : Thread Cert.RinReferenceIdeal.nD Cert.RinReferenceIdeal.τ).loc Cert.RinReferenceIdeal.main_arg1)
          ∧ r.2.mem ((c.tc : Thread Cert.RinReferenceIdeal.nD Cert.RinReferenceIdeal.τ).loc Cert.RinReferenceIdeal.main_arg2) = m' ((c.tc : Thread Cert.RinReferenceIdeal.nD Cert.RinReferenceIdeal.τ).loc Cert.RinReferenceIdeal.main_arg2)
          ∧ r.2.mem ((c.tc : Thread Cert.RinReferenceIdeal.nD Cert.RinReferenceIdeal.τ).loc Cert.RinReferenceIdeal.main_arg3) = m' ((c.tc : Thread Cert.RinReferenceIdeal.nD Cert.RinReferenceIdeal.τ).loc Cert.RinReferenceIdeal.main_arg3)
          ∧ r.2.mem ((c.tc : Thread Cert.RinReferenceIdeal.nD Cert.RinReferenceIdeal.τ).loc Cert.RinReferenceIdeal.main_arg4) = m' ((c.tc : Thread Cert.RinReferenceIdeal.nD Cert.RinReferenceIdeal.τ).loc Cert.RinReferenceIdeal.main_arg4))

def preserves_NewKernel_NewKernelIdeal : Prop :=
  True

def algebraic_NewKernelIdeal_NewReferenceIdeal [hNewKernelIdeal : Cert.NewKernelIdeal.Facts] [hNewReferenceIdeal : Cert.NewReferenceIdeal.Facts] : Prop :=
  ∀ (m : (ℓ : Loc Cert.NewKernelIdeal.nD Cert.NewKernelIdeal.τ Cert.NewKernelIdeal.sig) → Buf (Elt Ideal) ℓ) (g : Dev Cert.NewKernelIdeal.nD → PrngReg)
    (m' : (ℓ : Loc Cert.NewReferenceIdeal.nD Cert.NewReferenceIdeal.τ Cert.NewReferenceIdeal.sig) → Buf (Elt Ideal) ℓ) (g' : Dev Cert.NewReferenceIdeal.nD → PrngReg), Pre_NewKernelIdeal m →
    (∀ c : Dev Cert.NewKernelIdeal.nD,
      m' ((c.tc : Thread Cert.NewReferenceIdeal.nD Cert.NewReferenceIdeal.τ).loc Cert.NewReferenceIdeal.main_arg0) = m ((c.tc : Thread Cert.NewKernelIdeal.nD Cert.NewKernelIdeal.τ).loc Cert.NewKernelIdeal.main_arg0)
      ∧ m' ((c.tc : Thread Cert.NewReferenceIdeal.nD Cert.NewReferenceIdeal.τ).loc Cert.NewReferenceIdeal.main_arg1) = m ((c.tc : Thread Cert.NewKernelIdeal.nD Cert.NewKernelIdeal.τ).loc Cert.NewKernelIdeal.main_arg1)
      ∧ m' ((c.tc : Thread Cert.NewReferenceIdeal.nD Cert.NewReferenceIdeal.τ).loc Cert.NewReferenceIdeal.main_arg2) = m ((c.tc : Thread Cert.NewKernelIdeal.nD Cert.NewKernelIdeal.τ).loc Cert.NewKernelIdeal.main_arg2)
      ∧ m' ((c.tc : Thread Cert.NewReferenceIdeal.nD Cert.NewReferenceIdeal.τ).loc Cert.NewReferenceIdeal.main_arg3) = m ((c.tc : Thread Cert.NewKernelIdeal.nD Cert.NewKernelIdeal.τ).loc Cert.NewKernelIdeal.main_arg3)
      ∧ m' ((c.tc : Thread Cert.NewReferenceIdeal.nD Cert.NewReferenceIdeal.τ).loc Cert.NewReferenceIdeal.main_arg4) = m ((c.tc : Thread Cert.NewKernelIdeal.nD Cert.NewKernelIdeal.τ).loc Cert.NewKernelIdeal.main_arg4)) →
    ∃ (v0 : (c : Dev Cert.NewKernelIdeal.nD) → Buf (Elt Ideal) ((c.tc : Thread Cert.NewKernelIdeal.nD Cert.NewKernelIdeal.τ).loc Cert.NewKernelIdeal.main_v5)) (v1 : (c : Dev Cert.NewKernelIdeal.nD) → Buf (Elt Ideal) ((c.tc : Thread Cert.NewKernelIdeal.nD Cert.NewKernelIdeal.τ).loc Cert.NewKernelIdeal.main_v7)) (v2 : (c : Dev Cert.NewKernelIdeal.nD) → Buf (Elt Ideal) ((c.tc : Thread Cert.NewKernelIdeal.nD Cert.NewKernelIdeal.τ).loc Cert.NewKernelIdeal.main_v9)) (v3 : (c : Dev Cert.NewKernelIdeal.nD) → Buf (Elt Ideal) ((c.tc : Thread Cert.NewKernelIdeal.nD Cert.NewKernelIdeal.τ).loc Cert.NewKernelIdeal.main_v11)) (v4 : (c : Dev Cert.NewKernelIdeal.nD) → Buf (Elt Ideal) ((c.tc : Thread Cert.NewKernelIdeal.nD Cert.NewKernelIdeal.τ).loc Cert.NewKernelIdeal.main_v17)) (v5 : (c : Dev Cert.NewKernelIdeal.nD) → Buf (Elt Ideal) ((c.tc : Thread Cert.NewKernelIdeal.nD Cert.NewKernelIdeal.τ).loc Cert.NewKernelIdeal.main_v19)),
      θ_run (Cert.NewKernelIdeal.defs (F := Ideal)) (onTc (τ := Cert.NewKernelIdeal.τ) (Cert.NewKernelIdeal.main (F := Ideal))) ⟨m, fun _ => 0, g⟩ (fun r => ∀ c : Dev Cert.NewKernelIdeal.nD,
          r.2.mem ((c.tc : Thread Cert.NewKernelIdeal.nD Cert.NewKernelIdeal.τ).loc Cert.NewKernelIdeal.main_v5) = v0 c
          ∧ r.2.mem ((c.tc : Thread Cert.NewKernelIdeal.nD Cert.NewKernelIdeal.τ).loc Cert.NewKernelIdeal.main_v7) = v1 c
          ∧ r.2.mem ((c.tc : Thread Cert.NewKernelIdeal.nD Cert.NewKernelIdeal.τ).loc Cert.NewKernelIdeal.main_v9) = v2 c
          ∧ r.2.mem ((c.tc : Thread Cert.NewKernelIdeal.nD Cert.NewKernelIdeal.τ).loc Cert.NewKernelIdeal.main_v11) = v3 c
          ∧ r.2.mem ((c.tc : Thread Cert.NewKernelIdeal.nD Cert.NewKernelIdeal.τ).loc Cert.NewKernelIdeal.main_v17) = v4 c
          ∧ r.2.mem ((c.tc : Thread Cert.NewKernelIdeal.nD Cert.NewKernelIdeal.τ).loc Cert.NewKernelIdeal.main_v19) = v5 c
          ∧ r.2.mem ((c.tc : Thread Cert.NewKernelIdeal.nD Cert.NewKernelIdeal.τ).loc Cert.NewKernelIdeal.main_arg0) = m ((c.tc : Thread Cert.NewKernelIdeal.nD Cert.NewKernelIdeal.τ).loc Cert.NewKernelIdeal.main_arg0)
          ∧ r.2.mem ((c.tc : Thread Cert.NewKernelIdeal.nD Cert.NewKernelIdeal.τ).loc Cert.NewKernelIdeal.main_arg1) = m ((c.tc : Thread Cert.NewKernelIdeal.nD Cert.NewKernelIdeal.τ).loc Cert.NewKernelIdeal.main_arg1)
          ∧ r.2.mem ((c.tc : Thread Cert.NewKernelIdeal.nD Cert.NewKernelIdeal.τ).loc Cert.NewKernelIdeal.main_arg2) = m ((c.tc : Thread Cert.NewKernelIdeal.nD Cert.NewKernelIdeal.τ).loc Cert.NewKernelIdeal.main_arg2)
          ∧ r.2.mem ((c.tc : Thread Cert.NewKernelIdeal.nD Cert.NewKernelIdeal.τ).loc Cert.NewKernelIdeal.main_arg3) = m ((c.tc : Thread Cert.NewKernelIdeal.nD Cert.NewKernelIdeal.τ).loc Cert.NewKernelIdeal.main_arg3)
          ∧ r.2.mem ((c.tc : Thread Cert.NewKernelIdeal.nD Cert.NewKernelIdeal.τ).loc Cert.NewKernelIdeal.main_arg4) = m ((c.tc : Thread Cert.NewKernelIdeal.nD Cert.NewKernelIdeal.τ).loc Cert.NewKernelIdeal.main_arg4))
      ∧ θ_run (Cert.NewReferenceIdeal.defs (F := Ideal)) (onTc (τ := Cert.NewReferenceIdeal.τ) (Cert.NewReferenceIdeal.main (F := Ideal))) ⟨m', fun _ => 0, g'⟩ (fun r => ∀ c : Dev Cert.NewReferenceIdeal.nD,
          r.2.mem ((c.tc : Thread Cert.NewReferenceIdeal.nD Cert.NewReferenceIdeal.τ).loc Cert.NewReferenceIdeal.main_v23) = v0 c
          ∧ r.2.mem ((c.tc : Thread Cert.NewReferenceIdeal.nD Cert.NewReferenceIdeal.τ).loc Cert.NewReferenceIdeal.main_v24) = v1 c
          ∧ r.2.mem ((c.tc : Thread Cert.NewReferenceIdeal.nD Cert.NewReferenceIdeal.τ).loc Cert.NewReferenceIdeal.main_v25) = v2 c
          ∧ r.2.mem ((c.tc : Thread Cert.NewReferenceIdeal.nD Cert.NewReferenceIdeal.τ).loc Cert.NewReferenceIdeal.main_v26) = v3 c
          ∧ r.2.mem ((c.tc : Thread Cert.NewReferenceIdeal.nD Cert.NewReferenceIdeal.τ).loc Cert.NewReferenceIdeal.main_v30) = v4 c
          ∧ r.2.mem ((c.tc : Thread Cert.NewReferenceIdeal.nD Cert.NewReferenceIdeal.τ).loc Cert.NewReferenceIdeal.main_v32) = v5 c
          ∧ r.2.mem ((c.tc : Thread Cert.NewReferenceIdeal.nD Cert.NewReferenceIdeal.τ).loc Cert.NewReferenceIdeal.main_arg0) = m' ((c.tc : Thread Cert.NewReferenceIdeal.nD Cert.NewReferenceIdeal.τ).loc Cert.NewReferenceIdeal.main_arg0)
          ∧ r.2.mem ((c.tc : Thread Cert.NewReferenceIdeal.nD Cert.NewReferenceIdeal.τ).loc Cert.NewReferenceIdeal.main_arg1) = m' ((c.tc : Thread Cert.NewReferenceIdeal.nD Cert.NewReferenceIdeal.τ).loc Cert.NewReferenceIdeal.main_arg1)
          ∧ r.2.mem ((c.tc : Thread Cert.NewReferenceIdeal.nD Cert.NewReferenceIdeal.τ).loc Cert.NewReferenceIdeal.main_arg2) = m' ((c.tc : Thread Cert.NewReferenceIdeal.nD Cert.NewReferenceIdeal.τ).loc Cert.NewReferenceIdeal.main_arg2)
          ∧ r.2.mem ((c.tc : Thread Cert.NewReferenceIdeal.nD Cert.NewReferenceIdeal.τ).loc Cert.NewReferenceIdeal.main_arg3) = m' ((c.tc : Thread Cert.NewReferenceIdeal.nD Cert.NewReferenceIdeal.τ).loc Cert.NewReferenceIdeal.main_arg3)
          ∧ r.2.mem ((c.tc : Thread Cert.NewReferenceIdeal.nD Cert.NewReferenceIdeal.τ).loc Cert.NewReferenceIdeal.main_arg4) = m' ((c.tc : Thread Cert.NewReferenceIdeal.nD Cert.NewReferenceIdeal.τ).loc Cert.NewReferenceIdeal.main_arg4))

def Claim : Prop :=
  ∃ (hMemKernel : Cert.MemKernel.Facts) (hMemKernelIdeal : Cert.MemKernelIdeal.Facts) (hMemReferenceIdeal : Cert.MemReferenceIdeal.Facts) (hGateKernel : Cert.GateKernel.Facts) (hGateKernelIdeal : Cert.GateKernelIdeal.Facts) (hGateReferenceIdeal : Cert.GateReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hMkvKernel : Cert.MkvKernel.Facts) (hMkvKernelIdeal : Cert.MkvKernelIdeal.Facts) (hMkvReferenceIdeal : Cert.MkvReferenceIdeal.Facts) (hSideKernel : Cert.SideKernel.Facts) (hSideKernelIdeal : Cert.SideKernelIdeal.Facts) (hSideReferenceIdeal : Cert.SideReferenceIdeal.Facts) (hInbKernel : Cert.InbKernel.Facts) (hInbKernelIdeal : Cert.InbKernelIdeal.Facts) (hInbReferenceIdeal : Cert.InbReferenceIdeal.Facts) (hRinKernel : Cert.RinKernel.Facts) (hRinKernelIdeal : Cert.RinKernelIdeal.Facts) (hRinReferenceIdeal : Cert.RinReferenceIdeal.Facts) (hNewKernel : Cert.NewKernel.Facts) (hNewKernelIdeal : Cert.NewKernelIdeal.Facts) (hNewReferenceIdeal : Cert.NewReferenceIdeal.Facts),
    quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MkvKernel (hMkvKernel := hMkvKernel)
    ∧ quiescent_MkvKernelIdeal (hMkvKernelIdeal := hMkvKernelIdeal)
    ∧ quiescent_MkvReferenceIdeal (hMkvReferenceIdeal := hMkvReferenceIdeal)
    ∧ quiescent_SideKernel (hSideKernel := hSideKernel)
    ∧ quiescent_SideKernelIdeal (hSideKernelIdeal := hSideKernelIdeal)
    ∧ quiescent_SideReferenceIdeal (hSideReferenceIdeal := hSideReferenceIdeal)
    ∧ quiescent_InbKernel (hInbKernel := hInbKernel)
    ∧ quiescent_InbKernelIdeal (hInbKernelIdeal := hInbKernelIdeal)
    ∧ quiescent_InbReferenceIdeal (hInbReferenceIdeal := hInbReferenceIdeal)
    ∧ quiescent_RinKernel (hRinKernel := hRinKernel)
    ∧ quiescent_RinKernelIdeal (hRinKernelIdeal := hRinKernelIdeal)
    ∧ quiescent_RinReferenceIdeal (hRinReferenceIdeal := hRinReferenceIdeal)
    ∧ quiescent_NewKernel (hNewKernel := hNewKernel)
    ∧ quiescent_NewKernelIdeal (hNewKernelIdeal := hNewKernelIdeal)
    ∧ quiescent_NewReferenceIdeal (hNewReferenceIdeal := hNewReferenceIdeal)
    ∧ preserves_MemKernel_MemKernelIdeal
    ∧ algebraic_MemKernelIdeal_MemReferenceIdeal (hMemKernelIdeal := hMemKernelIdeal) (hMemReferenceIdeal := hMemReferenceIdeal)
    ∧ preserves_GateKernel_GateKernelIdeal
    ∧ algebraic_GateKernelIdeal_GateReferenceIdeal (hGateKernelIdeal := hGateKernelIdeal) (hGateReferenceIdeal := hGateReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_MkvKernel_MkvKernelIdeal
    ∧ algebraic_MkvKernelIdeal_MkvReferenceIdeal (hMkvKernelIdeal := hMkvKernelIdeal) (hMkvReferenceIdeal := hMkvReferenceIdeal)
    ∧ preserves_SideKernel_SideKernelIdeal
    ∧ algebraic_SideKernelIdeal_SideReferenceIdeal (hSideKernelIdeal := hSideKernelIdeal) (hSideReferenceIdeal := hSideReferenceIdeal)
    ∧ preserves_InbKernel_InbKernelIdeal
    ∧ algebraic_InbKernelIdeal_InbReferenceIdeal (hInbKernelIdeal := hInbKernelIdeal) (hInbReferenceIdeal := hInbReferenceIdeal)
    ∧ preserves_RinKernel_RinKernelIdeal
    ∧ algebraic_RinKernelIdeal_RinReferenceIdeal (hRinKernelIdeal := hRinKernelIdeal) (hRinReferenceIdeal := hRinReferenceIdeal)
    ∧ preserves_NewKernel_NewKernelIdeal
    ∧ algebraic_NewKernelIdeal_NewReferenceIdeal (hNewKernelIdeal := hNewKernelIdeal) (hNewReferenceIdeal := hNewReferenceIdeal)
-- ==== MemKernel.lean ====
abbrev S4x2048x6144 : Shape := ⟨3, ![4, 2048, 6144]⟩
abbrev S4x256x1024 : Shape := ⟨3, ![4, 256, 1024]⟩
abbrev S4x2048x512 : Shape := ⟨3, ![4, 2048, 512]⟩
abbrev S1x512x512 : Shape := ⟨3, ![1, 512, 512]⟩
abbrev S1x256x512 : Shape := ⟨3, ![1, 256, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x6144, .f32⟩
  | .hbm, ⟨1, _⟩ => ⟨S4x256x1024, .f32⟩
  | .hbm, ⟨2, _⟩ => ⟨S4x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512x512, .bf16⟩
  | .local _ .vmem, ⟨7, _⟩ => ⟨S1x512x512, .bf16⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S4x2048x6144 : Shape := ⟨3, ![4, 2048, 6144]⟩
abbrev S4x256x1024 : Shape := ⟨3, ![4, 256, 1024]⟩
abbrev S4x2048x512 : Shape := ⟨3, ![4, 2048, 512]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x256x1024, .f32⟩
  | .hbm, ⟨2, _⟩ => ⟨S4x2048x512, .f32⟩
  | .hbm, ⟨3, _⟩ => ⟨S4x2048x4x128, .f32⟩
  | .hbm, ⟨4, _⟩ => ⟨S4x256x512, .f32⟩
  | .hbm, ⟨5, _⟩ => ⟨S4x256x512, .f32⟩
  | .hbm, ⟨6, _⟩ => ⟨S4x256x4x128, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x128x2048, .f32⟩
  | .hbm, ⟨27, _⟩ => ⟨S4x2048x4x128, .f32⟩
  | .hbm, ⟨28, _⟩ => ⟨S4x2048x512, .f32⟩
  | .hbm, ⟨29, _⟩ => ⟨S4x2048x512, .bf16⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== GateKernel.lean ====
abbrev S8192x2048 : Shape := ⟨2, ![8192, 2048]⟩
abbrev S2048 : Shape := ⟨1, ![2048]⟩
abbrev S4x2x2048x11008 : Shape := ⟨4, ![4, 2, 2048, 11008]⟩
abbrev S1x2048 : Shape := ⟨2, ![1, 2048]⟩
abbrev S8192x5632 : Shape := ⟨2, ![8192, 5632]⟩
abbrev S1024x2048 : Shape := ⟨2, ![1024, 2048]⟩
abbrev S1x1x2048x512 : Shape := ⟨4, ![1, 1, 2048, 512]⟩
abbrev S1024x512 : Shape := ⟨2, ![1024, 512]⟩
abbrev S1024 : Shape := ⟨1, ![1024]⟩
abbrev S1024x1 : Shape := ⟨2, ![1024, 1]⟩
abbrev S1x1x2048x256 : Shape := ⟨4, ![1, 1, 2048, 256]⟩
abbrev S2048x256 : Shape := ⟨2, ![2048, 256]⟩
abbrev S1024x256 : Shape := ⟨2, ![1024, 256]⟩
abbrev S1x1x2048x128 : Shape := ⟨4, ![1, 1, 2048, 128]⟩
abbrev S2048x128 : Shape := ⟨2, ![2048, 128]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2x2048x11008, .f32⟩
  | .hbm, ⟨3, _⟩ => ⟨S1x2048, .f32⟩
  | .hbm, ⟨4, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let c5504_i32 : BitVec 32 := 5504#32
  let arg1 : BitVec 32 := BitVec.ofNat 32 (i 1).val
  let c512_i32 : BitVec 32 := 512#32
  let v0 : BitVec 32 := Scalar.muli arg1 c512_i32
  let v1 : BitVec 32 := Scalar.addi c5504_i32 v0
  let c10496_i32 : BitVec 32 := 10496#32
  let v2 : BitVec 32 := Scalar.minsi v1 c10496_i32
  v2
def k0_cond2 (i : grid0.Coords) : BitVec 1 :=
  let arg1 : BitVec 32 := BitVec.ofNat 32 (i 1).val
  let c10_i32 : BitVec 32 := 10#32
  let v4 : BitVec 1 := Scalar.cmpi .ne arg1 c10_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c10_i32_3 : BitVec 32 := 10#32
  let v7 : BitVec 1 := Scalar.cmpi .eq arg1 c10_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c5504_i32 : BitVec 32 := 5504#32
  let v1 : BitVec 32 := Scalar.addi c5504_i32 v0
  let c10496_i32 : BitVec 32 := 10496#32
  let v2 : BitVec 32 := Scalar.minsi v1 c10496_i32
  let v3 : BitVec 32 := v2
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S8192x2048 : Shape := ⟨2, ![8192, 2048]⟩
abbrev S2048 : Shape := ⟨1, ![2048]⟩
abbrev S4x2x2048x11008 : Shape := ⟨4, ![4, 2, 2048, 11008]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048x11008 : Shape := ⟨4, ![1, 1, 2048, 11008]⟩
abbrev S2048x11008 : Shape := ⟨2, ![2048, 11008]⟩
abbrev S8192x11008 : Shape := ⟨2, ![8192, 11008]⟩
abbrev S8192x5504 : Shape := ⟨2, ![8192, 5504]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2x2048x11008, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S1x1x2048x11008, .f32⟩
  | .hbm, ⟨20, _⟩ => ⟨S2048x11008, .f32⟩
  | .hbm, ⟨21, _⟩ => ⟨S8192x11008, .f32⟩
  | .hbm, ⟨22, _⟩ => ⟨S8192x5504, .f32⟩
  | .hbm, ⟨23, _⟩ => ⟨S8192x5504, .f32⟩
  | .hbm, ⟨24, _⟩ => ⟨S8192x5504, .f32⟩
  | .hbm, ⟨25, _⟩ => ⟨S8192x5504, .f32⟩
  | .hbm, ⟨26, _⟩ => ⟨S_, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x5504, .bf16⟩
  | .hbm, ⟨35, _⟩ => ⟨S_, .i32⟩
  | .hbm, ⟨36, _⟩ => ⟨S_, .bf16⟩
  | .hbm, ⟨37, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_call1_v0 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== DownKernel.lean ====
abbrev S8192x5632 : Shape := ⟨2, ![8192, 5632]⟩
abbrev S4x2x5504x2048 : Shape := ⟨4, ![4, 2, 5504, 2048]⟩
abbrev S2048 : Shape := ⟨1, ![2048]⟩
abbrev S8192x2048 : Shape := ⟨2, ![8192, 2048]⟩
abbrev S1x2048 : Shape := ⟨2, ![1, 2048]⟩
abbrev S512x2816 : Shape := ⟨2, ![512, 2816]⟩
abbrev S1x1x2816x2048 : Shape := ⟨4, ![1, 1, 2816, 2048]⟩
abbrev S512x2048 : Shape := ⟨2, ![512, 2048]⟩
abbrev S2816x2048 : Shape := ⟨2, ![2816, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S4x2x5504x2048, .bf16⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S1x1x2816x2048, .bf16⟩
  | .local _ .vmem, ⟨3, _⟩ => ⟨S1x1x2816x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c2816_i32 : BitVec 32 := 2816#32
  let v1 : BitVec 32 := Scalar.muli arg1 c2816_i32
  let c2688_i32 : BitVec 32 := 2688#32
  let v2 : BitVec 32 := Scalar.minsi v1 c2688_i32
  v2
def k0_mult2 (i : grid0.Coords) : BitVec 32 :=
  let arg1 : BitVec 32 := BitVec.ofNat 32 (i 1).val
  let c2816_i32 : BitVec 32 := 2816#32
  let v0 : BitVec 32 := Scalar.muli arg1 c2816_i32
  let c2688_i32 : BitVec 32 := 2688#32
  let v1 : BitVec 32 := Scalar.minsi v0 c2688_i32
  v1
def k0_cond2 (i : grid0.Coords) : BitVec 1 :=
  let arg1 : BitVec 32 := BitVec.ofNat 32 (i 1).val
  let c1_i32_12 : BitVec 32 := 1#32
  let v19 : BitVec 1 := Scalar.cmpi .eq arg1 c1_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2816_i32 : BitVec 32 := 2816#32
  let v1 : BitVec 32 := Scalar.muli arg1 c2816_i32
  let c2688_i32 : BitVec 32 := 2688#32
  let v2 : BitVec 32 := Scalar.minsi v1 c2688_i32
  let v3 : BitVec 32 := v2
  let c0_i32 : BitVec 32 := 0#32
  ![v0.toNat, v3.toNat]

def cc0_transform_1 (i : grid0.Coords) : Fin 4 → Nat :=
  let arg0 : BitVec 32 := BitVec.ofNat 32 (i 0).val
  let arg1 : BitVec 32 := BitVec.ofNat 32 (i 1).val
  let c2816_i32 : BitVec 32 := 2816#32
  let v0 : BitVec 32 := Scalar.muli arg1 c2816_i32
  let c2688_i32 : BitVec 32 := 2688#32
  let v1 : BitVec 32 := Scalar.minsi v0 c2688_i32
  let v2 : BitVec 32 := v1
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownReferenceIdeal.lean ====
abbrev S8192x5632 : Shape := ⟨2, ![8192, 5632]⟩
abbrev S4x2x5504x2048 : Shape := ⟨4, ![4, 2, 5504, 2048]⟩
abbrev S2048 : Shape := ⟨1, ![2048]⟩
abbrev S8192x2048 : Shape := ⟨2, ![8192, 2048]⟩
abbrev S8192x5504 : Shape := ⟨2, ![8192, 5504]⟩
abbrev S1x1x5504x2048 : Shape := ⟨4, ![1, 1, 5504, 2048]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2x5504x2048, .bf16⟩
  | .hbm, ⟨2, _⟩ => ⟨S2048, .f32⟩
  | .hbm, ⟨3, _⟩ => ⟨S8192x2048, .f32⟩
  | .hbm, ⟨4, _⟩ => ⟨S8192x5504, .bf16⟩
  | .hbm, ⟨5, _⟩ => ⟨S8192x5504, .f32⟩
  | .hbm, ⟨6, _⟩ => ⟨S1x1x5504x2048, .bf16⟩
  | .hbm, ⟨7, _⟩ => ⟨S5504x2048, .bf16⟩
  | .hbm, ⟨8, _⟩ => ⟨S5504x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== OutKernel.lean ====
abbrev S8192x1536 : Shape := ⟨2, ![8192, 1536]⟩
abbrev S8192x512 : Shape := ⟨2, ![8192, 512]⟩
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S512x1536 : Shape := ⟨2, ![512, 1536]⟩
abbrev S512x512 : Shape := ⟨2, ![512, 512]⟩
abbrev S1x2048x2048 : Shape := ⟨3, ![1, 2048, 2048]⟩
abbrev S512x2048 : Shape := ⟨2, ![512, 2048]⟩
abbrev S1x1536x2048 : Shape := ⟨3, ![1, 1536, 2048]⟩
abbrev S1536x2048 : Shape := ⟨2, ![1536, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S4x2048x2048, .bf16⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1x2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S8192x1536 : Shape := ⟨2, ![8192, 1536]⟩
abbrev S8192x512 : Shape := ⟨2, ![8192, 512]⟩
abbrev S4x2048x2048 : Shape := ⟨3, ![4, 2048, 2048]⟩
abbrev S2048 : Shape := ⟨1, ![2048]⟩
abbrev S8192x2048 : Shape := ⟨2, ![8192, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S4x2048x2048, .bf16⟩
  | .hbm, ⟨3, _⟩ => ⟨S2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S1x2048x2048, .bf16⟩
  | .hbm, ⟨8, _⟩ => ⟨S2048x2048, .bf16⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== MkvKernel.lean ====
abbrev S1024x2048 : Shape := ⟨2, ![1024, 2048]⟩
abbrev S2048 : Shape := ⟨1, ![2048]⟩
abbrev S2048x1024 : Shape := ⟨2, ![2048, 1024]⟩
abbrev S1x2048 : Shape := ⟨2, ![1, 2048]⟩
abbrev S1024x1024 : Shape := ⟨2, ![1024, 1024]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S1024x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MkvReferenceIdeal.lean ====
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== SideKernel.lean ====
abbrev S8192x2048 : Shape := ⟨2, ![8192, 2048]⟩
abbrev S2048 : Shape := ⟨1, ![2048]⟩
abbrev S2048x3072 : Shape := ⟨2, ![2048, 3072]⟩
abbrev S1x2048 : Shape := ⟨2, ![1, 2048]⟩
abbrev S8192x3072 : Shape := ⟨2, ![8192, 3072]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S4x2048x3072 : Shape := ⟨3, ![4, 2048, 3072]⟩
abbrev S4x2048x512 : Shape := ⟨3, ![4, 2048, 512]⟩
abbrev S4x2048x4x128 : Shape := ⟨4, ![4, 2048, 4, 128]⟩
abbrev S4x512x4x128 : Shape := ⟨4, ![4, 512, 4, 128]⟩

abbrev nBuf : Space → Nat
  | .hbm => 21
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S2048x3072, .bf16⟩
  | .hbm, ⟨4, _⟩ => ⟨S1x2048, .f32⟩
  | .hbm, ⟨5, _⟩ => ⟨S8192x3072, .f32⟩
  | .hbm, ⟨6, _⟩ => ⟨S4x2048x3072, .f32⟩
  | .hbm, ⟨7, _⟩ => ⟨S4x2048x512, .f32⟩
  | .hbm, ⟨8, _⟩ => ⟨S4x2048x4x128, .f32⟩
  | .hbm, ⟨9, _⟩ => ⟨S4x2048x512, .f32⟩
  | .hbm, ⟨10, _⟩ => ⟨S4x2048x4x128, .f32⟩
  | .hbm, ⟨11, _⟩ => ⟨S4x2048x512, .f32⟩
  | .hbm, ⟨12, _⟩ => ⟨S4x2048x4x128, .f32⟩
  | .hbm, ⟨13, _⟩ => ⟨S4x2048x512, .f32⟩
  | .hbm, ⟨14, _⟩ => ⟨S4x2048x4x128, .f32⟩
  | .hbm, ⟨15, _⟩ => ⟨S4x2048x512, .f32⟩
  | .hbm, ⟨16, _⟩ => ⟨S4x2048x4x128, .f32⟩
  | .hbm, ⟨17, _⟩ => ⟨S4x2048x512, .f32⟩
  | .hbm, ⟨18, _⟩ => ⟨S4x2048x4x128, .f32⟩
  | .hbm, ⟨19, _⟩ => ⟨S4x512x4x128, .f32⟩
  | .hbm, ⟨20, _⟩ => ⟨S4x512x4x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SideReferenceIdeal.lean ====
abbrev S8192x2048 : Shape := ⟨2, ![8192, 2048]⟩
abbrev S2048 : Shape := ⟨1, ![2048]⟩
abbrev S2048x3072 : Shape := ⟨2, ![2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩
abbrev S8192x512 : Shape := ⟨2, ![8192, 512]⟩
abbrev S4x2048x4x128 : Shape := ⟨4, ![4, 2048, 4, 128]⟩
abbrev S4x512x4x128 : Shape := ⟨4, ![4, 512, 4, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3072, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S4x2048x4x128, .f32⟩
  | .hbm, ⟨27, _⟩ => ⟨S4x2048x4x128, .f32⟩
  | .hbm, ⟨28, _⟩ => ⟨S4x2048x4x128, .f32⟩
  | .hbm, ⟨29, _⟩ => ⟨S4x2048x4x128, .f32⟩
  | .hbm, ⟨30, _⟩ => ⟨S4x2048x4x128, .f32⟩
  | .hbm, ⟨31, _⟩ => ⟨S4x2048x4x128, .f32⟩
  | .hbm, ⟨32, _⟩ => ⟨S4x512x4x128, .f32⟩
  | .hbm, ⟨33, _⟩ => ⟨S4x512x4x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== InbKernel.lean ====
abbrev S8192x2048 : Shape := ⟨2, ![8192, 2048]⟩
abbrev S2048 : Shape := ⟨1, ![2048]⟩
abbrev S2048x2304 : Shape := ⟨2, ![2048, 2304]⟩
abbrev S1x2048 : Shape := ⟨2, ![1, 2048]⟩
abbrev S8192x2304 : Shape := ⟨2, ![8192, 2304]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2304, .f32⟩
  | .hbm, ⟨3, _⟩ => ⟨S2048x2304, .bf16⟩
  | .hbm, ⟨4, _⟩ => ⟨S1x2048, .f32⟩
  | .hbm, ⟨5, _⟩ => ⟨S8192x2304, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InbReferenceIdeal.lean ====
abbrev S8192x2048 : Shape := ⟨2, ![8192, 2048]⟩
abbrev S2048 : Shape := ⟨1, ![2048]⟩
abbrev S2048x2304 : Shape := ⟨2, ![2048, 2304]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x2304 : Shape := ⟨2, ![8192, 2304]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2304, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2304, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RinKernel.lean ====
abbrev S4x2048x2048 : Shape := ⟨3, ![4, 2048, 2048]⟩
abbrev S4x2048 : Shape := ⟨2, ![4, 2048]⟩
abbrev S2048 : Shape := ⟨1, ![2048]⟩
abbrev S6x2048 : Shape := ⟨2, ![6, 2048]⟩
abbrev S2048x6144 : Shape := ⟨2, ![2048, 6144]⟩
abbrev S_ : Shape := ⟨0, ![]⟩
abbrev S2x2048 : Shape := ⟨2, ![2, 2048]⟩
abbrev S8x2048 : Shape := ⟨2, ![8, 2048]⟩
abbrev S4x1x2048 : Shape := ⟨3, ![4, 1, 2048]⟩
abbrev S1x2048 : Shape := ⟨2, ![1, 2048]⟩
abbrev S4x2048x6144 : Shape := ⟨3, ![4, 2048, 6144]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1x1024x256 : Shape := ⟨3, ![1, 1024, 256]⟩
abbrev S1024x512 : Shape := ⟨2, ![1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S2048, .f32⟩
  | .hbm, ⟨3, _⟩ => ⟨S6x2048, .f32⟩
  | .hbm, ⟨4, _⟩ => ⟨S2048x6144, .f32⟩
  | .hbm, ⟨5, _⟩ => ⟨S2048x6144, .bf16⟩
  | .hbm, ⟨6, _⟩ => ⟨S_, .f32⟩
  | .hbm, ⟨7, _⟩ => ⟨S2x2048, .f32⟩
  | .hbm, ⟨8, _⟩ => ⟨S8x2048, .f32⟩
  | .hbm, ⟨9, _⟩ => ⟨S4x1x2048, .f32⟩
  | .hbm, ⟨10, _⟩ => ⟨S1x2048, .f32⟩
  | .hbm, ⟨11, _⟩ => ⟨S4x2048x6144, .f32⟩
  | .hbm, ⟨12, _⟩ => ⟨S4x1x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S8x2048, .f32⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1x2048, .f32⟩
  | .local _ .vmem, ⟨11, _⟩ => ⟨S1x1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | .local _ .vmem, ⟨15, _⟩ => ⟨S1x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 12], ![false, false, false]⟩

def k0_cond8 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_6 : BitVec 32 := 0#32
  let v17 : BitVec 1 := Scalar.cmpi .ne v16 c0_i32_6
  v17

def k0_cond9 (i : grid0.Coords) : BitVec 1 :=
  let arg2 : BitVec 32 := BitVec.ofNat 32 (i 2).val
  let c11_i32 : BitVec 32 := 11#32
  let v18 : BitVec 1 := Scalar.cmpi .eq arg2 c11_i32
  let v19 : BitVec 32 := Scalar.extui v18
  let c0_i32_7 : BitVec 32 := 0#32
  let v20 : BitVec 1 := Scalar.cmpi .ne v19 c0_i32_7
  v20

def k0_cond10 (i : grid0.Coords) : BitVec 1 :=
  let arg2 : BitVec 32 := BitVec.ofNat 32 (i 2).val
  let c10_i32_8 : BitVec 32 := 10#32
  let v21 : BitVec 1 := Scalar.cmpi .slt arg2 c10_i32_8
  let v22 : BitVec 32 := Scalar.extui v21
  let c0_i32_9 : BitVec 32 := 0#32
  let v23 : BitVec 1 := Scalar.cmpi .ne v22 c0_i32_9
  v23

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c1_i32_27 : BitVec 32 := 1#32
  let v62 : BitVec 1 := Scalar.cmpi .eq arg1 c1_i32_27
  let v63 : BitVec 32 := Scalar.extui v62
  let c0_i32_28 : BitVec 32 := 0#32
  let v64 : BitVec 1 := Scalar.cmpi .ne v63 c0_i32_28
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== RinReferenceIdeal.lean ====
abbrev S4x2048x2048 : Shape := ⟨3, ![4, 2048, 2048]⟩
abbrev S4x2048 : Shape := ⟨2, ![4, 2048]⟩
abbrev S2048 : Shape := ⟨1, ![2048]⟩
abbrev S6x2048 : Shape := ⟨2, ![6, 2048]⟩
abbrev S2048x6144 : Shape := ⟨2, ![2048, 6144]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2047x2048 : Shape := ⟨3, ![4, 2047, 2048]⟩
abbrev S1x2048 : Shape := ⟨2, ![1, 2048]⟩
abbrev S2048x1536 : Shape := ⟨2, ![2048, 1536]⟩
abbrev S4x2048x1536 : Shape := ⟨3, ![4, 2048, 1536]⟩
abbrev S2048x512 : Shape := ⟨2, ![2048, 512]⟩
abbrev S4x2048x512 : Shape := ⟨3, ![4, 2048, 512]⟩
abbrev S2048x1024 : Shape := ⟨2, ![2048, 1024]⟩
abbrev S2048x256 : Shape := ⟨2, ![2048, 256]⟩
abbrev S4x2048x256 : Shape := ⟨3, ![4, 2048, 256]⟩
abbrev S4x2048x6144 : Shape := ⟨3, ![4, 2048, 6144]⟩

abbrev nBuf : Space → Nat
  | .hbm => 80
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .f32⟩
  | .hbm, ⟨2, _⟩ => ⟨S2048, .f32⟩
  | .hbm, ⟨3, _⟩ => ⟨S6x2048, .f32⟩
  | .hbm, ⟨4, _⟩ => ⟨S2048x6144, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x1x2048, .f32⟩
  | .hbm, ⟨22, _⟩ => ⟨S4x2047x2048, .f32⟩
  | .hbm, ⟨23, _⟩ => ⟨S4x2048x2048, .f32⟩
  | .hbm, ⟨24, _⟩ => ⟨S4x2048x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048, .f32⟩
  | .hbm, ⟨38, _⟩ => ⟨S2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S1x2048, .f32⟩
  | .hbm, ⟨44, _⟩ => ⟨S2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S1x2048, .f32⟩
  | .hbm, ⟨50, _⟩ => ⟨S2048, .f32⟩
  | .hbm, ⟨51, _⟩ => ⟨S1x1x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S2048x1536, .f32⟩
  | .hbm, ⟨62, _⟩ => ⟨S4x2048x1536, .f32⟩
  | .hbm, ⟨63, _⟩ => ⟨S2048x1536, .f32⟩
  | .hbm, ⟨64, _⟩ => ⟨S4x2048x1536, .f32⟩
  | .hbm, ⟨65, _⟩ => ⟨S2048x1536, .f32⟩
  | .hbm, ⟨66, _⟩ => ⟨S4x2048x1536, .f32⟩
  | .hbm, ⟨67, _⟩ => ⟨S2048x512, .f32⟩
  | .hbm, ⟨68, _⟩ => ⟨S4x2048x512, .f32⟩
  | .hbm, ⟨69, _⟩ => ⟨S2048x1024, .f32⟩
  | .hbm, ⟨70, _⟩ => ⟨S2048x256, .f32⟩
  | .hbm, ⟨71, _⟩ => ⟨S2048x256, .f32⟩
  | .hbm, ⟨72, _⟩ => ⟨S2048x256, .f32⟩
  | .hbm, ⟨73, _⟩ => ⟨S2048x256, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S4x2048x256, .f32⟩
  | .hbm, ⟨78, _⟩ => ⟨S4x2048x6144, .f32⟩
  | .hbm, ⟨79, _⟩ => ⟨S4x1x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== NewKernel.lean ====
abbrev S64x2048 : Shape := ⟨2, ![64, 2048]⟩
abbrev S2048 : Shape := ⟨1, ![2048]⟩
abbrev S2048x3072 : Shape := ⟨2, ![2048, 3072]⟩
abbrev S8x512x4x128 : Shape := ⟨4, ![8, 512, 4, 128]⟩
abbrev S1x2048 : Shape := ⟨2, ![1, 2048]⟩
abbrev S64x3072 : Shape := ⟨2, ![64, 3072]⟩
abbrev S2048x768 : Shape := ⟨2, ![2048, 768]⟩
abbrev S64x768 : Shape := ⟨2, ![64, 768]⟩
abbrev S64 : Shape := ⟨1, ![64]⟩
abbrev S64x1 : Shape := ⟨2, ![64, 1]⟩
abbrev S8x8x3072 : Shape := ⟨3, ![8, 8, 3072]⟩
abbrev S8x1x512 : Shape := ⟨3, ![8, 1, 512]⟩
abbrev S8x1x4x128 : Shape := ⟨4, ![8, 1, 4, 128]⟩
abbrev S8x513x4x128 : Shape := ⟨4, ![8, 513, 4, 128]⟩

abbrev nBuf : Space → Nat
  | .hbm => 25
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x3072, .f32⟩
  | .hbm, ⟨3, _⟩ => ⟨S8x512x4x128, .f32⟩
  | .hbm, ⟨4, _⟩ => ⟨S8x512x4x128, .f32⟩
  | .hbm, ⟨5, _⟩ => ⟨S2048x3072, .bf16⟩
  | .hbm, ⟨6, _⟩ => ⟨S1x2048, .f32⟩
  | .hbm, ⟨7, _⟩ => ⟨S64x3072, .f32⟩
  | .hbm, ⟨8, _⟩ => ⟨S8x8x3072, .f32⟩
  | .hbm, ⟨9, _⟩ => ⟨S8x1x512, .f32⟩
  | .hbm, ⟨10, _⟩ => ⟨S8x1x4x128, .f32⟩
  | .hbm, ⟨11, _⟩ => ⟨S8x1x512, .f32⟩
  | .hbm, ⟨12, _⟩ => ⟨S8x1x4x128, .f32⟩
  | .hbm, ⟨13, _⟩ => ⟨S8x1x512, .f32⟩
  | .hbm, ⟨14, _⟩ => ⟨S8x1x4x128, .f32⟩
  | .hbm, ⟨15, _⟩ => ⟨S8x1x512, .f32⟩
  | .hbm, ⟨16, _⟩ => ⟨S8x1x4x128, .f32⟩
  | .hbm, ⟨17, _⟩ => ⟨S8x1x512, .f32⟩
  | .hbm, ⟨18, _⟩ => ⟨S8x1x4x128, .f32⟩
  | .hbm, ⟨19, _⟩ => ⟨S8x1x512, .f32⟩
  | .hbm, ⟨20, _⟩ => ⟨S8x1x4x128, .f32⟩
  | .hbm, ⟨21, _⟩ => ⟨S8x513x4x128, .f32⟩
  | .hbm, ⟨22, _⟩ => ⟨S8x512x4x128, .f32⟩
  | .hbm, ⟨23, _⟩ => ⟨S8x513x4x128, .f32⟩
  | .hbm, ⟨24, _⟩ => ⟨S8x512x4x128, .f32⟩
  | .local _ .vmem, ⟨0, _⟩ => ⟨S64x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S64x768, .f32⟩
  | .local _ .vmem, ⟨5, _⟩ => ⟨S64x768, .f32⟩
  | .local _ .vmem, ⟨6, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NewReferenceIdeal.lean ====
abbrev S64x2048 : Shape := ⟨2, ![64, 2048]⟩
abbrev S2048 : Shape := ⟨1, ![2048]⟩
abbrev S2048x3072 : Shape := ⟨2, ![2048, 3072]⟩
abbrev S8x512x4x128 : Shape := ⟨4, ![8, 512, 4, 128]⟩
abbrev S8x8x2048 : Shape := ⟨3, ![8, 8, 2048]⟩
abbrev S8x1x2048 : Shape := ⟨3, ![8, 1, 2048]⟩
abbrev S8x2048 : Shape := ⟨2, ![8, 2048]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x3072 : Shape := ⟨2, ![8, 3072]⟩
abbrev S8x512 : Shape := ⟨2, ![8, 512]⟩
abbrev S8x1x4x128 : Shape := ⟨4, ![8, 1, 4, 128]⟩
abbrev S8x513x4x128 : Shape := ⟨4, ![8, 513, 4, 128]⟩

abbrev nBuf : Space → Nat
  | .hbm => 41
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x3072, .f32⟩
  | .hbm, ⟨3, _⟩ => ⟨S8x512x4x128, .f32⟩
  | .hbm, ⟨4, _⟩ => ⟨S8x512x4x128, .f32⟩
  | .hbm, ⟨5, _⟩ => ⟨S8x8x2048, .f32⟩
  | .hbm, ⟨6, _⟩ => ⟨S8x1x2048, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8, .f32⟩
  | .hbm, ⟨11, _⟩ => ⟨S8x1, .f32⟩
  | .hbm, ⟨12, _⟩ => ⟨S_, .f32⟩
  | .hbm, ⟨13, _⟩ => ⟨S8x1, .f32⟩
  | .hbm, ⟨14, _⟩ => ⟨S8x1, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x1, .f32⟩
  | .hbm, ⟨19, _⟩ => ⟨S8x2048, .f32⟩
  | .hbm, ⟨20, _⟩ => ⟨S8x2048, .f32⟩
  | .hbm, ⟨21, _⟩ => ⟨S1x2048, .f32⟩
  | .hbm, ⟨22, _⟩ => ⟨S8x2048, .f32⟩
  | .hbm, ⟨23, _⟩ => ⟨S8x2048, .f32⟩
  | .hbm, ⟨24, _⟩ => ⟨S8x3072, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S8x512, .f32⟩
  | .hbm, ⟨30, _⟩ => ⟨S8x512, .f32⟩
  | .hbm, ⟨31, _⟩ => ⟨S8x1x4x128, .f32⟩
  | .hbm, ⟨32, _⟩ => ⟨S8x1x4x128, .f32⟩
  | .hbm, ⟨33, _⟩ => ⟨S8x1x4x128, .f32⟩
  | .hbm, ⟨34, _⟩ => ⟨S8x1x4x128, .f32⟩
  | .hbm, ⟨35, _⟩ => ⟨S8x1x4x128, .f32⟩
  | .hbm, ⟨36, _⟩ => ⟨S8x1x4x128, .f32⟩
  | .hbm, ⟨37, _⟩ => ⟨S8x513x4x128, .f32⟩
  | .hbm, ⟨38, _⟩ => ⟨S8x512x4x128, .f32⟩
  | .hbm, ⟨39, _⟩ => ⟨S8x513x4x128, .f32⟩
  | .hbm, ⟨40, _⟩ => ⟨S8x512x4x128, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Common.lean ====
/- Facts shared by the certificates of this directory: operations of a kernel's body and of a host program read at one index over
   the extended reals. -/
module

public import Idealize.ShloMosaic.Lib.Pipeline.Value
public import Idealize.ShloMosaic.Lib.ValueIdx
public import Idealize.ShloMosaic.Lib.ValueLayout
public import Idealize.ShloMosaic.Lib.MatmulPlain
public import Idealize.ShloMosaic.Lib.IdealHost
public import Idealize.ShloMosaic.PureOps.Ideal.Laws

@[expose] public section

noncomputable section

namespace Cert.Common

open Idealize.ShloMosaic Idealize.ShloMosaic.ValueIdx

/-- The pattern of minus infinity is the least extended real. -/
theorem negInf : Ideal.ofBits .f32 0xFF800000#32 = ⊥ := by simp [Ideal.ofBits, Ideal.ieee]

/-- The pattern of one. -/
theorem one32 : Ideal.ofBits .f32 0x3F800000#32 = 1 := Ideal.ofBits_one_f32

/-- A column spread over the columns of a rectangle. -/
theorem spread_apply {α : Type} {a b : ℕ} (x : (⟨2, ![a, 1]⟩ : Shape).Idx → α)
    (h' : (⟨2, ![a, 1]⟩ : Shape).Broadcasts ⟨2, ![a, b]⟩) (r : Fin a) (c : Fin b) :
    broadcastTo ⟨2, ![a, b]⟩ x h' (ix2 r c) = x (ix2 r (0 : Fin 1)) := by
  refine broadcastTo_apply _ h' (ix2 r c) (ix2 r (0 : Fin 1)) fun ax => ?_
  match ax with
  | ⟨0, _⟩ =>
    show r.val = if a = 1 then 0 else r.val
    split
    · have := r.isLt; omega
    · rfl
  | ⟨1, _⟩ => rfl

/-- Row values as a column. -/
theorem column_apply {α : Type} {a : ℕ} (x : (⟨1, ![a]⟩ : Shape).Idx → α) (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

/-- A column of row values, spread over the columns of a rectangle. -/
theorem col_apply {α : Type} {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (r : Fin a) (c : Fin b) :
    broadcastTo ⟨2, ![a, b]⟩ (shapeCast ⟨2, ![a, 1]⟩ x h) h' (ix2 r c) = x (ix1 r) :=
  (spread_apply _ h' r c).trans (column_apply x h r)

/-- A row's maximum, as the kernel takes it. -/
theorem rowMax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ x 0xFF800000#32 h hφ hacc (ix1 r) = Finset.univ.sup fun k : Fin b => x (ix2 r k) := by
  rw [Ideal.multiReduction_maximumf_single]
  show Finset.fold max (Ideal.ofBits .f32 0xFF800000#32) _ _ = _
  rw [negInf]
  refine Finset.fold_congr fun k _ => congrArg x ?_
  funext d; match d with | ⟨0, _⟩ => rfl | ⟨1, _⟩ => rfl

/-- A row's sum, as the kernel takes it. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ x 0x00000000#32 h hφ hacc (ix1 r) = ∑ k : Fin b, x (ix2 r k) := by
  rw [Ideal.multiReduction_add_single]
  refine Finset.sum_congr rfl fun k _ => congrArg x ?_
  funext d; match d with | ⟨0, _⟩ => rfl | ⟨1, _⟩ => rfl

/-- A product of a rectangle and a transposed one, into zeros. -/
theorem matmulT_apply {M K N : ℕ} {φ₁ φ₂ : FTy} (d : DotDims ⟨2, ![M, K]⟩ ⟨2, ![N, K]⟩ ⟨2, ![M, N]⟩) (hd : d = DotDims.transposedRhs M K N)
    (prec : Option ContractPrecision) (x : FVec Ideal ⟨2, ![M, K]⟩ φ₁) (y : FVec Ideal ⟨2, ![N, K]⟩ φ₂) (r : Fin M) (c : Fin N) :
    FloatOps.matmul d prec x y (constant ⟨2, ![M, N]⟩ .f32 0x00000000#32) (ix2 r c) = ∑ k : Fin K, x (ix2 r k) * y (ix2 c k) := by
  rw [hd, Ideal.matmul_transposedRhs_apply, constant_apply, Ideal.ofBits_zero_f32, zero_add]

/-- A product of two rectangles, into zeros. -/
theorem matmul_apply {M K N : ℕ} {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (y : FVec Ideal ⟨2, ![K, N]⟩ φ₂) (r : Fin M) (c : Fin N) :
    FloatOps.matmul d prec x y (constant ⟨2, ![M, N]⟩ .f32 0x00000000#32) (ix2 r c) = ∑ k : Fin K, x (ix2 r k) * y (ix2 k c) := by
  rw [hd, Ideal.matmul_plain_apply, constant_apply, Ideal.ofBits_zero_f32, zero_add]

/-- The number of channels and the norm's small constant, as printed on both sides. -/
abbrev dim : EReal := Ideal.ofBits .f32 0x45000000#32
abbrev eps : EReal := Ideal.ofBits .f32 0x358637BD#32

/-- The row `f` divided by its root mean square, with gains `g`, at channel `c`. -/
def normed {n : ℕ} (f g : Fin n → EReal) (c : Fin n) : EReal :=
  f c * Ideal.rsqrt (Ideal.div (∑ k, f k * f k) dim + eps) * g c

/-- The norm as the bodies compute it, of a rectangle's rows. -/
theorem rms_apply {a b : ℕ} (x : FVec Ideal ⟨2, ![a, b]⟩ .f32) (g : FVec Ideal ⟨2, ![1, b]⟩ .f32)
    (h : (⟨2, ![a, b]⟩ : Shape).Reduces [1] ⟨1, ![a]⟩) (h1 : (⟨1, ![a]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (c : Fin b) :
    mulf (mulf x (broadcastTo ⟨2, ![a, b]⟩ (rsqrt (addf (divf (shapeCast ⟨2, ![a, 1]⟩
        (multiReduction .add [1] ⟨1, ![a]⟩ (mulf x x) 0x00000000#32 h (.inl rfl) rfl) h1)
        (broadcast ⟨2, ![a, 1]⟩ (Scalar.ofBits .f32 0x45000000#32))) (broadcast ⟨2, ![a, 1]⟩ (Scalar.ofBits .f32 0x358637BD#32)))) h2))
        (broadcastTo ⟨2, ![a, b]⟩ (shapeCast ⟨2, ![1, b]⟩ g h3) h4) (ix2 r c)
      = normed (fun k => x (ix2 r k)) (fun k => g (ix2 (0 : Fin 1) k)) c := by
  rw [mulf_apply, mulf_apply, spread_apply, broadcastTo_1b_ab_apply, shapeCast_self]
  unfold normed
  refine congrArg (fun z => x (ix2 r c) * Ideal.rsqrt (Ideal.div z dim + eps) * g (ix2 (0 : Fin 1) c)) ?_
  exact (column_apply _ h1 r).trans (rowSum_apply _ h _ _ r)

/-- The norm as the host computes it, of a rectangle's rows. -/
theorem host_rms_apply {a b : ℕ} (x : FVec Ideal ⟨2, ![a, b]⟩ .f32) (g : FVec Ideal ⟨1, ![b]⟩ .f32)
    (h : (⟨2, ![a, b]⟩ : Shape).ReducesTo [1] ⟨1, ![a]⟩) (h' : (⟨2, ![a, b]⟩ : Shape).Reduces [1] ⟨1, ![a]⟩) (h0 : 0 < (⟨0, ![]⟩ : Shape).numel)
    (h1 : (⟨1, ![a]⟩ : Shape).BroadcastsInDim ⟨2, ![a, 1]⟩ ![0]) (hs : (⟨0, ![]⟩ : Shape).BroadcastsInDim ⟨2, ![a, 1]⟩ ![])
    (h2 : (⟨2, ![a, 1]⟩ : Shape).BroadcastsInDim ⟨2, ![a, b]⟩ ![0, 1]) (h3 : (⟨1, ![b]⟩ : Shape).BroadcastsInDim ⟨2, ![1, b]⟩ ![1])
    (h4 : (⟨2, ![1, b]⟩ : Shape).BroadcastsInDim ⟨2, ![a, b]⟩ ![0, 1]) (r : Fin a) (c : Fin b) :
    mulf (mulf x (broadcastInDim ⟨2, ![a, b]⟩ ![0, 1] h2 (Host.rsqrt (addf (Host.divf
        (broadcastInDim ⟨2, ![a, 1]⟩ ![0] h1 (Host.reduceAdd (mulf x x) (constant (F := Ideal) ⟨0, ![]⟩ .f32 0x00000000#32) h h0))
        (broadcastInDim ⟨2, ![a, 1]⟩ ![] hs (constant (F := Ideal) ⟨0, ![]⟩ .f32 0x45000000#32)))
        (broadcastInDim ⟨2, ![a, 1]⟩ ![] hs (constant (F := Ideal) ⟨0, ![]⟩ .f32 0x358637BD#32))))))
        (broadcastInDim ⟨2, ![a, b]⟩ ![0, 1] h4 (broadcastInDim ⟨2, ![1, b]⟩ ![1] h3 g)) (ix2 r c)
      = normed (fun k => x (ix2 r k)) (fun k => g (ix1 k)) c := by
  have one : ∀ (n : ℕ) (k : Fin n), k.val = if n = 1 then 0 else k.val := fun n k => by
    split
    · have := k.isLt; omega
    · rfl
  rw [mulf_apply, mulf_apply,
    broadcastInDim_apply _ h2 _ (ix2 r c) (ix2 r (0 : Fin 1)) fun a' => match a' with | ⟨0, _⟩ => one a r | ⟨1, _⟩ => rfl,
    broadcastInDim_apply _ h4 _ (ix2 r c) (ix2 (0 : Fin 1) c) fun a' => match a' with | ⟨0, _⟩ => rfl | ⟨1, _⟩ => one b c,
    broadcastInDim_apply _ h3 _ (ix2 (0 : Fin 1) c) (ix1 c) fun a' => match a' with | ⟨0, _⟩ => one b c]
  unfold normed
  refine congrArg (fun z => x (ix2 r c) * Ideal.rsqrt (Ideal.div z dim + eps) * g (ix1 c)) ?_
  rw [broadcastInDim_apply _ h1 _ (ix2 r (0 : Fin 1)) (ix1 r) fun a' => match a' with | ⟨0, _⟩ => one a r]
  simp only [Host.reduceAdd, Ideal.hostReduceAdd_def]
  rw [Ideal.hostReduceAdd_single h h']
  refine (congrArg (· + _) Ideal.ofBits_zero_f32).trans ((zero_add _).trans (Finset.sum_congr rfl fun k _ => ?_))
  exact congrArg (fun i => x i * x i) (funext fun a' => Fin.ext (by match a' with | ⟨0, _⟩ => rfl | ⟨1, _⟩ => rfl))

/-- The normed rows of `x` times the weights `w`. -/
def projected {a b n : ℕ} (x : (⟨2, ![a, b]⟩ : Shape).Idx → EReal) (g : (⟨1, ![b]⟩ : Shape).Idx → EReal) (w : (⟨2, ![b, n]⟩ : Shape).Idx → EReal)
    (i : (⟨2, ![a, n]⟩ : Shape).Idx) : EReal :=
  ∑ k : Fin b, normed (fun k => x (ix2 (i 0) k)) (fun k => g (ix1 k)) k * w (ix2 k (i 1))

/-- An attention row: the values `v` weighted by the softmax of the scores `s` (the largest score taken off first). -/
def attn {M : ℕ} (s v : Fin M → EReal) : EReal :=
  ∑ m, Ideal.div (Ideal.exp (s m - Finset.univ.sup s)) (∑ j, Ideal.exp (s j - Finset.univ.sup s)) * v m

end Cert.Common

end
-- ==== Proof.Mem.lean ====
/- The memory attention: the kernel and its reference both end with, at every token and channel, the attention row of the
   token's query head over the 256 memory slots. -/
module

public import proofs.«01_k».proof.Defs
public import proofs.«01_k».proof.Proof.Common
public import proofs.«01_k».proof.Proof.Gen.MemKernelIdeal.Value
public import proofs.«01_k».proof.Proof.Gen.MemReferenceIdeal.Run
public import proofs.«01_k».proof.Proof.Gen.MemReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.MemKernelIdeal.Attend

open Cert.MemKernelIdeal Cert.MemKernelIdeal.Gen

/-- The scale of the scores, as printed on both sides. -/
abbrev scale : EReal := Ideal.ofBits .f32 0x3DB504F3#32

/-- What the layer's memory attention is, at batch `i 0`, token `i 1`, channel `i 2` of the heads laid side by side. -/
def spec (mq : S4x2048x6144.Idx → EReal) (mkv : S4x256x1024.Idx → EReal) (i : S4x2048x512.Idx) : EReal :=
  attn (fun m : Fin 256 => (∑ e : Fin 128,
      mq (ix3 (i 0) (i 1) ⟨4608 + ((i 2).val / 128 * 128 + e.val), by have : (i 2).val < 512 := (i 2).isLt; omega⟩)
      * mkv (ix3 (i 0) m ⟨(i 2).val / 128 * 128 + e.val, by have : (i 2).val < 512 := (i 2).isLt; omega⟩)) * scale)
    fun m => mkv (ix3 (i 0) m ⟨512 + (i 2).val, by have : (i 2).val < 512 := (i 2).isLt; omega⟩)

/-- The same of one point's blocks of queries, keys and values. -/
def blockSpec (x0 : S1x512x512.Idx → EReal) (x1 x2 : S1x256x512.Idx → EReal) (y : S1x512x512.Idx) : EReal :=
  attn (fun m : Fin 256 => (∑ e : Fin 128,
      x0 (ix3 (0 : Fin 1) (y 1) ⟨(y 2).val / 128 * 128 + e.val, by have : (y 2).val < 512 := (y 2).isLt; omega⟩)
      * x1 (ix3 (0 : Fin 1) m ⟨(y 2).val / 128 * 128 + e.val, by have : (y 2).val < 512 := (y 2).isLt; omega⟩)) * scale)
    fun m => x2 (ix3 (0 : Fin 1) m (y 2))

/-- A head's scores, as the body computes them. -/
def scores (k : Vec Ideal S1x256x128 .f32) (q : Vec Ideal S1x512x128 .f32) : FVec Ideal S512x256 .f32 :=
  mulf (matmul (φ₁ := .f32) (φ₂ := .f32) dot_S512x128_S256x128_S512x256_1_1_0_0_n_n none (shapeCast S512x128 q shapeCasts_S1x512x128_S512x128)
    (shapeCast S256x128 k shapeCasts_S1x256x128_S256x128) (constant S512x256 .f32 0x00000000#32))
    (broadcast S512x256 (Scalar.ofBits .f32 0x3DB504F3#32))

theorem scores_apply (k : Vec Ideal S1x256x128 .f32) (q : Vec Ideal S1x512x128 .f32) (r : Fin 512) (m : Fin 256) :
    scores k q (ix2 r m) = (∑ e : Fin 128, q (ix3 (0 : Fin 1) r e) * k (ix3 (0 : Fin 1) m e)) * scale := by
  refine congrArg (· * scale) ((matmulT_apply dot_S512x128_S256x128_S512x256_1_1_0_0_n_n rfl _ _ _ r m).trans
    (Finset.sum_congr rfl fun e _ => congrArg₂ (· * ·) ?_ ?_))
  · exact shapeCast_1ab_ab_apply q _ r e
  · exact shapeCast_1ab_ab_apply k _ m e

/-- A head's unnormalized weights, as the body computes them of its scores. -/
def weights (s : FVec Ideal S512x256 .f32) : FVec Ideal S512x256 .f32 :=
  exp (subf s (broadcastTo S512x256 (shapeCast S512x1 (multiReduction .maximumf [1] S512 s 0xFF800000#32
    reduces_S512x256_S512 (.inl rfl) rfl) shapeCasts_S512_S512x1) broadcasts_S512x1_S512x256))

theorem weights_apply (s : FVec Ideal S512x256 .f32) (f : Fin 256 → EReal) (r : Fin 512) (hs : ∀ m, s (ix2 r m) = f m) (m : Fin 256) :
    weights s (ix2 r m) = Ideal.exp (f m - Finset.univ.sup f) := by
  refine congrArg Ideal.exp (congrArg₂ (· - ·) (hs m) ?_)
  refine (col_apply _ _ _ r m).trans ((rowMax_apply s _ _ _ r).trans ?_)
  exact congrArg _ (funext hs)

/-- One head of the body. -/
theorem head_apply (k v : Vec Ideal S1x256x128 .f32) (q : Vec Ideal S1x512x128 .f32) (r : Fin 512) (d : Fin 128) :
    k0_pay3 k v q (ix3 (0 : Fin 1) r d)
      = attn (fun m : Fin 256 => (∑ e : Fin 128, q (ix3 (0 : Fin 1) r e) * k (ix3 (0 : Fin 1) m e)) * scale)
          fun m => v (ix3 (0 : Fin 1) m d) := by
  have hw := weights_apply (scores k q) _ r (scores_apply k q r)
  unfold k0_pay3
  dsimp only
  change shapeCast S1x512x128 (truncf .bf16 (matmul (F := Ideal) (φ₁ := .f32) (φ₂ := .f32) _ none (divf
    (weights (scores k q)) (broadcastTo S512x256 (shapeCast S512x1 (multiReduction .add [1] S512 (weights (scores k q)) 0x00000000#32
      reduces_S512x256_S512 (.inl rfl) rfl) shapeCasts_S512_S512x1) broadcasts_S512x1_S512x256)) _ _) _) _ (ix3 (0 : Fin 1) r d) = _
  generalize weights (scores k q) = w at hw ⊢
  rw [shapeCast_ab_1ab_apply, truncf_apply]
  refine (matmul_apply dot_S512x256_S256x128_S512x128_1_0_0_1_n_n rfl _ _ _ r d).trans ?_
  unfold attn
  refine Finset.sum_congr rfl fun m _ => congrArg₂ (· * ·) ?_ (shapeCast_1ab_ab_apply v _ m d)
  rw [divf_apply]
  refine congrArg₂ Ideal.div (hw m) ?_
  refine (col_apply _ _ _ r m).trans ((rowSum_apply w _ _ _ r).trans ?_)
  exact Finset.sum_congr rfl fun j _ => hw j

/-- All four heads are one function of the loaded columns. -/
theorem pieces (x0 : Vec Ideal S1x512x512 .f32) (x1 x2 : Vec Ideal S1x256x512 .f32) :
    out0_3 x0 x1 x2 = View.canon [⟨r0_7, k0_pay3 (View.ld x1 r0_6) (View.ld x2 r0_6) (View.ld x0 r0_7)⟩,
      ⟨r0_5, k0_pay3 (View.ld x1 r0_4) (View.ld x2 r0_4) (View.ld x0 r0_5)⟩,
      ⟨r0_3, k0_pay3 (View.ld x1 r0_2) (View.ld x2 r0_2) (View.ld x0 r0_3)⟩,
      ⟨r0_1, k0_pay3 (View.ld x1 r0_0) (View.ld x2 r0_0) (View.ld x0 r0_1)⟩] := rfl

/-- A head's columns `128 h …` of the blocks are the head of the block's attention there. -/
theorem head_block (x0 : S1x512x512.Idx → EReal) (x1 x2 : S1x256x512.Idx → EReal) (h : ℕ) (hh : h < 4)
    (iq : ∀ a, (![0, 0, 128 * h] : Fin 3 → ℕ) a + S1x512x128.size a ≤ S1x512x512.size a)
    (ik : ∀ a, (![0, 0, 128 * h] : Fin 3 → ℕ) a + S1x256x128.size a ≤ S1x256x512.size a) (y : S1x512x128.Idx) :
    k0_pay3 (F := Ideal) (View.ld x1 (Rect.unit (s := S1x256x512) ![0, 0, 128 * h] S1x256x128.size ik))
        (View.ld x2 (Rect.unit (s := S1x256x512) ![0, 0, 128 * h] S1x256x128.size ik))
        (View.ld x0 (Rect.unit (s := S1x512x512) ![0, 0, 128 * h] S1x512x128.size iq)) y
      = blockSpec x0 x1 x2 ((Rect.unit (s := S1x512x512) ![0, 0, 128 * h] S1x512x128.size iq).emb y) := by
  obtain ⟨r, d, rfl⟩ : ∃ (r : Fin 512) (d : Fin 128), y = ix3 (0 : Fin 1) r d :=
    ⟨y 1, y 2, (eq_ix3 y).trans (congrArg (fun z : Fin 1 => ix3 z (y 1 : Fin 512) (y 2 : Fin 128)) (Subsingleton.elim _ _))⟩
  refine (head_apply _ _ _ r d).trans ?_
  have hd := d.isLt
  unfold blockSpec
  refine congrArg₂ attn (funext fun m => congrArg (· * scale) (Finset.sum_congr rfl fun e _ => congrArg₂ (· * ·) ?_ ?_)) (funext fun m => ?_)
  · refine congrArg x0 (funext fun a => Fin.ext ?_)
    match a with
    | ⟨0, _⟩ => rfl
    | ⟨1, _⟩ => rfl
    | ⟨2, _⟩ => show 128 * h + 1 * e.val = (128 * h + 1 * d.val) / 128 * 128 + e.val; omega
  · refine congrArg x1 (funext fun a => Fin.ext ?_)
    match a with
    | ⟨0, _⟩ => rfl
    | ⟨1, _⟩ => show 0 + 1 * m.val = m.val; omega
    | ⟨2, _⟩ => show 128 * h + 1 * e.val = (128 * h + 1 * d.val) / 128 * 128 + e.val; omega
  · refine congrArg x2 (funext fun a => Fin.ext ?_)
    match a with
    | ⟨0, _⟩ => rfl
    | ⟨1, _⟩ => show 0 + 1 * m.val = m.val; omega
    | ⟨2, _⟩ => rfl

theorem out_eq (x0 : Vec Ideal S1x512x512 .f32) (x1 x2 : Vec Ideal S1x256x512 .f32) : out0_3 x0 x1 x2 = blockSpec x0 x1 x2 := by
  rw [pieces]
  funext y
  refine View.canon_apply_of_pieces (Val := Elt Ideal) (e := .bf16) (blockSpec x0 x1 x2) _ ?_ y (cover0_3 _ _ _ _ y)
  simp only [List.mem_cons, List.not_mem_nil, or_false, forall_eq_or_imp, forall_eq]
  exact ⟨head_block x0 x1 x2 3 (by decide) _ _, head_block x0 x1 x2 2 (by decide) _ _, head_block x0 x1 x2 1 (by decide) _ _,
    head_block x0 x1 x2 0 (by decide) _ _⟩

variable (m : (ℓ : Loc nD τ sig) → Buf (Elt Ideal) ℓ) (ρ : Dev nD → PrngReg)

abbrev out (c : Dev nD) : Buf (Elt Ideal) ((c : Thread nD τ).loc main_v0) :=
  spec (m ((c : Thread nD τ).loc main_arg0)) (m ((c : Thread nD τ).loc main_arg1))

theorem idx0 : ∀ t : Fin grid0.N, win0_0.index t 0 = t.val / 4 ∧ win0_0.index t 1 = t.val % 4 ∧ win0_0.index t 2 = 9 := by decide +kernel
theorem idx1 : ∀ t : Fin grid0.N, win0_1.index t 0 = t.val / 4 ∧ win0_1.index t 1 = 0 ∧ win0_1.index t 2 = 0 := by decide +kernel
theorem idx2 : ∀ t : Fin grid0.N, win0_2.index t 0 = t.val / 4 ∧ win0_2.index t 1 = 0 ∧ win0_2.index t 2 = 1 := by decide +kernel
theorem idx3 : ∀ t : Fin grid0.N, win0_3.index t 0 = t.val / 4 ∧ win0_3.index t 1 = t.val % 4 ∧ win0_3.index t 2 = 0 := by decide +kernel

/-- The query block of a point, read at an index. -/
theorem iblk0_apply (c : Dev nD) (t : Fin cfg0.N) (r e : Fin 512) (i : S4x2048x6144.Idx) (h0 : (i 0).val = t.val / 4)
    (h1 : (i 1).val = t.val % 4 * 512 + r.val) (h2 : (i 2).val = 4608 + e.val) :
    iblk m c 0 t (ix3 (0 : Fin 1) r e) = m ((c : Thread nD τ).loc main_arg0) i := by
  refine (congrFun (V_main_arg0 m c) _).trans (congrArg _ (funext fun a => Fin.ext ?_))
  obtain ⟨e0, e1, e2⟩ := idx0 t
  match a with
  | ⟨0, _⟩ => show win0_0.index t 0 * 1 + 1 * 0 = (i 0).val; omega
  | ⟨1, _⟩ => show win0_0.index t 1 * 512 + 1 * r.val = (i 1).val; omega
  | ⟨2, _⟩ => show win0_0.index t 2 * 512 + 1 * e.val = (i 2).val; omega

/-- The key block. -/
theorem iblk1_apply (c : Dev nD) (t : Fin cfg0.N) (r : Fin 256) (e : Fin 512) (i : S4x256x1024.Idx) (h0 : (i 0).val = t.val / 4)
    (h1 : (i 1).val = r.val) (h2 : (i 2).val = e.val) :
    iblk m c 1 t (ix3 (0 : Fin 1) r e) = m ((c : Thread nD τ).loc main_arg1) i := by
  refine (congrFun (V_main_arg1 m c) _).trans (congrArg _ (funext fun a => Fin.ext ?_))
  obtain ⟨e0, e1, e2⟩ := idx1 t
  match a with
  | ⟨0, _⟩ => show win0_1.index t 0 * 1 + 1 * 0 = (i 0).val; omega
  | ⟨1, _⟩ => show win0_1.index t 1 * 256 + 1 * r.val = (i 1).val; omega
  | ⟨2, _⟩ => show win0_1.index t 2 * 512 + 1 * e.val = (i 2).val; omega

/-- The value block. -/
theorem iblk2_apply (c : Dev nD) (t : Fin cfg0.N) (r : Fin 256) (e : Fin 512) (i : S4x256x1024.Idx) (h0 : (i 0).val = t.val / 4)
    (h1 : (i 1).val = r.val) (h2 : (i 2).val = 512 + e.val) :
    iblk m c 2 t (ix3 (0 : Fin 1) r e) = m ((c : Thread nD τ).loc main_arg1) i := by
  refine (congrFun (V_main_arg1 m c) _).trans (congrArg _ (funext fun a => Fin.ext ?_))
  obtain ⟨e0, e1, e2⟩ := idx2 t
  match a with
  | ⟨0, _⟩ => show win0_2.index t 0 * 1 + 1 * 0 = (i 0).val; omega
  | ⟨1, _⟩ => show win0_2.index t 1 * 256 + 1 * r.val = (i 1).val; omega
  | ⟨2, _⟩ => show win0_2.index t 2 * 512 + 1 * e.val = (i 2).val; omega

/-- What a point writes back is its block of the attention. -/
theorem flushed_eq (c : Dev nD) (t : Fin cfg0.N) :
    (dats m 0 c).flushed 3 t = ((cfg0.win 3).blk t).view.read (Elt Ideal) (out m c) := by
  rw [Value.flushed3, out_eq]
  funext y
  show blockSpec _ _ _ y = spec _ _ ((win0_3.blk t).view.emb y)
  obtain ⟨e0, e1, e2⟩ := idx3 t
  have i0 : (((win0_3.blk t).view.emb y) 0).val = t.val / 4 := by
    have : (y 0).val < 1 := (y 0).isLt
    show win0_3.index t 0 * 1 + 1 * (y 0).val = _; omega
  have i1 : (((win0_3.blk t).view.emb y) 1).val = t.val % 4 * 512 + (y 1).val := by
    show win0_3.index t 1 * 512 + 1 * (y 1).val = _; omega
  have i2 : (((win0_3.blk t).view.emb y) 2).val = (y 2).val := by
    show win0_3.index t 2 * 512 + 1 * (y 2).val = _; omega
  generalize (win0_3.blk t).view.emb y = i at i0 i1 i2
  unfold blockSpec spec
  refine congrArg₂ attn (funext fun k => congrArg (· * scale) (Finset.sum_congr rfl fun e _ => congrArg₂ (· * ·) ?_ ?_)) (funext fun k => ?_)
  · exact iblk0_apply m c t _ _ _ i0 i1 (by show 4608 + _ = 4608 + _; rw [i2])
  · exact iblk1_apply m c t _ _ _ i0 rfl (by show (i 2).val / 128 * 128 + _ = _; rw [i2])
  · exact iblk2_apply m c t _ _ _ i0 rfl (by show 512 + (i 2).val = _; rw [i2])

/-- The indices of a point's block. -/
theorem mem_blk (t : Fin cfg0.N) (i : S4x2048x512.Idx) (h0 : (i 0).val = t.val / 4) (h1 : (i 1).val / 512 = t.val % 4) :
    i ∈ ((cfg0.win 3).blk t).view.set := by
  have h2 : (i 2 : Nat) < 512 := (i 2).isLt
  show i ∈ ((View.whole main_v0).slice (win0_3.rect t)).set
  rw [View.set_slice_whole, Rect.mem_set_unit]
  intro a
  obtain ⟨e0, e1, e2⟩ := idx3 t
  match a with
  | ⟨0, _⟩ => show win0_3.index t 0 * 1 ≤ (i 0 : Nat) ∧ (i 0 : Nat) < win0_3.index t 0 * 1 + 1; omega
  | ⟨1, _⟩ => show win0_3.index t 1 * 512 ≤ (i 1 : Nat) ∧ (i 1 : Nat) < win0_3.index t 1 * 512 + 512; omega
  | ⟨2, _⟩ => show win0_3.index t 2 * 512 ≤ (i 2 : Nat) ∧ (i 2 : Nat) < win0_3.index t 2 * 512 + 512; omega

/-- The points' blocks tile the result. -/
theorem cover (i : S4x2048x512.Idx) :
    ∃ t : Fin cfg0.N, (cfg0.win 3).flush t = true ∧ i ∈ ((cfg0.win 3).blk t).view.set := by
  have h0 : (i 0 : Nat) < 4 := (i 0).isLt
  have h1 : (i 1 : Nat) < 2048 := (i 1).isLt
  have hN : cfg0.N = 16 := N_0
  have hl : (i 0).val * 4 + (i 1).val / 512 < cfg0.N := by omega
  exact ⟨⟨_, hl⟩, flush0_3 _, mem_blk ⟨_, hl⟩ i (by show _ = (_ * 4 + _) / 4; omega) (by show _ = (_ * 4 + _) % 4; omega)⟩

theorem final (c : Dev nD) : (dats m 0 c).arrAt 3 cfg0.N = out m c :=
  (dats m 0 c).arrAt_eq_of_cover 3 (out m c) (fun t _ => flushed_eq m c t) cover

end Cert.MemKernelIdeal.Attend

namespace Cert.MemReferenceIdeal.Attend

open Cert.MemReferenceIdeal Cert.MemReferenceIdeal.Read
open Cert.MemKernelIdeal.Attend (spec scale)

variable (x0 : (⟨S4x2048x6144, .f32⟩ : BufTy).Contents (Elt Ideal)) (x1 : (⟨S4x256x1024, .f32⟩ : BufTy).Contents (Elt Ideal))

/-- The scores of batch `b`, head `h`, token `t`. -/
def score (b : Fin 4) (h : Fin 4) (t : Fin 2048) (m : Fin 256) : EReal :=
  (∑ e : Fin 128, x0 (ix3 b t ⟨4608 + (h.val * 128 + e.val), by omega⟩) * x1 (ix3 b m ⟨h.val * 128 + e.val, by omega⟩)) * scale

theorem v8_apply (b h : Fin 4) (t : Fin 2048) (m : Fin 256) : val_main_v8 x0 x1 (ix4 b h t m) = score x0 x1 b h t m := by
  rw [val_main_v8_apply, val_main_v6_apply, val_main_v7_apply]
  refine congrArg₂ (· * ·) (Finset.sum_congr rfl fun e _ => congrArg₂ (· * ·) ?_ ?_) rfl
  · rw [val_main_v1_apply, val_main_v0_apply]
    refine congrArg x0 (funext fun a => Fin.ext ?_)
    match a with
    | ⟨0, _⟩ => show (((b.val * 2048 + t.val) * 4 + h.val) * 128 + e.val) / 1048576 = b.val; omega
    | ⟨1, _⟩ => show (((b.val * 2048 + t.val) * 4 + h.val) * 128 + e.val) / 512 % 2048 = t.val; omega
    | ⟨2, _⟩ => show 4608 + (((b.val * 2048 + t.val) * 4 + h.val) * 128 + e.val) % 512 = 4608 + (h.val * 128 + e.val); omega
  · rw [val_main_v4_apply, val_main_v2_apply]
    refine congrArg x1 (funext fun a => Fin.ext ?_)
    match a with
    | ⟨0, _⟩ => show (((b.val * 256 + m.val) * 4 + h.val) * 128 + e.val) / 131072 = b.val; omega
    | ⟨1, _⟩ => show (((b.val * 256 + m.val) * 4 + h.val) * 128 + e.val) / 512 % 256 = m.val; omega
    | ⟨2, _⟩ => show (((b.val * 256 + m.val) * 4 + h.val) * 128 + e.val) % 512 = h.val * 128 + e.val; omega

theorem idx_row (b h : Fin 4) (t : Fin 2048) (m : Fin 256) : idx_main_v12 (idx_main_v13 (ix4 b h t m)) = ix3 b h t := by
  funext a
  match a with
  | ⟨0, _⟩ => rfl
  | ⟨1, _⟩ => rfl
  | ⟨2, _⟩ => rfl

theorem idx_row' (b h : Fin 4) (t : Fin 2048) (m : Fin 256) : idx_main_v17 (idx_main_v18 (ix4 b h t m)) = ix3 b h t := by
  funext a
  match a with
  | ⟨0, _⟩ => rfl
  | ⟨1, _⟩ => rfl
  | ⟨2, _⟩ => rfl

theorem idx_term (b h : Fin 4) (t : Fin 2048) (m : Fin 256) : idx_main_v16 (ix3 b h t) m = ix4 b h t m := by
  funext a
  match a with
  | ⟨0, _⟩ => rfl
  | ⟨1, _⟩ => rfl
  | ⟨2, _⟩ => rfl
  | ⟨3, _⟩ => rfl

theorem v11_apply (b h : Fin 4) (t : Fin 2048) : val_main_v11 x0 x1 (ix3 b h t) = Finset.univ.sup (score x0 x1 b h t) := by
  rw [val_main_v11_apply, val_main_v10_apply, val_main_cst_1_apply]
  unfold val_main_v9
  rw [Host.reduce_eq_fold_single FloatOps.maximumf _ _ Gen.reducesTo_S4x4x2048x256_S4x4x2048_d3
    (by decide : S4x4x2048x256.Reduces [3] S4x4x2048) Gen.h_S_, val_main_cst_0_apply]
  show max (Ideal.ofBits .f32 0xFF800000#32) (Finset.fold max (Ideal.ofBits .f32 0xFF800000#32) _ _) = _
  rw [negInf, bot_sup_eq]
  refine Finset.fold_congr fun m _ => (congrArg (val_main_v8 x0 x1) (funext fun a => ?_)).trans (v8_apply x0 x1 b h t m)
  match a with
  | ⟨0, _⟩ => rfl
  | ⟨1, _⟩ => rfl
  | ⟨2, _⟩ => rfl
  | ⟨3, _⟩ => rfl

theorem v15_apply (b h : Fin 4) (t : Fin 2048) (m : Fin 256) :
    val_main_v15 x0 x1 (ix4 b h t m) = Ideal.exp (score x0 x1 b h t m - Finset.univ.sup (score x0 x1 b h t)) := by
  rw [val_main_v15_apply, val_main_v14_apply, val_main_v13_apply, val_main_v12_apply, v8_apply, idx_row, v11_apply]
  rfl

theorem v19_apply (b h : Fin 4) (t : Fin 2048) (m : Fin 256) :
    val_main_v19 x0 x1 (ix4 b h t m) = Ideal.div (Ideal.exp (score x0 x1 b h t m - Finset.univ.sup (score x0 x1 b h t)))
      (∑ j, Ideal.exp (score x0 x1 b h t j - Finset.univ.sup (score x0 x1 b h t))) := by
  rw [val_main_v19_apply, val_main_v18_apply, val_main_v17_apply, idx_row', val_main_v16_apply, v15_apply, val_main_cst_2_apply]
  refine congrArg (Ideal.div _) ?_
  refine (congrArg (· + _) Ideal.ofBits_zero_f32).trans ((zero_add _).trans ?_)
  exact Finset.sum_congr rfl fun j _ => (congrArg _ (idx_term b h t j)).trans (v15_apply x0 x1 b h t j)

theorem result_eq (b : Fin 4) (t : Fin 2048) (c : Fin 512) : val_main_v23 x0 x1 (ix3 b t c) = spec x0 x1 (ix3 b t c) := by
  rw [val_main_v23_apply, val_main_v22_apply, val_main_v21_apply]
  show val_main_v20 x0 x1 _ = _
  have hi : idx_main_v21 (idx_main_v22 (ix3 b t c)) = ix4 b (⟨c.val / 128, by omega⟩ : Fin 4) (⟨c.val % 128, by omega⟩ : Fin 128) t := by
    funext a
    refine Fin.ext ?_
    match a with
    | ⟨0, _⟩ => show ((b.val * 2048 + t.val) * 512 + c.val) / 1048576 = b.val; omega
    | ⟨1, _⟩ => show ((b.val * 2048 + t.val) * 512 + c.val) / 128 % 4 = c.val / 128; omega
    | ⟨2, _⟩ => show ((b.val * 2048 + t.val) * 512 + c.val) % 128 = c.val % 128; omega
    | ⟨3, _⟩ => show ((b.val * 2048 + t.val) * 512 + c.val) / 512 % 2048 = t.val; omega
  rw [hi, val_main_v20_apply]
  unfold spec attn
  refine Finset.sum_congr rfl fun m _ => (mul_comm _ _).trans (congrArg₂ (· * ·)
    ((congrArg (val_main_v19 x0 x1) (funext fun a => ?_)).trans (v19_apply x0 x1 b ⟨c.val / 128, by omega⟩ t m)) ?_)
  · match a with
    | ⟨0, _⟩ => rfl
    | ⟨1, _⟩ => rfl
    | ⟨2, _⟩ => rfl
    | ⟨3, _⟩ => rfl
  rw [val_main_v5_apply, val_main_v3_apply]
  refine congrArg x1 (funext fun a => Fin.ext ?_)
  match a with
  | ⟨0, _⟩ => show (((b.val * 256 + m.val) * 4 + c.val / 128) * 128 + c.val % 128) / 131072 = b.val; omega
  | ⟨1, _⟩ => show (((b.val * 256 + m.val) * 4 + c.val / 128) * 128 + c.val % 128) / 512 % 256 = m.val; omega
  | ⟨2, _⟩ => show 512 + (((b.val * 256 + m.val) * 4 + c.val / 128) * 128 + c.val % 128) % 512 = 512 + c.val; omega

end Cert.MemReferenceIdeal.Attend

namespace Cert.Proof

/-- The kernel and the reference agree over the extended reals. -/
theorem algebraic_Mem : Cert.algebraic_MemKernelIdeal_MemReferenceIdeal := by
  intro m ρ m' ρ' _ hagree
  refine ⟨fun c => Cert.MemKernelIdeal.Attend.out m c, ?_, ?_⟩
  · exact (θ_run Cert.MemKernelIdeal.defs _ _).mono (fun _ h c => ⟨(h c).1.trans (Cert.MemKernelIdeal.Attend.final m c), (h c).2⟩)
      (Cert.MemKernelIdeal.Value.run_blocks (F := Ideal) m ρ)
  refine (θ_run Cert.MemReferenceIdeal.defs _ _).mono (fun _ h c => ⟨(h c).1.trans ?_, (h c).2⟩)
    (Cert.MemReferenceIdeal.Value.run (F := Ideal) m' ρ')
  obtain ⟨h0, h1⟩ := hagree c
  show Cert.MemReferenceIdeal.Read.val_main_v23 (F := Ideal) (m' ((c.tc : Thread Cert.MemReferenceIdeal.nD Cert.MemReferenceIdeal.τ).loc Cert.MemReferenceIdeal.main_arg0))
    (m' ((c.tc : Thread Cert.MemReferenceIdeal.nD Cert.MemReferenceIdeal.τ).loc Cert.MemReferenceIdeal.main_arg1)) = _
  rw [h0, h1]
  funext i
  rw [eq_ix3 i]
  exact Cert.MemReferenceIdeal.Attend.result_eq _ _ _ _ _

end Cert.Proof

end
-- ==== Proof.Gate.lean ====
/- The feed-forward's first projection: the kernel norms a block of rows once, keeps it, and for a block of hidden channels multiplies it
   by the gate's and the other half's weights; the last block, three quarters of it hidden channels, ends with zeros. The reference norms
   and multiplies whole, and pads with zeros. -/
module

public import Idealize.ShloMosaic.Lib.KernelVsHost
public import proofs.«01_k».proof.Defs
public import proofs.«01_k».proof.Proof.Common
public import proofs.«01_k».proof.Proof.Gen.GateKernelIdeal.Frame
public import proofs.«01_k».proof.Proof.Gen.GateReferenceIdeal.Run
public import proofs.«01_k».proof.Proof.Gen.GateReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.GateKernelIdeal.Project

open Cert.GateKernelIdeal Cert.GateKernelIdeal.Gen

/-- The gate: `p` times its sigmoid, times `q`. -/
def gated (p q : EReal) : EReal :=
  p * Ideal.div (Ideal.ofBits .f32 0x3F800000#32) (Ideal.ofBits .f32 0x3F800000#32 + Ideal.exp (-p)) * q

/-- The products of a normed row with one gate column and one column of the other half, gated. -/
def cell (f p q : Fin 2048 → EReal) : EReal := gated (∑ k, f k * p k) (∑ k, f k * q k)

/-- What the projection is, at row `i 0`, hidden channel `i 1`: zero past the 5504 hidden channels. -/
def spec (x : S8192x2048.Idx → EReal) (g : S2048.Idx → EReal) (w : S4x2x2048x11008.Idx → EReal) (i : S8192x5632.Idx) : EReal :=
  if h : (i 1).val < 5504 then
    cell (normed (fun k => x (ix2 (i 0) k)) fun k => g (ix1 k)) (fun k => w (ix4 (0 : Fin 4) (0 : Fin 2) k (⟨(i 1).val, by omega⟩ : Fin 11008)))
      fun k => w (ix4 (0 : Fin 4) (0 : Fin 2) k (⟨5504 + (i 1).val, by omega⟩ : Fin 11008))
  else 0

theorem spec_past (x : S8192x2048.Idx → EReal) (g : S2048.Idx → EReal) (w : S4x2x2048x11008.Idx → EReal) (i : Fin 8192) (j : Fin 5632)
    (h : ¬j.val < 5504) : spec x g w (ix2 i j) = 0 := dif_neg h

theorem spec_channel (x : S8192x2048.Idx → EReal) (g : S2048.Idx → EReal) (w : S4x2x2048x11008.Idx → EReal) (i : Fin 8192) (j : Fin 5632)
    (h : j.val < 5504) : spec x g w (ix2 i j) = cell (normed (fun k => x (ix2 i k)) fun k => g (ix1 k))
      (fun k => w (ix4 (0 : Fin 4) (0 : Fin 2) k (⟨j.val, by omega⟩ : Fin 11008)))
      fun k => w (ix4 (0 : Fin 4) (0 : Fin 2) k (⟨5504 + j.val, by omega⟩ : Fin 11008)) := dif_pos h

theorem zeros2 : (![0, 0] : Fin 2 → ℕ) = fun _ => 0 := funext fun a => by fin_cases a <;> rfl

/-- The normed rows, as the body keeps them. -/
theorem pay1_apply (v10 : Vec Ideal S1024x2048 .f32) (v11 : Vec Ideal S1x2048 .f32) (r : Fin 1024) (k : Fin 2048) :
    k0_pay1 v10 v11 (ix2 r k) = normed (fun k => v10 (ix2 r k)) (fun k => v11 (ix2 (0 : Fin 1) k)) k := by
  unfold k0_pay1
  dsimp only
  rw [shapeCast_self]
  exact rms_apply v10 v11 _ _ _ _ _ r k

/-- Weights read as a rectangle. -/
theorem weights_apply {n : ℕ} (v : (⟨4, ![1, 1, 2048, n]⟩ : Shape).Idx → EReal) (h : (⟨4, ![1, 1, 2048, n]⟩ : Shape).ShapeCasts ⟨2, ![2048, n]⟩)
    (k : Fin 2048) (d : Fin n) : shapeCast ⟨2, ![2048, n]⟩ v h (ix2 k d) = v (ix4 (0 : Fin 1) (0 : Fin 1) k d) := by
  refine shapeCast_apply v h _ _ ?_
  rw [Shape.rowMajor_val_two, Shape.rowMajor_val_four]
  show ((0 * 1 + 0) * 2048 + k.val) * n + d.val = k.val * n + d.val
  rw [show (0 * 1 + 0) * 2048 + k.val = k.val by omega]

/-- The gate as the body computes it from the two products. -/
theorem gate_apply {s : Shape} (p q : FVec Ideal s .f32) (i : s.Idx) :
    mulf (mulf p (divf (broadcast s (Scalar.ofBits .f32 0x3F800000#32)) (addf (broadcast s (Scalar.ofBits .f32 0x3F800000#32))
      (exp (subf (broadcast s (Scalar.ofBits .f32 0x00000000#32)) p))))) q i = gated (p i) (q i) := by
  show p i * Ideal.div _ (_ + Ideal.exp (Ideal.ofBits .f32 0x00000000#32 - p i)) * q i = _
  rw [Ideal.ofBits_zero_f32, zero_sub]
  rfl

section Payloads

variable (v3 : Vec Ideal S1024x2048 .bf16) (r : Fin 1024)

theorem product256 (v : Vec Ideal S1x1x2048x256 .f32) (d : Fin 256) :
    k0_pay6 v3 v (ix2 r d) = ∑ k : Fin 2048, v3 (ix2 r k) * v (ix4 (0 : Fin 1) (0 : Fin 1) k d) :=
  (matmul_apply dot_S1024x2048_S2048x256_S1024x256_1_0_0_1_n_n rfl none _ _ r d).trans
    (Finset.sum_congr rfl fun k _ => congrArg (v3 (ix2 r k) * ·) (weights_apply v _ k d))

theorem product128 (v : Vec Ideal S1x1x2048x128 .f32) (d : Fin 128) :
    k0_pay10 v3 v (ix2 r d) = ∑ k : Fin 2048, v3 (ix2 r k) * v (ix4 (0 : Fin 1) (0 : Fin 1) k d) :=
  (matmul_apply dot_S1024x2048_S2048x128_S1024x128_1_0_0_1_n_n rfl none _ _ r d).trans
    (Finset.sum_congr rfl fun k _ => congrArg (v3 (ix2 r k) * ·) (weights_apply v _ k d))

/-- The first 256 channels of a block. -/
theorem pay5_apply (v w : Vec Ideal S1x1x2048x256 .f32) (d : Fin 256) : k0_pay5 v3 v w (ix2 r d)
    = cell (fun k => v3 (ix2 r k)) (fun k => v (ix4 (0 : Fin 1) (0 : Fin 1) k d)) fun k => w (ix4 (0 : Fin 1) (0 : Fin 1) k d) :=
  (gate_apply (k0_pay6 v3 v) (k0_pay6 v3 w) (ix2 r d)).trans (congrArg₂ gated (product256 v3 r v d) (product256 v3 r w d))

/-- The other 256 channels of a block. -/
theorem pay2_apply (v w : Vec Ideal S1x1x2048x256 .f32) (d : Fin 256) : k0_pay2 (k0_pay6 v3 v) (k0_pay7 v3 w) (k0_pay8 v3 v) (ix2 r d)
    = cell (fun k => v3 (ix2 r k)) (fun k => v (ix4 (0 : Fin 1) (0 : Fin 1) k d)) fun k => w (ix4 (0 : Fin 1) (0 : Fin 1) k d) :=
  (gate_apply (k0_pay6 v3 v) (k0_pay6 v3 w) (ix2 r d)).trans (congrArg₂ gated (product256 v3 r v d) (product256 v3 r w d))

/-- The last block's 128 channels past its first 256. -/
theorem pay3_apply (v w : Vec Ideal S1x1x2048x128 .f32) (d : Fin 128) : k0_pay3 (k0_pay10 v3 v) (k0_pay11 v3 w) (k0_pay12 v3 v) (ix2 r d)
    = cell (fun k => v3 (ix2 r k)) (fun k => v (ix4 (0 : Fin 1) (0 : Fin 1) k d)) fun k => w (ix4 (0 : Fin 1) (0 : Fin 1) k d) :=
  (gate_apply (k0_pay10 v3 v) (k0_pay10 v3 w) (ix2 r d)).trans (congrArg₂ gated (product128 v3 r v d) (product128 v3 r w d))

end Payloads

/-- A run of loaded weight columns, from column `o`. -/
theorem cols_apply (x : Vec Ideal S1x1x2048x512 .f32) (o n : ℕ)
    (h : ∀ a, (![0, 0, 0, o] : Fin 4 → ℕ) a + (⟨4, ![1, 1, 2048, n]⟩ : Shape).size a ≤ S1x1x2048x512.size a) (k : Fin 2048) (d : Fin n)
    (j : Fin 512) (hj : j.val = o + d.val) :
    View.ld x (Rect.unit (s := S1x1x2048x512) ![0, 0, 0, o] (⟨4, ![1, 1, 2048, n]⟩ : Shape).size h) (ix4 (0 : Fin 1) (0 : Fin 1) k d)
      = x (ix4 (0 : Fin 1) (0 : Fin 1) k j) := by
  refine congrArg x (funext fun a => Fin.ext ?_)
  match a with
  | ⟨0, _⟩ => rfl
  | ⟨1, _⟩ => rfl
  | ⟨2, _⟩ => show 0 + 1 * k.val = k.val; omega
  | ⟨3, _⟩ => show o + 1 * d.val = j.val; omega

/-- Where a run of channels goes in the block. -/
theorem place (o n : ℕ) (h : ∀ a, (![0, o] : Fin 2 → ℕ) a + (⟨2, ![1024, n]⟩ : Shape).size a ≤ S1024x512.size a) (r : Fin 1024) (d : Fin n)
    (j : Fin 512) (hj : j.val = o + d.val) :
    (Rect.unit (s := S1024x512) ![0, o] (⟨2, ![1024, n]⟩ : Shape).size h).emb (ix2 r d) = ix2 r j := by
  funext a; refine Fin.ext ?_
  match a with
  | ⟨0, _⟩ => show 0 + 1 * r.val = r.val; omega
  | ⟨1, _⟩ => show o + 1 * d.val = j.val; omega

/-- A whole block of hidden channels, of the normed rows and the two weight blocks. -/
def block (rows : S1024x2048.Idx → EReal) (p q : S1x1x2048x512.Idx → EReal) (y : S1024x512.Idx) : EReal :=
  cell (fun k => rows (ix2 (y 0) k)) (fun k => p (ix4 (0 : Fin 1) (0 : Fin 1) k (y 1))) fun k => q (ix4 (0 : Fin 1) (0 : Fin 1) k (y 1))

/-- The last block: 384 hidden channels, the second half's weights 128 columns on, then zeros. -/
def lastBlock (rows : S1024x2048.Idx → EReal) (p q : S1x1x2048x512.Idx → EReal) (y : S1024x512.Idx) : EReal :=
  if h : (y 1).val < 384 then
    cell (fun k => rows (ix2 (y 0) k)) (fun k => p (ix4 (0 : Fin 1) (0 : Fin 1) k (y 1)))
      fun k => q (ix4 (0 : Fin 1) (0 : Fin 1) k (⟨128 + (y 1).val, by omega⟩ : Fin 512))
  else 0

theorem lastBlock_past (rows : S1024x2048.Idx → EReal) (p q : S1x1x2048x512.Idx → EReal) (r : Fin 1024) (j : Fin 512) (h : ¬j.val < 384) :
    lastBlock rows p q (ix2 r j) = 0 := dif_neg h

theorem lastBlock_channel (rows : S1024x2048.Idx → EReal) (p q : S1x1x2048x512.Idx → EReal) (r : Fin 1024) (j : Fin 512) (h : j.val < 384) :
    lastBlock rows p q (ix2 r j) = cell (fun k => rows (ix2 r k)) (fun k => p (ix4 (0 : Fin 1) (0 : Fin 1) k j))
      fun k => q (ix4 (0 : Fin 1) (0 : Fin 1) k (⟨128 + j.val, by omega⟩ : Fin 512)) := dif_pos h

section Pieces

variable (rows : Vec Ideal S1024x2048 .bf16) (p q : Vec Ideal S1x1x2048x512 .f32)

theorem first_piece (h2 : ∀ a, (![0, 0] : Fin 2 → ℕ) a + S1024x256.size a ≤ S1024x512.size a)
    (h4 : ∀ a, (![0, 0, 0, 0] : Fin 4 → ℕ) a + S1x1x2048x256.size a ≤ S1x1x2048x512.size a) (y : S1024x256.Idx) :
    k0_pay5 (F := Ideal) rows (View.ld p (Rect.unit (s := S1x1x2048x512) ![0, 0, 0, 0] S1x1x2048x256.size h4))
        (View.ld q (Rect.unit (s := S1x1x2048x512) ![0, 0, 0, 0] S1x1x2048x256.size h4)) y
      = block rows p q ((Rect.unit (s := S1024x512) ![0, 0] S1024x256.size h2).emb y) := by
  obtain ⟨r, d, rfl⟩ : ∃ (r : Fin 1024) (d : Fin 256), y = ix2 r d := ⟨y 0, y 1, eq_ix2 y⟩
  obtain ⟨j, hj⟩ : ∃ j : Fin 512, j.val = 0 + d.val := ⟨⟨0 + d.val, by omega⟩, rfl⟩
  rw [place 0 256 h2 r d j hj]
  refine (pay5_apply rows r _ _ d).trans ?_
  exact congrArg₂ (cell _) (funext fun k => cols_apply p 0 256 h4 k d j hj) (funext fun k => cols_apply q 0 256 h4 k d j hj)

theorem second_piece (h2 : ∀ a, (![0, 256] : Fin 2 → ℕ) a + S1024x256.size a ≤ S1024x512.size a)
    (h4 : ∀ a, (![0, 0, 0, 256] : Fin 4 → ℕ) a + S1x1x2048x256.size a ≤ S1x1x2048x512.size a) (y : S1024x256.Idx) :
    k0_pay2 (F := Ideal) (k0_pay6 rows (View.ld p (Rect.unit (s := S1x1x2048x512) ![0, 0, 0, 256] S1x1x2048x256.size h4)))
        (k0_pay7 rows (View.ld q (Rect.unit (s := S1x1x2048x512) ![0, 0, 0, 256] S1x1x2048x256.size h4)))
        (k0_pay8 rows (View.ld p (Rect.unit (s := S1x1x2048x512) ![0, 0, 0, 256] S1x1x2048x256.size h4))) y
      = block rows p q ((Rect.unit (s := S1024x512) ![0, 256] S1024x256.size h2).emb y) := by
  obtain ⟨r, d, rfl⟩ : ∃ (r : Fin 1024) (d : Fin 256), y = ix2 r d := ⟨y 0, y 1, eq_ix2 y⟩
  obtain ⟨j, hj⟩ : ∃ j : Fin 512, j.val = 256 + d.val := ⟨⟨256 + d.val, by omega⟩, rfl⟩
  rw [place 256 256 h2 r d j hj]
  refine (pay2_apply rows r _ _ d).trans ?_
  exact congrArg₂ (cell _) (funext fun k => cols_apply p 256 256 h4 k d j hj) (funext fun k => cols_apply q 256 256 h4 k d j hj)

theorem last_first_piece (h2 : ∀ a, (![0, 0] : Fin 2 → ℕ) a + S1024x256.size a ≤ S1024x512.size a)
    (h4 : ∀ a, (![0, 0, 0, 0] : Fin 4 → ℕ) a + S1x1x2048x256.size a ≤ S1x1x2048x512.size a)
    (h4' : ∀ a, (![0, 0, 0, 128] : Fin 4 → ℕ) a + S1x1x2048x256.size a ≤ S1x1x2048x512.size a) (y : S1024x256.Idx) :
    k0_pay9 (F := Ideal) rows (View.ld p (Rect.unit (s := S1x1x2048x512) ![0, 0, 0, 0] S1x1x2048x256.size h4))
        (View.ld q (Rect.unit (s := S1x1x2048x512) ![0, 0, 0, 128] S1x1x2048x256.size h4')) y
      = lastBlock rows p q ((Rect.unit (s := S1024x512) ![0, 0] S1024x256.size h2).emb y) := by
  obtain ⟨r, d, rfl⟩ : ∃ (r : Fin 1024) (d : Fin 256), y = ix2 r d := ⟨y 0, y 1, eq_ix2 y⟩
  obtain ⟨j, hj⟩ : ∃ j : Fin 512, j.val = 0 + d.val := ⟨⟨0 + d.val, by omega⟩, rfl⟩
  rw [place 0 256 h2 r d j hj]
  refine (pay5_apply rows r _ _ d).trans (Eq.trans ?_ (lastBlock_channel rows p q r j (by omega)).symm)
  exact congrArg₂ (cell _) (funext fun k => cols_apply p 0 256 h4 k d j hj)
    (funext fun k => cols_apply q 128 256 h4' k d _ (show 128 + j.val = 128 + d.val by omega))

theorem last_second_piece (h2 : ∀ a, (![0, 256] : Fin 2 → ℕ) a + S1024x128.size a ≤ S1024x512.size a)
    (h4 : ∀ a, (![0, 0, 0, 256] : Fin 4 → ℕ) a + S1x1x2048x128.size a ≤ S1x1x2048x512.size a)
    (h4' : ∀ a, (![0, 0, 0, 384] : Fin 4 → ℕ) a + S1x1x2048x128.size a ≤ S1x1x2048x512.size a) (y : S1024x128.Idx) :
    k0_pay3 (F := Ideal) (k0_pay10 rows (View.ld p (Rect.unit (s := S1x1x2048x512) ![0, 0, 0, 256] S1x1x2048x128.size h4)))
        (k0_pay11 rows (View.ld q (Rect.unit (s := S1x1x2048x512) ![0, 0, 0, 384] S1x1x2048x128.size h4')))
        (k0_pay12 rows (View.ld p (Rect.unit (s := S1x1x2048x512) ![0, 0, 0, 256] S1x1x2048x128.size h4))) y
      = lastBlock rows p q ((Rect.unit (s := S1024x512) ![0, 256] S1024x128.size h2).emb y) := by
  obtain ⟨r, d, rfl⟩ : ∃ (r : Fin 1024) (d : Fin 128), y = ix2 r d := ⟨y 0, y 1, eq_ix2 y⟩
  obtain ⟨j, hj⟩ : ∃ j : Fin 512, j.val = 256 + d.val := ⟨⟨256 + d.val, by omega⟩, rfl⟩
  rw [place 256 128 h2 r d j hj]
  refine (pay3_apply rows r _ _ d).trans (Eq.trans ?_ (lastBlock_channel rows p q r j (by omega)).symm)
  exact congrArg₂ (cell _) (funext fun k => cols_apply p 256 128 h4 k d j hj)
    (funext fun k => cols_apply q 384 128 h4' k d _ (show 128 + j.val = 384 + d.val by omega))

theorem last_zeros (h2 : ∀ a, (![0, 384] : Fin 2 → ℕ) a + S1024x128.size a ≤ S1024x512.size a) (y : S1024x128.Idx) :
    k0_pay4 (F := Ideal) y = lastBlock rows p q ((Rect.unit (s := S1024x512) ![0, 384] S1024x128.size h2).emb y) := by
  obtain ⟨r, d, rfl⟩ : ∃ (r : Fin 1024) (d : Fin 128), y = ix2 r d := ⟨y 0, y 1, eq_ix2 y⟩
  obtain ⟨j, hj⟩ : ∃ j : Fin 512, j.val = 384 + d.val := ⟨⟨384 + d.val, by omega⟩, rfl⟩
  rw [place 384 128 h2 r d j hj]
  exact Ideal.ofBits_zero_bf16.trans (lastBlock_past rows p q r j (by omega)).symm

end Pieces

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S1x1x2048x512 .f32) (h4 : a4.IsWhole) (a5 : Memref sig .tc .vmem S1x1x2048x512 .f32) (h5 : a5.IsWhole)
  (a6 : Memref sig .tc .vmem S1024x512 .bf16) (h6 : a6.IsWhole) (a7 : Memref sig .tc .vmem S1024x2048 .bf16) (h7 : a7.IsWhole)
  (x0 : Vec Ideal S1024x2048 .f32) (x1 : Vec Ideal S1x2048 .f32) (x2 x3 : Vec Ideal S1x1x2048x512 .f32) (xs : Vec Ideal S1024x2048 .bf16)

/-- The first channel block's point keeps the normed rows. -/
theorem rows_first (hc0 : cond0_0 i) (hc1 : cond0_1 i) (hc2 : ¬cond0_2 i) :
    sout0_A_0 c i a2 h2 a3 h3 a4 h4 a5 h5 a6 h6 a7 h7 hc0 hc1 hc2 x0 x1 x2 x3 = k0_pay1 x0 x1 := by
  unfold sout0_A_0
  rw [View.read_writes_eq_canon _ _ _ (scover0_A_0 c i a2 h2 a3 h3 a4 h4 a5 h5 a6 h6 a7 h7 hc0 hc1 hc2 x0 x1 x2 x3)]
  unfold kernelRun0_A
  dsimp only
  sl_unfold_words
  rw [View.canon_unit_zero zeros2]
  simp only [View.readAt_eq_ld, h2.read_unread, h3.read_unread, View.ld_unit_zero (S := S1024x2048) zeros2, View.ld_unit_zero (S := S1x2048) zeros2]

theorem out_first (hc0 : cond0_0 i) (hc1 : cond0_1 i) (hc2 : ¬cond0_2 i) :
    out0_A_4 c i a2 h2 a3 h3 a4 h4 a5 h5 a6 h6 a7 h7 hc0 hc1 hc2 x0 x1 x2 x3 = block (k0_pay1 x0 x1) x2 x3 := by
  have hcov := cover0_A_4 c i a2 h2 a3 h3 a4 h4 a5 h5 a6 h6 a7 h7 hc0 hc1 hc2 x0 x1 x2 x3
  unfold out0_A_4
  rw [View.read_writes_eq_canon _ _ _ hcov]
  funext y
  refine View.canon_apply_of_pieces (Val := Elt Ideal) (e := .bf16) (block (k0_pay1 x0 x1) x2 x3) _ ?_ y (hcov y)
  unfold kernelRun0_A
  dsimp only
  sl_unfold_words
  rw [View.readCov_unit_zero (S := S1024x2048) _ zeros2]
  simp only [View.readAt_eq_ld, h2.read_unread, h3.read_unread, h4.read_unread, h5.read_unread, View.ld_unit_zero (S := S1024x2048) zeros2,
    View.ld_unit_zero (S := S1x2048) zeros2, List.mem_cons, List.not_mem_nil, or_false, forall_eq_or_imp, forall_eq]
  exact ⟨second_piece _ x2 x3 _ _, first_piece _ x2 x3 _ _⟩

theorem out_middle (hc0 : ¬cond0_0 i) (hc1 : cond0_1 i) (hc2 : ¬cond0_2 i) :
    out0_B_4 c i a2 h2 a3 h3 a4 h4 a5 h5 a6 h6 a7 h7 hc0 hc1 hc2 x0 x1 x2 x3 xs = block xs x2 x3 := by
  have hcov := cover0_B_4 c i a2 h2 a3 h3 a4 h4 a5 h5 a6 h6 a7 h7 hc0 hc1 hc2 x0 x1 x2 x3 xs
  unfold out0_B_4
  rw [View.read_writes_eq_canon _ _ _ hcov]
  funext y
  refine View.canon_apply_of_pieces (Val := Elt Ideal) (e := .bf16) (block xs x2 x3) _ ?_ y (hcov y)
  unfold kernelRun0_B
  dsimp only
  sl_unfold_words
  simp only [View.readAt_eq_ld, h4.read_unread, h5.read_unread, h7.read_unread, View.ld_unit_zero (S := S1024x2048) zeros2,
    List.mem_cons, List.not_mem_nil, or_false, forall_eq_or_imp, forall_eq]
  exact ⟨second_piece _ x2 x3 _ _, first_piece _ x2 x3 _ _⟩

theorem out_last (hc0 : ¬cond0_0 i) (hc1 : ¬cond0_1 i) (hc2 : cond0_2 i) :
    out0_C_4 c i a2 h2 a3 h3 a4 h4 a5 h5 a6 h6 a7 h7 hc0 hc1 hc2 x0 x1 x2 x3 xs = lastBlock xs x2 x3 := by
  have hcov := cover0_C_4 c i a2 h2 a3 h3 a4 h4 a5 h5 a6 h6 a7 h7 hc0 hc1 hc2 x0 x1 x2 x3 xs
  unfold out0_C_4
  rw [View.read_writes_eq_canon _ _ _ hcov]
  funext y
  refine View.canon_apply_of_pieces (Val := Elt Ideal) (e := .bf16) (lastBlock xs x2 x3) _ ?_ y (hcov y)
  unfold kernelRun0_C
  dsimp only
  sl_unfold_words
  simp only [View.readAt_eq_ld, h4.read_unread, h5.read_unread, h7.read_unread, View.ld_unit_zero (S := S1024x2048) zeros2,
    List.mem_cons, List.not_mem_nil, or_false, forall_eq_or_imp, forall_eq]
  exact ⟨last_zeros xs x2 x3 _, last_second_piece xs x2 x3 _ _ _, last_first_piece xs x2 x3 _ _ _⟩

end Cases

variable (m : (ℓ : Loc nD τ sig) → Buf (Elt Ideal) ℓ) (ρ : Dev nD → PrngReg)

abbrev out (c : Dev nD) : Buf (Elt Ideal) ((c : Thread nD τ).loc main_v1) :=
  spec (m ((c : Thread nD τ).loc main_arg0)) (m ((c : Thread nD τ).loc main_arg1)) (m ((c : Thread nD τ).loc main_arg2))

theorem idx0 : ∀ t : Fin grid0.N, win0_0.index t 0 = t.val / 11 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 ∧ win0_2.index t 3 = t.val % 11 * 512 := by
  decide +kernel
theorem idx3 : ∀ t : Fin grid0.N, win0_3.index t 0 = 0 ∧ win0_3.index t 1 = 0 ∧ win0_3.index t 2 = 0
    ∧ win0_3.index t 3 = min (5504 + t.val % 11 * 512) 10496 := by decide +kernel
theorem idx4 : ∀ t : Fin grid0.N, win0_4.index t 0 = t.val / 11 ∧ win0_4.index t 1 = t.val % 11 := by decide +kernel

/-- The gains reach the region as one row. -/
theorem gains (c : Dev nD) (k : Fin 2048) : V m c main_v0 (ix2 (0 : Fin 1) k) = m ((c : Thread nD τ).loc main_arg1) (ix1 k) := by
  have h : V m c main_v0 = shapeCast S1x2048 (m ((c : Thread nD τ).loc main_arg1)) shapeCasts_S2048_S1x2048 := rfl
  rw [h]
  exact shapeCast_a_1a_apply _ _ 0 k

theorem iblk0_apply (c : Dev nD) (t : Fin cfg0.N) (r : Fin 1024) (k : Fin 2048) (i : Fin 8192) (h0 : i.val = t.val / 11 * 1024 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 1024 + 1 * r.val = i.val; omega
  | ⟨1, _⟩ => show win0_0.index t 1 * 2048 + 1 * k.val = k.val; omega

theorem iblk1_apply (c : Dev nD) (t : Fin cfg0.N) (k : Fin 2048) :
    iblk m c 1 t (ix2 (0 : Fin 1) k) = m ((c : Thread nD τ).loc main_arg1) (ix1 k) := by
  refine Eq.trans (congrArg (V m c main_v0) (funext fun a => Fin.ext ?_)) (gains m c k)
  obtain ⟨e0, e1⟩ := idx1 t
  match a with
  | ⟨0, _⟩ => show win0_1.index t 0 * 1 + 1 * 0 = 0; omega
  | ⟨1, _⟩ => show win0_1.index t 1 * 2048 + 1 * k.val = k.val; omega

/-- The gate's weights at a point. -/
theorem iblk2_apply (c : Dev nD) (t : Fin cfg0.N) (k : Fin 2048) (d : Fin 512) (j : Fin 11008) (h : j.val = t.val % 11 * 512 + d.val) :
    iblk m c 2 t (ix4 (0 : Fin 1) (0 : Fin 1) k d) = m ((c : Thread nD τ).loc main_arg2) (ix4 (0 : Fin 4) (0 : Fin 2) k j) := by
  refine (congrFun (V_main_arg2 m c) _).trans (congrArg _ (funext fun a => Fin.ext ?_))
  obtain ⟨e0, e1, e2, e3⟩ := idx2 t
  match a with
  | ⟨0, _⟩ => show win0_2.index t 0 + 1 * 0 = 0; omega
  | ⟨1, _⟩ => show win0_2.index t 1 + 1 * 0 = 0; omega
  | ⟨2, _⟩ => show win0_2.index t 2 + 1 * k.val = k.val; omega
  | ⟨3, _⟩ => show win0_2.index t 3 + 1 * d.val = j.val; omega

/-- The other half's weights at a point. -/
theorem iblk3_apply (c : Dev nD) (t : Fin cfg0.N) (k : Fin 2048) (d : Fin 512) (j : Fin 11008)
    (h : j.val = min (5504 + t.val % 11 * 512) 10496 + d.val) :
    iblk m c 3 t (ix4 (0 : Fin 1) (0 : Fin 1) k d) = m ((c : Thread nD τ).loc main_arg2) (ix4 (0 : Fin 4) (0 : Fin 2) k j) := by
  refine (congrFun (V_main_arg2 m c) _).trans (congrArg _ (funext fun a => Fin.ext ?_))
  obtain ⟨e0, e1, e2, e3⟩ := idx3 t
  match a with
  | ⟨0, _⟩ => show win0_3.index t 0 + 1 * 0 = 0; omega
  | ⟨1, _⟩ => show win0_3.index t 1 + 1 * 0 = 0; omega
  | ⟨2, _⟩ => show win0_3.index t 2 + 1 * k.val = k.val; omega
  | ⟨3, _⟩ => show win0_3.index t 3 + 1 * d.val = j.val; omega

/-- The rows of a row block's first point, normed. -/
theorem rows_apply (c : Dev nD) (s : Fin cfg0.N) (r : Fin 1024) (i : Fin 8192) (hi : i.val = s.val / 11 * 1024 + r.val) :
    (fun k : Fin 2048 => k0_pay1 (iblk m c 0 s) (iblk m c 1 s) (ix2 r k))
      = normed (fun k => m ((c : Thread nD τ).loc main_arg0) (ix2 i k)) (fun k => m ((c : Thread nD τ).loc main_arg1) (ix1 k)) := by
  funext k
  refine (pay1_apply _ _ r k).trans ?_
  rw [funext fun k => iblk0_apply m c s r k i hi, funext fun k => iblk1_apply m c s k]

/-- The rows kept at a point are those its row block's first point `s` normed. -/
theorem kept_rows (c : Dev nD) (s : Fin cfg0.N) (h0 : s.val % 11 = 0) : ∀ (n : ℕ) (t : Fin cfg0.N), n ≤ 10 → t.val = s.val + n →
    (outsAt0 m c t.val t.isLt).2 = k0_pay1 (iblk m c 0 s) (iblk m c 1 s)
  | 0, t, _, ht => by
    obtain rfl : t = s := Fin.ext ht
    rw [outsAt0_A m c t h0 (by omega) (by omega)]
    dsimp only
    rw [rows_first]
  | n + 1, t, hn, ht => by
    obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    have ih := kept_rows c s h0 n u (by omega) (by omega)
    by_cases h2 : t.val % 11 = 10
    · rw [outsAt0_C m c t (by omega) (by omega) h2]
      dsimp only
      unfold sout0_C_0
      rw [hx _ _ hu, ih]
    · rw [outsAt0_B m c t (by omega) (by omega) h2]
      dsimp only
      unfold sout0_B_0
      rw [hx _ _ hu, ih]

/-- What a point leaves in the result's block, `s` being its row block's first point. -/
theorem after_eq (c : Dev nD) (s t : Fin cfg0.N) (h0 : s.val % 11 = 0) (hs : s.val / 11 = t.val / 11) : (outsAt0 m c t.val t.isLt).1
    = (if t.val % 11 = 10 then lastBlock else block) (k0_pay1 (iblk m c 0 s) (iblk m c 1 s)) (iblk m c 2 t) (iblk m c 3 t) := by
  by_cases ht : t.val % 11 = 0
  · obtain rfl : s = t := Fin.ext (by omega)
    rw [outsAt0_A m c s ht (by omega) (by omega), if_neg (by omega)]
    dsimp only
    rw [out_first]
  · obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    have hk := kept_rows m c s h0 (t.val % 11 - 1) u (by omega) (by omega)
    by_cases h2 : t.val % 11 = 10
    · rw [outsAt0_C m c t ht (by omega) h2, if_pos h2]
      dsimp only
      rw [hx _ _ hu, hk, out_last]
    · rw [outsAt0_B m c t ht (by omega) h2, if_neg h2]
      dsimp only
      rw [hx _ _ hu, hk, out_middle]

/-- That block is the block of the projection. -/
theorem block_eq (c : Dev nD) (s t : Fin cfg0.N) (hs : s.val / 11 = t.val / 11) (r : Fin 1024) (d : Fin 512) (i : Fin 8192) (j : Fin 5632)
    (hi : i.val = t.val / 11 * 1024 + r.val) (hj : j.val = t.val % 11 * 512 + d.val) :
    (if t.val % 11 = 10 then lastBlock else block) (k0_pay1 (iblk m c 0 s) (iblk m c 1 s)) (iblk m c 2 t) (iblk m c 3 t) (ix2 r d)
      = out m c (ix2 i j) := by
  have hr := rows_apply m c s r i (by omega)
  have hd := d.isLt
  by_cases h2 : t.val % 11 = 10
  · rw [if_pos h2]
    by_cases h : d.val < 384
    · refine (lastBlock_channel _ _ _ r d h).trans (Eq.trans ?_ (spec_channel _ _ _ i j (by omega)).symm)
      refine congr (congrArg₂ cell hr ?_) ?_ <;> funext k
      · exact iblk2_apply m c t k d _ hj
      · exact iblk3_apply m c t k _ _ (show 5504 + j.val = min (5504 + t.val % 11 * 512) 10496 + (128 + d.val) by omega)
    · exact (lastBlock_past _ _ _ r d h).trans (spec_past _ _ _ i j (by omega)).symm
  · rw [if_neg h2]
    refine Eq.trans ?_ (spec_channel _ _ _ i j (by omega)).symm
    refine congr (congrArg₂ cell hr ?_) ?_ <;> funext k
    · exact iblk2_apply m c t k d _ hj
    · exact iblk3_apply m c t k d _ (show 5504 + j.val = min (5504 + t.val % 11 * 512) 10496 + d.val by omega)

/-- What a point writes back is its block of the projection. -/
theorem flushed_eq (c : Dev nD) (t : Fin cfg0.N) :
    (dats m 0 c).flushed 4 t = ((cfg0.win 4).blk t).view.read (Elt Ideal) (out m c) := by
  have ht : t.val < 88 := lt_of_lt_of_eq t.isLt N_0
  obtain ⟨s, hs⟩ : ∃ s : Fin cfg0.N, s.val = t.val / 11 * 11 := ⟨⟨t.val / 11 * 11, lt_of_lt_of_eq (by omega : t.val / 11 * 11 < 88) N_0.symm⟩, rfl⟩
  show (cfg0.win 4).cut (grid0.coords t) ((dats m 0 c).after 4 t) = _
  rw [after0_4, after_eq m c s t (by omega) (by omega)]
  funext y
  obtain ⟨r, d, rfl⟩ : ∃ (r : Fin 1024) (d : Fin 512), y = ix2 r d := ⟨y 0, y 1, eq_ix2 y⟩
  have hr := r.isLt; have hd := d.isLt
  obtain ⟨i, hi⟩ : ∃ i : Fin 8192, i.val = t.val / 11 * 1024 + r.val := ⟨⟨_, by omega⟩, rfl⟩
  obtain ⟨j, hj⟩ : ∃ j : Fin 5632, j.val = t.val % 11 * 512 + d.val := ⟨⟨_, by omega⟩, rfl⟩
  have he : (win0_4.blk t).view.emb (ix2 r d) = ix2 i j := by
    obtain ⟨e0, e1⟩ := idx4 t
    funext a; refine Fin.ext ?_
    match a with
    | ⟨0, _⟩ => show win0_4.index t 0 * 1024 + 1 * r.val = i.val; omega
    | ⟨1, _⟩ => show win0_4.index t 1 * 512 + 1 * d.val = j.val; omega
  refine (block_eq m c s t (by omega) r d i j hi hj).trans ?_
  rw [← he]
  rfl

/-- The points' blocks tile the result. -/
theorem cover (i : S8192x5632.Idx) : ∃ t : Fin cfg0.N, (cfg0.win 4).flush t = true ∧ i ∈ ((cfg0.win 4).blk t).view.set := by
  have h0 : (i 0 : Nat) < 8192 := (i 0).isLt
  have h1 : (i 1 : Nat) < 5632 := (i 1).isLt
  obtain ⟨t, ht⟩ : ∃ t : Fin cfg0.N, t.val = (i 0).val / 1024 * 11 + (i 1).val / 512 := ⟨⟨_, by rw [show cfg0.N = 88 from N_0]; omega⟩, rfl⟩
  refine ⟨t, flush0_4 _, ?_⟩
  show i ∈ ((View.whole main_v1).slice (win0_4.rect t)).set
  rw [View.set_slice_whole, Rect.mem_set_unit]
  obtain ⟨e0, e1⟩ := idx4 t
  intro a
  match a with
  | ⟨0, _⟩ => show win0_4.index t 0 * 1024 ≤ (i 0 : Nat) ∧ (i 0 : Nat) < win0_4.index t 0 * 1024 + 1024; omega
  | ⟨1, _⟩ => show win0_4.index t 1 * 512 ≤ (i 1 : Nat) ∧ (i 1 : Nat) < win0_4.index t 1 * 512 + 512; omega

theorem final (c : Dev nD) : (dats m 0 c).arrAt 4 cfg0.N = out m c :=
  (dats m 0 c).arrAt_eq_of_cover 4 (out m c) (fun t _ => flushed_eq m c t) cover

/-- The kernel's run: the result holds the projection, and the arguments are as they were. -/
theorem run : θ_run defs (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 4).trans (final m c), h.1 c⟩) (θ_run_and (unchanged m ρ) (run_main m ρ))

end Cert.GateKernelIdeal.Project

namespace Cert.GateReferenceIdeal.Project

open Cert.GateReferenceIdeal Cert.GateReferenceIdeal.Gen Cert.GateReferenceIdeal.Read
open Cert.GateKernelIdeal.Project (spec gated cell spec_channel spec_past)

variable (x0 : (⟨S8192x2048, .f32⟩ : BufTy).Contents (Elt Ideal)) (x1 : (⟨S2048, .f32⟩ : BufTy).Contents (Elt Ideal))
  (x2 : (⟨S4x2x2048x11008, .f32⟩ : BufTy).Contents (Elt Ideal))

/-- The normed rows. -/
theorem rows (r : Fin 8192) (k : Fin 2048) : val_main_v12 (F := Ideal) x0 x1 (ix2 r k)
    = normed (fun k => x0 (ix2 r k)) (fun k => x1 (ix1 k)) k :=
  host_rms_apply x0 x1 _ (by decide) _ _ _ _ _ _ r k

/-- The layer's weights. -/
theorem weight (k : Fin 2048) (d : Fin 11008) : val_main_v14 (F := Ideal) x2 (ix2 k d) = x2 (ix4 (0 : Fin 4) (0 : Fin 2) k d) := by
  rw [val_main_v14_apply, val_main_v13_apply]
  refine congrArg x2 (funext fun a => Fin.ext ?_)
  have hk := k.isLt; have hd := d.isLt
  match a with
  | ⟨0, _⟩ => rfl
  | ⟨1, _⟩ => rfl
  | ⟨2, _⟩ => show (k.val * 11008 + d.val) / 11008 % 2048 = k.val; omega
  | ⟨3, _⟩ => show (k.val * 11008 + d.val) % 11008 = d.val; omega

/-- The product. -/
theorem product (r : Fin 8192) (d : Fin 11008) : val_main_v15 (F := Ideal) x0 x1 x2 (ix2 r d)
    = ∑ k : Fin 2048, normed (fun k => x0 (ix2 r k)) (fun k => x1 (ix1 k)) k * x2 (ix4 (0 : Fin 4) (0 : Fin 2) k d) := by
  rw [val_main_v15_apply]
  refine Finset.sum_congr rfl fun k _ => ?_
  rw [show lidx_main_v15 (ix2 r d) k = ix2 r k from by funext a; match a with | ⟨0, _⟩ => rfl | ⟨1, _⟩ => rfl,
    show ridx_main_v15 (ix2 r d) k = ix2 k d from by funext a; match a with | ⟨0, _⟩ => rfl | ⟨1, _⟩ => rfl, rows, weight]

/-- The gated channels, before the padding. -/
theorem channel (r : Fin 8192) (d : Fin 5504) (p q : Fin 11008) (hp : p.val = d.val) (hq : q.val = 5504 + d.val) :
    val_main_v20 (F := Ideal) x0 x1 x2 (ix2 r d) = cell (normed (fun k => x0 (ix2 r k)) fun k => x1 (ix1 k))
      (fun k => x2 (ix4 (0 : Fin 4) (0 : Fin 2) k p)) fun k => x2 (ix4 (0 : Fin 4) (0 : Fin 2) k q) := by
  have h16 : idx_main_v16 (ix2 r d) = ix2 r p := by
    funext a; refine Fin.ext ?_
    match a with
    | ⟨0, _⟩ => rfl
    | ⟨1, _⟩ => exact hp.symm
  have h17 : idx_main_v17 (ix2 r d) = ix2 r q := by
    funext a; refine Fin.ext ?_
    match a with
    | ⟨0, _⟩ => rfl
    | ⟨1, _⟩ => exact hq.symm
  rw [val_main_v20_apply, val_main_v19_apply, val_main_v18_apply, val_main_call0_v5_apply, val_main_call0_v3_apply, val_main_call0_v1_apply,
    val_main_call0_v0_apply, val_main_call0_v4_apply, val_main_call0_v2_apply, val_main_call0_cst_apply, val_main_call0_cst_0_apply,
    val_main_v16_apply, val_main_v17_apply, h16, h17, product, product]
  rfl

theorem result_eq (r : Fin 8192) (d : Fin 5632) : val_main_v21 (F := Ideal) x0 x1 x2 (ix2 r d) = spec x0 x1 x2 (ix2 r d) := by
  unfold val_main_v21
  by_cases h : d.val < 5504
  · refine Eq.trans (pad_apply_of_inside _ _ _ _ _ _ _ (ix2 r d) (ix2 r (⟨d.val, h⟩ : Fin 5504)) fun a => ?_)
      ((channel x0 x1 x2 r ⟨d.val, h⟩ _ _ rfl rfl).trans (spec_channel x0 x1 x2 r d h).symm)
    match a with
    | ⟨0, _⟩ => show r.val = 0 + r.val * (0 + 1); omega
    | ⟨1, _⟩ => show d.val = 0 + d.val * (0 + 1); omega
  · refine (pad_apply_of_not_inside _ _ _ _ _ _ _ (ix2 r d) (1 : Fin 2) ?_).trans (Eq.trans ?_ (spec_past x0 x1 x2 r d h).symm)
    · show ¬(0 ≤ d.val ∧ (d.val - 0) % (0 + 1) = 0 ∧ (d.val - 0) / (0 + 1) < 5504)
      omega
    · rw [val_main_call1_v0_apply, val_main_c_apply]
      show (((0#32 : BitVec 32).toInt : ℝ) : EReal) = 0
      simp

end Cert.GateReferenceIdeal.Project

namespace Cert.Proof

/-- The kernel and the reference agree over the extended reals. -/
theorem algebraic_Gate : Cert.algebraic_GateKernelIdeal_GateReferenceIdeal := by
  intro m ρ m' ρ' _ hagree
  refine ⟨fun c => Cert.GateKernelIdeal.Project.out m c, Cert.GateKernelIdeal.Project.run m ρ, ?_⟩
  refine (θ_run Cert.GateReferenceIdeal.defs _ _).mono (fun _ h c => ⟨(h c).1.trans ?_, (h c).2⟩)
    (Cert.GateReferenceIdeal.Value.run (F := Ideal) m' ρ')
  obtain ⟨h0, h1, h2⟩ := hagree c
  show Cert.GateReferenceIdeal.Read.val_main_v21 (F := Ideal) (m' ((c.tc : Thread Cert.GateReferenceIdeal.nD Cert.GateReferenceIdeal.τ).loc Cert.GateReferenceIdeal.main_arg0))
    (m' ((c.tc : Thread Cert.GateReferenceIdeal.nD Cert.GateReferenceIdeal.τ).loc Cert.GateReferenceIdeal.main_arg1))
    (m' ((c.tc : Thread Cert.GateReferenceIdeal.nD Cert.GateReferenceIdeal.τ).loc Cert.GateReferenceIdeal.main_arg2)) = _
  rw [h0, h1, h2]
  funext i
  rw [eq_ix2 i]
  exact Cert.GateReferenceIdeal.Project.result_eq _ _ _ _ _

end Cert.Proof

end
-- ==== Proof.Down.lean ====
/- The feed-forward's second projection: the kernel takes the product over the hidden channels in two overlapping chunks, with the
   overlap masked in the second, and the reference in one; both end with the residual plus half the normed product. -/
module

public import proofs.«01_k».proof.Defs
public import proofs.«01_k».proof.Proof.Common
public import proofs.«01_k».proof.Proof.Gen.DownKernelIdeal.Frame
public import proofs.«01_k».proof.Proof.Gen.DownReferenceIdeal.Run
public import proofs.«01_k».proof.Proof.Gen.DownReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.DownKernelIdeal.Project

open Cert.DownKernelIdeal Cert.DownKernelIdeal.Gen

/-- One half, as printed on both sides. -/
abbrev half : EReal := Ideal.ofBits .f32 0x3F000000#32

/-- A row of the product, at channel `d`. -/
def row (f : Fin 5504 → EReal) (w : Fin 5504 → Fin 2048 → EReal) (d : Fin 2048) : EReal := ∑ k : Fin 5504, f k * w k d

/-- A hidden channel among the stored ones. -/
abbrev chan (k : Fin 5504) : Fin 5632 := Fin.castLE (by decide) k

/-- What the projection is, at row `i 0`, channel `i 1`. -/
def spec (a : S8192x5632.Idx → EReal) (w : S4x2x5504x2048.Idx → EReal) (g : S2048.Idx → EReal) (h : S8192x2048.Idx → EReal)
    (i : S8192x2048.Idx) : EReal :=
  h i + half * normed (row (fun k => a (ix2 (i 0) (chan k))) fun k d => w (ix4 (0 : Fin 4) (0 : Fin 2) k d)) (fun d => g (ix1 d)) (i 1)

theorem zeros2 : (![0, 0] : Fin 2 → ℕ) = fun _ => 0 := funext fun a => by fin_cases a <;> rfl
theorem zeros4 : (![0, 0, 0, 0] : Fin 4 → ℕ) = fun _ => 0 := funext fun a => by fin_cases a <;> rfl

/-- The first `n` columns of a rectangle replaced by `z`. -/
theorem mask_apply {a b : ℕ} {α : Type} (n : ℕ) (hb : b < 2 ^ 31) (hn : n < 2 ^ 31) (h : (⟨2, ![a, b]⟩ : Shape).Iotas .tc 32 [1]) (z : α)
    (x : (⟨2, ![a, b]⟩ : Shape).Idx → α) (r : Fin a) (k : Fin b) :
    select (cmpi .slt (iota .tc ⟨2, ![a, b]⟩ 32 [1] h) (broadcast ⟨2, ![a, b]⟩ (BitVec.ofNat 32 n))) (broadcast ⟨2, ![a, b]⟩ z) x (ix2 r k)
      = if k.val < n then z else x (ix2 r k) := by
  have hk := k.isLt
  rw [select_apply]
  show Scalar.select (IntOp.cmpi .slt (BitVec.ofNat 32 (0 * b + k.val)) (BitVec.ofNat 32 n)) z _ = _
  rw [Nat.zero_mul, Nat.zero_add, WordCmp.cmpi_slt_ofNat (by omega) (by omega)]
  by_cases hkn : k.val < n <;> simp [hkn, Scalar.select]

/-- What a chunk adds to the accumulator, at an index: the first `n` columns of its block do not count. -/
theorem pay2_apply (n : ℕ) (hn : n < 2 ^ 31) (i : grid0.Coords)
    (hi : Scalar.select (Scalar.cmpi .eq (BitVec.ofNat 32 (i 1).val) 1#32) 128#32 0#32 = BitVec.ofNat 32 n)
    (v3 : Vec Ideal S512x2816 .bf16) (v11 : Vec Ideal S512x2048 .f32) (v12 : Vec Ideal S1x1x2816x2048 .bf16) (r : Fin 512) (d : Fin 2048) :
    k0_pay2 i v3 v11 v12 (ix2 r d)
      = v11 (ix2 r d) + ∑ k : Fin 2816, (if k.val < n then 0 else v3 (ix2 r k)) * v12 (ix4 (0 : Fin 1) (0 : Fin 1) k d) := by
  unfold k0_pay2
  dsimp only
  rw [shapeCast_self, hi, addf_apply]
  refine congrArg (v11 (ix2 r d) + ·) ((matmul_apply dot_S512x2816_S2816x2048_S512x2048_1_0_0_1_n_n rfl none _ _ r d).trans ?_)
  refine Finset.sum_congr rfl fun k _ => congrArg₂ (· * ·) ((mask_apply n (by decide) hn _ _ v3 r k).trans ?_) ?_
  · rw [show (Scalar.ofBits .bf16 0x0000#16 : Ideal .bf16) = (0 : EReal) from Ideal.ofBits_zero_bf16]
  · refine shapeCast_apply v12 _ _ _ ?_
    rw [Shape.rowMajor_val_two, Shape.rowMajor_val_four]
    show ((0 * 1 + 0) * 2816 + k.val) * 2048 + d.val = k.val * 2048 + d.val
    omega

/-- What the last chunk stores, at an index. -/
theorem pay3_apply (v22 v23 : Vec Ideal S512x2048 .f32) (v24 : Vec Ideal S1x2048 .f32) (r : Fin 512) (d : Fin 2048) :
    k0_pay3 v22 v23 v24 (ix2 r d)
      = v22 (ix2 r d) + half * normed (fun d => v23 (ix2 r d)) (fun d => v24 (ix2 (0 : Fin 1) d)) d := by
  unfold k0_pay3
  dsimp only
  rw [addf_apply, mulf_apply]
  exact congrArg (fun z => v22 (ix2 r d) + half * z) (rms_apply v23 v24 _ _ _ _ _ r d)

theorem pay1_apply (j : S512x2048.Idx) : k0_pay1 (F := Ideal) j = 0 := by
  unfold k0_pay1
  rw [shapeCast_self]
  exact Ideal.ofBits_zero_f32

section Cases

variable (c : Dev nD) (i : grid0.Coords) (a2 : Memref sig .tc .vmem S512x2816 .bf16) (h2 : a2.IsWhole) (a3 : Memref sig .tc .vmem S1x1x2816x2048 .bf16)
  (h3 : a3.IsWhole) (a4 : Memref sig .tc .vmem S1x2048 .f32) (h4 : a4.IsWhole) (a5 : Memref sig .tc .vmem S512x2048 .f32) (h5 : a5.IsWhole)
  (a6 : Memref sig .tc .vmem S512x2048 .f32) (h6 : a6.IsWhole) (a7 : Memref sig .tc .vmem S512x2048 .f32) (h7 : a7.IsWhole)
  (x0 : Vec Ideal S512x2816 .bf16) (x1 : Vec Ideal S1x1x2816x2048 .bf16) (x2 : Vec Ideal S1x2048 .f32) (x3 xs : Vec Ideal S512x2048 .f32)

/-- The first chunk leaves its product in the accumulator. -/
theorem acc_first (hc0 : cond0_0 i) (hc1 : ¬cond0_1 i) :
    sout0_A_0 c i a2 h2 a3 h3 a4 h4 a5 h5 a6 h6 a7 h7 hc0 hc1 x0 x1 x2 x3 = k0_pay2 i x0 (k0_pay1 (F := Ideal)) x1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x2048) zeros2, View.readCov_unit_zero (S := S512x2048) _ zeros2]
  simp only [View.readAt_eq_ld, h2.read_unread, h3.read_unread, View.ld_unit_zero (S := S512x2816) zeros2,
    View.ld_unit_zero (S := S1x1x2816x2048) zeros4]

/-- The last chunk leaves the projection's block, of the accumulator it finds. -/
theorem out_last (hc0 : ¬cond0_0 i) (hc1 : cond0_1 i) :
    out0_B_4 c i a2 h2 a3 h3 a4 h4 a5 h5 a6 h6 a7 h7 hc0 hc1 x0 x1 x2 x3 xs = k0_pay3 x3 (k0_pay2 i x0 xs x1) x2 := by
  unfold out0_B_4
  rw [View.read_writes_eq_canon _ _ _ (cover0_B_4 c i a2 h2 a3 h3 a4 h4 a5 h5 a6 h6 a7 h7 hc0 hc1 x0 x1 x2 x3 xs)]
  unfold kernelRun0_B
  dsimp only
  sl_unfold_words
  rw [View.canon_unit_zero zeros2, View.readCov_unit_zero (S := S512x2048) _ zeros2]
  simp only [View.readAt_eq_ld, h2.read_unread, h3.read_unread, h4.read_unread, h5.read_unread, h7.read_unread,
    View.ld_unit_zero (S := S512x2816) zeros2, View.ld_unit_zero (S := S1x1x2816x2048) zeros4, View.ld_unit_zero (S := S512x2048) zeros2,
    View.ld_unit_zero (S := S1x2048) zeros2]

end Cases

variable (m : (ℓ : Loc nD τ sig) → Buf (Elt Ideal) ℓ) (ρ : Dev nD → PrngReg)

abbrev out (c : Dev nD) : Buf (Elt Ideal) ((c : Thread nD τ).loc main_v1) :=
  spec (m ((c : Thread nD τ).loc main_arg0)) (m ((c : Thread nD τ).loc main_arg1)) (m ((c : Thread nD τ).loc main_arg2))
    (m ((c : Thread nD τ).loc main_arg3))

theorem idx0 : ∀ t : Fin grid0.N, win0_0.index t 0 = t.val / 2 * 512 ∧ win0_0.index t 1 = t.val % 2 * 2688 := by decide +kernel
theorem idx1 : ∀ t : Fin grid0.N, win0_1.index t 0 = 0 ∧ win0_1.index t 1 = 0 ∧ win0_1.index t 2 = t.val % 2 * 2688 ∧ win0_1.index t 3 = 0 := by
  decide +kernel
theorem idx2 : ∀ t : Fin grid0.N, win0_2.index t 0 = 0 ∧ win0_2.index t 1 = 0 := by decide +kernel
theorem idx3 : ∀ t : Fin grid0.N, win0_3.index t 0 = t.val / 2 ∧ win0_3.index t 1 = 0 := by decide +kernel
theorem idx4 : ∀ t : Fin grid0.N, win0_4.index t 0 = t.val / 2 ∧ win0_4.index t 1 = 0 := by decide +kernel

/-- How many of a chunk's first columns are masked. -/
theorem masked : ∀ t : Fin grid0.N, Scalar.select (Scalar.cmpi .eq (BitVec.ofNat 32 (grid0.coords t 1).val) 1#32) 128#32 0#32
    = BitVec.ofNat 32 (t.val % 2 * 128) := by decide +kernel

/-- The gains reach the region as one row. -/
theorem gains (c : Dev nD) (k : Fin 2048) : V m c main_v0 (ix2 (0 : Fin 1) k) = m ((c : Thread nD τ).loc main_arg2) (ix1 k) := by
  have h : V m c main_v0 = shapeCast S1x2048 (m ((c : Thread nD τ).loc main_arg2)) shapeCasts_S2048_S1x2048 := rfl
  rw [h]
  exact shapeCast_a_1a_apply _ _ 0 k

theorem iblk0_apply (c : Dev nD) (t : Fin cfg0.N) (r : Fin 512) (k : Fin 2816) (i : Fin 8192) (j : Fin 5632)
    (h0 : i.val = t.val / 2 * 512 + r.val) (h1 : j.val = t.val % 2 * 2688 + k.val) :
    iblk m c 0 t (ix2 r k) = m ((c : Thread nD τ).loc main_arg0) (ix2 i j) := by
  refine (congrFun (V_main_arg0 m c) _).trans (congrArg _ (funext fun a => Fin.ext ?_))
  obtain ⟨e0, e1⟩ := idx0 t
  match a with
  | ⟨0, _⟩ => show win0_0.index t 0 + 1 * r.val = i.val; omega
  | ⟨1, _⟩ => show win0_0.index t 1 + 1 * k.val = j.val; omega

theorem iblk1_apply (c : Dev nD) (t : Fin cfg0.N) (k : Fin 2816) (d : Fin 2048) (j : Fin 5504) (h1 : j.val = t.val % 2 * 2688 + k.val) :
    iblk m c 1 t (ix4 (0 : Fin 1) (0 : Fin 1) k d) = m ((c : Thread nD τ).loc main_arg1) (ix4 (0 : Fin 4) (0 : Fin 2) j d) := by
  refine (congrFun (V_main_arg1 m c) _).trans (congrArg _ (funext fun a => Fin.ext ?_))
  obtain ⟨e0, e1, e2, e3⟩ := idx1 t
  match a with
  | ⟨0, _⟩ => show win0_1.index t 0 + 1 * 0 = 0; omega
  | ⟨1, _⟩ => show win0_1.index t 1 + 1 * 0 = 0; omega
  | ⟨2, _⟩ => show win0_1.index t 2 + 1 * k.val = j.val; omega
  | ⟨3, _⟩ => show win0_1.index t 3 + 1 * d.val = d.val; omega

theorem iblk2_apply (c : Dev nD) (t : Fin cfg0.N) (k : Fin 2048) :
    iblk m c 2 t (ix2 (0 : Fin 1) k) = m ((c : Thread nD τ).loc main_arg2) (ix1 k) := by
  refine Eq.trans (congrArg (V m c main_v0) (funext fun a => Fin.ext ?_)) (gains m c k)
  obtain ⟨e0, e1⟩ := idx2 t
  match a with
  | ⟨0, _⟩ => show win0_2.index t 0 * 1 + 1 * 0 = 0; omega
  | ⟨1, _⟩ => show win0_2.index t 1 * 2048 + 1 * k.val = k.val; omega

theorem iblk3_apply (c : Dev nD) (t : Fin cfg0.N) (r : Fin 512) (k : Fin 2048) (i : Fin 8192) (h0 : i.val = t.val / 2 * 512 + r.val) :
    iblk m c 3 t (ix2 r k) = m ((c : Thread nD τ).loc main_arg3) (ix2 i k) := by
  refine (congrFun (V_main_arg3 m c) _).trans (congrArg _ (funext fun a => Fin.ext ?_))
  obtain ⟨e0, e1⟩ := idx3 t
  match a with
  | ⟨0, _⟩ => show win0_3.index t 0 * 512 + 1 * r.val = i.val; omega
  | ⟨1, _⟩ => show win0_3.index t 1 * 2048 + 1 * k.val = k.val; omega

/-- The two chunks' sums make the whole sum: the second starts 128 terms before the first one's end, and those are dropped. -/
theorem chunks (f : Fin 5504 → EReal) (p q : Fin 2816 → EReal) (hp : ∀ k, p k = f (Fin.castAdd 2688 k)) (hq : ∀ j : Fin 128, q (Fin.castAdd 2688 j) = 0)
    (hq' : ∀ j : Fin 2688, q (Fin.natAdd 128 j) = f (Fin.natAdd 2816 j)) : 0 + ∑ k, p k + ∑ k, q k = ∑ k, f k := by
  rw [zero_add]
  refine Eq.trans (congrArg₂ (· + ·) (Finset.sum_congr rfl fun k _ => hp k) ((Fin.sum_univ_add (a := 128) (b := 2688) q).trans ?_))
    (Fin.sum_univ_add (a := 2816) (b := 2688) f).symm
  rw [Finset.sum_congr rfl fun j _ => hq j, Finset.sum_congr rfl fun j _ => hq' j, Finset.sum_const_zero, zero_add]

/-- The accumulator after the first chunk. -/
theorem scratch_eq (c : Dev nD) (s : Fin cfg0.N) (h0 : s.val % 2 = 0) :
    (outsAt0 m c s.val s.isLt).2 = k0_pay2 (grid0.coords s) (iblk m c 0 s) (k0_pay1 (F := Ideal)) (iblk m c 1 s) := by
  rw [outsAt0_A m c s h0 (by omega)]
  dsimp only
  rw [acc_first]

/-- The accumulator after the last chunk, at point `t`, holds the product's row; `s` is the point before. -/
theorem acc_apply (c : Dev nD) (s t : Fin cfg0.N) (h0 : s.val % 2 = 0) (hs : t.val = s.val + 1) (r : Fin 512) (i : Fin 8192)
    (hi : i.val = t.val / 2 * 512 + r.val) (d : Fin 2048) :
    k0_pay2 (grid0.coords t) (iblk m c 0 t) (outsAt0 m c s.val s.isLt).2 (iblk m c 1 t) (ix2 r d)
      = row (fun k => m ((c : Thread nD τ).loc main_arg0) (ix2 i (chan k)))
          (fun k d => m ((c : Thread nD τ).loc main_arg1) (ix4 (0 : Fin 4) (0 : Fin 2) k d)) d := by
  rw [scratch_eq m c s h0]
  refine (pay2_apply (t.val % 2 * 128) (by omega) _ (masked t) _ _ _ r d).trans ?_
  refine (congrArg (· + _) ((pay2_apply (s.val % 2 * 128) (by omega) _ (masked s) _ _ _ r d).trans
    (congrArg (· + _) (pay1_apply _)))).trans ?_
  refine chunks _ _ _ (fun k => ?_) (fun j => ?_) (fun j => ?_)
  · rw [if_neg (by omega)]
    exact congrArg₂ (· * ·) (iblk0_apply m c s r k i _ (by omega) (by simp only [chan, Fin.val_castLE, Fin.val_castAdd]; omega))
      (iblk1_apply m c s k d _ (by simp only [Fin.val_castAdd]; omega))
  · have hj := j.isLt
    rw [if_pos (by simp only [Fin.val_castAdd]; omega), zero_mul]
  · have hj := j.isLt
    rw [if_neg (by simp only [Fin.val_natAdd]; omega)]
    exact congrArg₂ (· * ·) (iblk0_apply m c t r _ i _ hi (by simp only [chan, Fin.val_castLE, Fin.val_natAdd]; omega))
      (iblk1_apply m c t _ d _ (by simp only [Fin.val_natAdd]; omega))

/-- What a block's last point writes back is the block of the projection. -/
theorem flushed_eq (c : Dev nD) (t : Fin cfg0.N) (hf : (cfg0.win 4).flush t = true) :
    (dats m 0 c).flushed 4 t = ((cfg0.win 4).blk t).view.read (Elt Ideal) (out m c) := by
  have h1 : t.val % 2 = 1 := (flush0_4 t).mp hf
  obtain ⟨s, hs⟩ : ∃ s : Fin cfg0.N, s.val = t.val - 1 := ⟨⟨t.val - 1, Nat.lt_of_le_of_lt (Nat.sub_le _ _) t.isLt⟩, rfl⟩
  have hx : ∀ (n : ℕ) (hn : n < cfg0.N), s.val = n → outsAt0 m c n hn = outsAt0 m c s.val s.isLt := by rintro _ _ rfl; rfl
  show (cfg0.win 4).cut (grid0.coords t) ((dats m 0 c).after 4 t) = _
  rw [after0_4, outsAt0_B m c t (by omega) h1]
  dsimp only
  rw [hx _ _ hs, out_last]
  funext y
  show k0_pay3 (F := Ideal) _ _ _ y = out m c ((win0_4.blk t).view.emb y)
  obtain ⟨r, d, rfl⟩ : ∃ (r : Fin 512) (d : Fin 2048), y = ix2 r d := ⟨y 0, y 1, eq_ix2 y⟩
  have ht : t.val < 32 := lt_of_lt_of_eq t.isLt N_0
  have hr := r.isLt
  obtain ⟨i, hi⟩ : ∃ i : Fin 8192, i.val = t.val / 2 * 512 + r.val := ⟨⟨_, by omega⟩, rfl⟩
  have he : (win0_4.blk t).view.emb (ix2 r d) = ix2 i d := by
    obtain ⟨e0, e1⟩ := idx4 t
    funext a; refine Fin.ext ?_
    match a with
    | ⟨0, _⟩ => show win0_4.index t 0 * 512 + 1 * r.val = i.val; omega
    | ⟨1, _⟩ => show win0_4.index t 1 * 2048 + 1 * d.val = d.val; omega
  rw [he]
  refine (pay3_apply _ _ _ r d).trans ?_
  rw [iblk3_apply m c t r d i hi, funext fun d => acc_apply m c s t (by omega) (by omega) r i hi d, funext fun k => iblk2_apply m c t k]
  rfl

/-- The blocks tile the result. -/
theorem cover (i : S8192x2048.Idx) : ∃ t : Fin cfg0.N, (cfg0.win 4).flush t = true ∧ i ∈ ((cfg0.win 4).blk t).view.set := by
  have h0 : (i 0 : Nat) < 8192 := (i 0).isLt
  have h1 : (i 1 : Nat) < 2048 := (i 1).isLt
  obtain ⟨t, ht⟩ : ∃ t : Fin cfg0.N, t.val = (i 0).val / 512 * 2 + 1 := ⟨⟨_, by rw [show cfg0.N = 32 from N_0]; omega⟩, rfl⟩
  refine ⟨t, (flush0_4 t).mpr (by omega), ?_⟩
  show i ∈ ((View.whole main_v1).slice (win0_4.rect t)).set
  rw [View.set_slice_whole, Rect.mem_set_unit]
  obtain ⟨e0, e1⟩ := idx4 t
  intro a
  match a with
  | ⟨0, _⟩ => show win0_4.index t 0 * 512 ≤ (i 0 : Nat) ∧ (i 0 : Nat) < win0_4.index t 0 * 512 + 512; omega
  | ⟨1, _⟩ => show win0_4.index t 1 * 2048 ≤ (i 1 : Nat) ∧ (i 1 : Nat) < win0_4.index t 1 * 2048 + 2048; omega

theorem final (c : Dev nD) : (dats m 0 c).arrAt 4 cfg0.N = out m c :=
  (dats m 0 c).arrAt_eq_of_cover 4 (out m c) (fun t hf => flushed_eq m c t hf) cover

/-- The kernel's run: the result holds the projection, and the arguments are as they were. -/
theorem run : θ_run defs (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 4).trans (final m c), h.1 c⟩) (θ_run_and (unchanged m ρ) (run_main m ρ))

end Cert.DownKernelIdeal.Project

namespace Cert.DownReferenceIdeal.Project

open Cert.DownReferenceIdeal Cert.DownReferenceIdeal.Gen Cert.DownReferenceIdeal.Read
open Cert.DownKernelIdeal.Project (spec row chan half)

variable (x0 : (⟨S8192x5632, .bf16⟩ : BufTy).Contents (Elt Ideal)) (x1 : (⟨S4x2x5504x2048, .bf16⟩ : BufTy).Contents (Elt Ideal))
  (x2 : (⟨S2048, .f32⟩ : BufTy).Contents (Elt Ideal)) (x3 : (⟨S8192x2048, .f32⟩ : BufTy).Contents (Elt Ideal))

/-- The hidden channels that count. -/
theorem hidden (r : Fin 8192) (k : Fin 5504) : val_main_v1 (F := Ideal) x0 (ix2 r k) = x0 (ix2 r (chan k)) := by
  rw [val_main_v1_apply, val_main_v0_apply]
  refine congrArg x0 (funext fun a => Fin.ext ?_)
  match a with
  | ⟨0, _⟩ => rfl
  | ⟨1, _⟩ => rfl

/-- The layer's weights. -/
theorem weight (k : Fin 5504) (d : Fin 2048) : val_main_v4 (F := Ideal) x1 (ix2 k d) = x1 (ix4 (0 : Fin 4) (0 : Fin 2) k d) := by
  rw [val_main_v4_apply, val_main_v3_apply, val_main_v2_apply]
  refine congrArg x1 (funext fun a => Fin.ext ?_)
  have hk := k.isLt; have hd := d.isLt
  match a with
  | ⟨0, _⟩ => rfl
  | ⟨1, _⟩ => rfl
  | ⟨2, _⟩ => show (k.val * 2048 + d.val) / 2048 % 5504 = k.val; omega
  | ⟨3, _⟩ => show (k.val * 2048 + d.val) % 2048 = d.val; omega

/-- The product's row. -/
theorem product (r : Fin 8192) (d : Fin 2048) : val_main_v5 (F := Ideal) x0 x1 (ix2 r d)
    = row (fun k => x0 (ix2 r (chan k))) (fun k d => x1 (ix4 (0 : Fin 4) (0 : Fin 2) k d)) d := by
  rw [val_main_v5_apply]
  refine Finset.sum_congr rfl fun k _ => ?_
  rw [show lidx_main_v5 (ix2 r d) k = ix2 r k from by funext a; match a with | ⟨0, _⟩ => rfl | ⟨1, _⟩ => rfl,
    show ridx_main_v5 (ix2 r d) k = ix2 k d from by funext a; match a with | ⟨0, _⟩ => rfl | ⟨1, _⟩ => rfl, hidden, weight]

/-- A row's sum of squares, as the norm takes it. -/
theorem square (r : Fin 8192) : val_main_v7 (F := Ideal) x0 x1 (ix1 r)
    = ∑ k : Fin 2048, val_main_v5 (F := Ideal) x0 x1 (ix2 r k) * val_main_v5 (F := Ideal) x0 x1 (ix2 r k) := by
  rw [val_main_v7_apply, val_main_cst_apply]
  refine (congrArg (· + _) Ideal.ofBits_zero_f32).trans ((zero_add _).trans (Finset.sum_congr rfl fun k _ => ?_))
  rw [show idx_main_v7 (ix1 r) k = ix2 r k from by funext a; match a with | ⟨0, _⟩ => rfl | ⟨1, _⟩ => rfl, val_main_v6_apply]
  rfl

theorem result_eq (r : Fin 8192) (c : Fin 2048) : val_main_v21 (F := Ideal) x0 x1 x2 x3 (ix2 r c) = spec x0 x1 x2 x3 (ix2 r c) := by
  have h14 : idx_main_v14 (ix2 r c) = ix2 r (0 : Fin 1) := by funext a; match a with | ⟨0, _⟩ => rfl | ⟨1, _⟩ => rfl
  have h8 : idx_main_v8 (ix2 r (0 : Fin 1)) = ix1 r := by funext a; match a with | ⟨0, _⟩ => rfl
  have h17 : idx_main_v17 (ix2 r c) = ix2 (0 : Fin 1) c := by funext a; match a with | ⟨0, _⟩ => rfl | ⟨1, _⟩ => rfl
  have h16 : idx_main_v16 (ix2 (0 : Fin 1) c) = ix1 c := by funext a; match a with | ⟨0, _⟩ => rfl
  rw [val_main_v21_apply, val_main_v20_apply, val_main_v19_apply, val_main_cst_2_apply, val_main_v18_apply, val_main_v15_apply, val_main_v17_apply,
    h17, val_main_v16_apply, h16, val_main_v14_apply, h14, val_main_v13_apply, val_main_v12_apply, val_main_v10_apply, val_main_v8_apply, h8,
    square, val_main_v9_apply, val_main_v11_apply, val_main_cst_0_apply, val_main_cst_1_apply]
  have hp := funext fun k : Fin 2048 => product x0 x1 r k
  show x3 (ix2 r c) + half * normed (fun k : Fin 2048 => val_main_v5 (F := Ideal) x0 x1 (ix2 r k)) (fun k => x2 (ix1 k)) c = _
  rw [hp]
  rfl

end Cert.DownReferenceIdeal.Project

namespace Cert.Proof

/-- The kernel and the reference agree over the extended reals. -/
theorem algebraic_Down : Cert.algebraic_DownKernelIdeal_DownReferenceIdeal := by
  intro m ρ m' ρ' _ hagree
  refine ⟨fun c => Cert.DownKernelIdeal.Project.out m c, Cert.DownKernelIdeal.Project.run m ρ, ?_⟩
  refine (θ_run Cert.DownReferenceIdeal.defs _ _).mono (fun _ h c => ⟨(h c).1.trans ?_, (h c).2⟩)
    (Cert.DownReferenceIdeal.Value.run (F := Ideal) m' ρ')
  obtain ⟨h0, h1, h2, h3⟩ := hagree c
  show Cert.DownReferenceIdeal.Read.val_main_v21 (F := Ideal) (m' ((c.tc : Thread Cert.DownReferenceIdeal.nD Cert.DownReferenceIdeal.τ).loc Cert.DownReferenceIdeal.main_arg0))
    (m' ((c.tc : Thread Cert.DownReferenceIdeal.nD Cert.DownReferenceIdeal.τ).loc Cert.DownReferenceIdeal.main_arg1))
    (m' ((c.tc : Thread Cert.DownReferenceIdeal.nD Cert.DownReferenceIdeal.τ).loc Cert.DownReferenceIdeal.main_arg2))
    (m' ((c.tc : Thread Cert.DownReferenceIdeal.nD Cert.DownReferenceIdeal.τ).loc Cert.DownReferenceIdeal.main_arg3)) = _
  rw [h0, h1, h2, h3]
  funext i
  rw [eq_ix2 i]
  exact Cert.DownReferenceIdeal.Project.result_eq _ _ _ _ _ _

end Cert.Proof

end
-- ==== Proof.Out.lean ====
/- The mixer's output projection: the kernel and its reference both end with the residual plus the normed product of the two
   mixers' heads, side by side, and the layer's weights. -/
module

public import proofs.«01_k».proof.Defs
public import proofs.«01_k».proof.Proof.Common
public import proofs.«01_k».proof.Proof.Gen.OutKernelIdeal.Value
public import proofs.«01_k».proof.Proof.Gen.OutReferenceIdeal.Run
public import proofs.«01_k».proof.Proof.Gen.OutReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.OutKernelIdeal.Project

open Cert.OutKernelIdeal Cert.OutKernelIdeal.Gen

/-- A row of the product, at channel `c`: the main mixer's part and the memory attention's part. -/
def row (f : Fin 1536 → EReal) (e : Fin 512 → EReal) (w : Fin 2048 → Fin 2048 → EReal) (c : Fin 2048) : EReal :=
  (∑ k : Fin 1536, f k * w (Fin.castAdd 512 k) c) + ∑ k : Fin 512, e k * w (Fin.natAdd 1536 k) c

/-- What the output projection is, at row `i 0`, channel `i 1`. -/
def spec (main : S8192x1536.Idx → EReal) (mo : S8192x512.Idx → EReal) (w : S4x2048x2048.Idx → EReal) (g : S2048.Idx → EReal)
    (h : S8192x2048.Idx → EReal) (i : S8192x2048.Idx) : EReal :=
  h i + normed (row (fun k => main (ix2 (i 0) k)) (fun k => mo (ix2 (i 0) k)) fun k c => w (ix3 (0 : Fin 4) k c))
    (fun c => g (ix1 c)) (i 1)

/-- What the body stores, at an index. -/
theorem pay_apply (v0 : Vec Ideal S512x1536 .bf16) (v1 : Vec Ideal S1x1536x2048 .bf16) (v4 : Vec Ideal S512x512 .bf16)
    (v5 : Vec Ideal S1x512x2048 .bf16) (v9 : Vec Ideal S512x2048 .f32) (v10 : Vec Ideal S1x2048 .f32) (r : Fin 512) (c : Fin 2048) :
    k0_pay1 v0 v1 v4 v5 v9 v10 (ix2 r c) = v9 (ix2 r c) + normed (fun c => (∑ k : Fin 1536, v0 (ix2 r k) * v1 (ix3 (0 : Fin 1) k c))
      + ∑ k : Fin 512, v4 (ix2 r k) * v5 (ix3 (0 : Fin 1) k c)) (fun c => v10 (ix2 (0 : Fin 1) c)) c := by
  unfold k0_pay1
  dsimp only
  rw [addf_apply]
  refine congrArg (v9 (ix2 r c) + ·) ((rms_apply _ v10 _ _ _ _ _ r c).trans ?_)
  refine congrArg (fun f => normed f (fun c => v10 (ix2 (0 : Fin 1) c)) c) (funext fun d => ?_)
  refine congrArg₂ (· + ·) ((matmul_apply dot_S512x1536_S1536x2048_S512x2048_1_0_0_1_n_n rfl none _ _ r d).trans ?_)
    ((matmul_apply dot_S512x512_S512x2048_S512x2048_1_0_0_1_n_n rfl none _ _ r d).trans ?_)
  · exact Finset.sum_congr rfl fun k _ => congrArg (v0 (ix2 r k) * ·) (shapeCast_1ab_ab_apply v1 _ k d)
  · exact Finset.sum_congr rfl fun k _ => congrArg (v4 (ix2 r k) * ·) (shapeCast_1ab_ab_apply v5 _ k d)

theorem zeros2 : (![0, 0] : Fin 2 → ℕ) = fun _ => 0 := funext fun a => by fin_cases a <;> rfl

/-- What a point leaves in the result's block, of its input blocks. -/
theorem out_apply (x0 : Vec Ideal S512x1536 .bf16) (x1 : Vec Ideal S512x512 .bf16) (x2 : Vec Ideal S1x2048x2048 .bf16)
    (x3 : Vec Ideal S1x2048 .f32) (x4 : Vec Ideal S512x2048 .f32) (r : Fin 512) (c : Fin 2048) :
    out0_5 x0 x1 x2 x3 x4 (ix2 r c) = x4 (ix2 r c) + normed (row (fun k => x0 (ix2 r k)) (fun k => x1 (ix2 r k))
      fun k c => x2 (ix3 (0 : Fin 1) k c)) (fun c => x3 (ix2 (0 : Fin 1) c)) c := by
  unfold out0_5
  rw [View.canon_unit_zero zeros2, View.ld_unit_zero (S := S512x1536) zeros2, View.ld_unit_zero (S := S512x512) zeros2,
    View.ld_unit_zero (S := S512x2048) zeros2, View.ld_unit_zero (S := S1x2048) zeros2]
  refine (pay_apply _ _ _ _ _ _ r c).trans ?_
  refine congrArg (fun f => x4 (ix2 r c) + normed f (fun c => x3 (ix2 (0 : Fin 1) c)) c) (funext fun d => ?_)
  refine congrArg₂ (· + ·) (Finset.sum_congr rfl fun k _ => congrArg (x0 (ix2 r k) * x2 ·) ?_)
    (Finset.sum_congr rfl fun k _ => congrArg (x1 (ix2 r k) * x2 ·) ?_)
  · funext a; refine Fin.ext ?_
    match a with
    | ⟨0, _⟩ => rfl
    | ⟨1, _⟩ => show 0 + 1 * k.val = k.val; omega
    | ⟨2, _⟩ => show 0 + 1 * d.val = d.val; omega
  · funext a; refine Fin.ext ?_
    match a with
    | ⟨0, _⟩ => rfl
    | ⟨1, _⟩ => show 1536 + 1 * k.val = 1536 + k.val; omega
    | ⟨2, _⟩ => show 0 + 1 * d.val = d.val; omega

variable (m : (ℓ : Loc nD τ sig) → Buf (Elt Ideal) ℓ) (ρ : Dev nD → PrngReg)

abbrev out (c : Dev nD) : Buf (Elt Ideal) ((c : Thread nD τ).loc main_v1) :=
  spec (m ((c : Thread nD τ).loc main_arg0)) (m ((c : Thread nD τ).loc main_arg1)) (m ((c : Thread nD τ).loc main_arg2))
    (m ((c : Thread nD τ).loc main_arg3)) (m ((c : Thread nD τ).loc main_arg4))

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel

/-- The gains reach the region as one row. -/
theorem gains (c : Dev nD) (k : Fin 2048) : V m c main_v0 (ix2 (0 : Fin 1) k) = m ((c : Thread nD τ).loc main_arg3) (ix1 k) := by
  have h : V m c main_v0 = shapeCast S1x2048 (m ((c : Thread nD τ).loc main_arg3)) shapeCasts_S2048_S1x2048 := rfl
  rw [h]
  exact shapeCast_a_1a_apply _ _ 0 k

theorem iblk0_apply (c : Dev nD) (t : Fin cfg0.N) (r : Fin 512) (k : Fin 1536) (i : Fin 8192) (h0 : i.val = t.val * 512 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 512 + 1 * r.val = i.val; omega
  | ⟨1, _⟩ => show win0_0.index t 1 * 1536 + 1 * k.val = k.val; omega

theorem iblk1_apply (c : Dev nD) (t : Fin cfg0.N) (r : Fin 512) (k : Fin 512) (i : Fin 8192) (h0 : i.val = t.val * 512 + r.val) :
    iblk m c 1 t (ix2 r k) = m ((c : Thread nD τ).loc main_arg1) (ix2 i k) := by
  refine (congrFun (V_main_arg1 m c) _).trans (congrArg _ (funext fun a => Fin.ext ?_))
  obtain ⟨e0, e1⟩ := idx1 t
  match a with
  | ⟨0, _⟩ => show win0_1.index t 0 * 512 + 1 * r.val = i.val; omega
  | ⟨1, _⟩ => show win0_1.index t 1 * 512 + 1 * k.val = k.val; omega

theorem iblk2_apply (c : Dev nD) (t : Fin cfg0.N) (k d : Fin 2048) :
    iblk m c 2 t (ix3 (0 : Fin 1) k d) = m ((c : Thread nD τ).loc main_arg2) (ix3 (0 : Fin 4) k d) := by
  refine (congrFun (V_main_arg2 m c) _).trans (congrArg _ (funext fun a => Fin.ext ?_))
  obtain ⟨e0, e1, e2⟩ := idx2 t
  match a with
  | ⟨0, _⟩ => show win0_2.index t 0 * 1 + 1 * 0 = 0; omega
  | ⟨1, _⟩ => show win0_2.index t 1 * 2048 + 1 * k.val = k.val; omega
  | ⟨2, _⟩ => show win0_2.index t 2 * 2048 + 1 * d.val = d.val; omega

theorem iblk3_apply (c : Dev nD) (t : Fin cfg0.N) (k : Fin 2048) :
    iblk m c 3 t (ix2 (0 : Fin 1) k) = m ((c : Thread nD τ).loc main_arg3) (ix1 k) := by
  refine Eq.trans (congrArg (V m c main_v0) (funext fun a => Fin.ext ?_)) (gains m c k)
  obtain ⟨e0, e1⟩ := idx3 t
  match a with
  | ⟨0, _⟩ => show win0_3.index t 0 * 1 + 1 * 0 = 0; omega
  | ⟨1, _⟩ => show win0_3.index t 1 * 2048 + 1 * k.val = k.val; omega

theorem iblk4_apply (c : Dev nD) (t : Fin cfg0.N) (r : Fin 512) (k : Fin 2048) (i : Fin 8192) (h0 : i.val = t.val * 512 + r.val) :
    iblk m c 4 t (ix2 r k) = m ((c : Thread nD τ).loc main_arg4) (ix2 i k) := by
  refine (congrFun (V_main_arg4 m c) _).trans (congrArg _ (funext fun a => Fin.ext ?_))
  obtain ⟨e0, e1⟩ := idx4 t
  match a with
  | ⟨0, _⟩ => show win0_4.index t 0 * 512 + 1 * r.val = i.val; omega
  | ⟨1, _⟩ => show win0_4.index t 1 * 2048 + 1 * k.val = k.val; omega

/-- What a point writes back is its block of the projection. -/
theorem flushed_eq (c : Dev nD) (t : Fin cfg0.N) :
    (dats m 0 c).flushed 5 t = ((cfg0.win 5).blk t).view.read (Elt Ideal) (out m c) := by
  rw [Value.flushed5]
  funext y
  show out0_5 _ _ _ _ _ y = out m c ((win0_5.blk t).view.emb y)
  obtain ⟨r, d, rfl⟩ : ∃ (r : Fin 512) (d : Fin 2048), y = ix2 r d := ⟨y 0, y 1, eq_ix2 y⟩
  have ht : t.val < 16 := lt_of_lt_of_eq t.isLt N_0
  have hr := r.isLt
  obtain ⟨i, hi⟩ : ∃ i : Fin 8192, i.val = t.val * 512 + r.val := ⟨⟨_, by omega⟩, rfl⟩
  have he : (win0_5.blk t).view.emb (ix2 r d) = ix2 i d := by
    obtain ⟨e0, e1⟩ := idx5 t
    funext a; refine Fin.ext ?_
    match a with
    | ⟨0, _⟩ => show win0_5.index t 0 * 512 + 1 * r.val = i.val; omega
    | ⟨1, _⟩ => show win0_5.index t 1 * 2048 + 1 * d.val = d.val; omega
  rw [he]
  refine (out_apply _ _ _ _ _ r d).trans ?_
  show _ = _ + normed (row (fun k => m ((c : Thread nD τ).loc main_arg0) (ix2 i k)) (fun k => m ((c : Thread nD τ).loc main_arg1) (ix2 i k))
    fun k e => m ((c : Thread nD τ).loc main_arg2) (ix3 (0 : Fin 4) k e)) (fun e => m ((c : Thread nD τ).loc main_arg3) (ix1 e)) d
  rw [iblk4_apply m c t r d i hi, funext fun k => iblk0_apply m c t r k i hi, funext fun k => iblk1_apply m c t r k i hi,
    funext fun k => funext fun e => iblk2_apply m c t k e, funext fun e => iblk3_apply m c t e]

/-- The points' blocks tile the result. -/
theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  obtain ⟨t, ht⟩ : ∃ t : Fin cfg0.N, t.val = (i 0).val / 512 := ⟨⟨(i 0).val / 512, by rw [show cfg0.N = 16 from N_0]; omega⟩, rfl⟩
  refine ⟨t, flush0_5 _, ?_⟩
  show i ∈ ((View.whole main_v1).slice (win0_5.rect t)).set
  rw [View.set_slice_whole, Rect.mem_set_unit]
  obtain ⟨e0, e1⟩ := idx5 t
  intro a
  match a with
  | ⟨0, _⟩ => show win0_5.index t 0 * 512 ≤ (i 0 : Nat) ∧ (i 0 : Nat) < win0_5.index t 0 * 512 + 512; omega
  | ⟨1, _⟩ => show win0_5.index t 1 * 2048 ≤ (i 1 : Nat) ∧ (i 1 : Nat) < win0_5.index t 1 * 2048 + 2048; omega

theorem final (c : Dev nD) : (dats m 0 c).arrAt 5 cfg0.N = out m c :=
  (dats m 0 c).arrAt_eq_of_cover 5 (out m c) (fun t _ => flushed_eq m c t) cover

end Cert.OutKernelIdeal.Project

namespace Cert.OutReferenceIdeal.Project

open Cert.OutReferenceIdeal Cert.OutReferenceIdeal.Gen Cert.OutReferenceIdeal.Read
open Cert.OutKernelIdeal.Project (spec row)

variable (x0 : (⟨S8192x1536, .bf16⟩ : BufTy).Contents (Elt Ideal)) (x1 : (⟨S8192x512, .bf16⟩ : BufTy).Contents (Elt Ideal))
  (x2 : (⟨S4x2048x2048, .bf16⟩ : BufTy).Contents (Elt Ideal)) (x3 : (⟨S2048, .f32⟩ : BufTy).Contents (Elt Ideal))
  (x4 : (⟨S8192x2048, .f32⟩ : BufTy).Contents (Elt Ideal))

/-- The layer's weights. -/
theorem weight (k c : Fin 2048) : val_main_v4 (F := Ideal) x2 (ix2 k c) = x2 (ix3 (0 : Fin 4) k c) := by
  rw [val_main_v4_apply, val_main_v3_apply, val_main_v2_apply]
  refine congrArg x2 (funext fun a => Fin.ext ?_)
  have hk := k.isLt; have hc := c.isLt
  match a with
  | ⟨0, _⟩ => rfl
  | ⟨1, _⟩ => show (k.val * 2048 + c.val) / 2048 % 2048 = k.val; omega
  | ⟨2, _⟩ => show (k.val * 2048 + c.val) % 2048 = c.val; omega

/-- The product's row. -/
theorem product (r : Fin 8192) (c : Fin 2048) : val_main_v5 (F := Ideal) x0 x1 x2 (ix2 r c)
    = row (fun k => x0 (ix2 r k)) (fun k => x1 (ix2 r k)) (fun k c => x2 (ix3 (0 : Fin 4) k c)) c := by
  have hl : ∀ k : Fin 2048, lidx_main_v5 (ix2 r c) k = ix2 r k := fun k => by funext a; match a with | ⟨0, _⟩ => rfl | ⟨1, _⟩ => rfl
  have hr : ∀ k : Fin 2048, ridx_main_v5 (ix2 r c) k = ix2 k c := fun k => by funext a; match a with | ⟨0, _⟩ => rfl | ⟨1, _⟩ => rfl
  rw [val_main_v5_apply]
  refine (Fin.sum_univ_add (a := 1536) (b := 512) _).trans ?_
  refine congrArg₂ (· + ·) (Finset.sum_congr rfl fun k _ => ?_) (Finset.sum_congr rfl fun k _ => ?_)
  · rw [hl, hr, weight, val_main_v1_apply]
    refine congrArg (· * _) ?_
    exact concatenate_pair_apply_left (t := S8192x2048) 1 x0 x1 concatenates_S8192x1536_S8192x512_S8192x2048_d1 _ rfl (ix2 r k) fun b => match b with | ⟨0, _⟩ => rfl | ⟨1, _⟩ => rfl
  · rw [hl, hr, weight, val_main_v1_apply]
    refine congrArg (· * _) ?_
    exact concatenate_pair_apply_right (t := S8192x2048) 1 x0 x1 concatenates_S8192x1536_S8192x512_S8192x2048_d1 _ rfl rfl (ix2 r k)
      (fun b hb => match b with | ⟨0, _⟩ => rfl | ⟨1, _⟩ => absurd rfl hb) (Nat.add_comm _ _)

/-- A row's mean square, as the norm takes it. -/
theorem square (r : Fin 8192) : val_main_v7 (F := Ideal) x0 x1 x2 (ix1 r)
    = ∑ k : Fin 2048, val_main_v5 (F := Ideal) x0 x1 x2 (ix2 r k) * val_main_v5 (F := Ideal) x0 x1 x2 (ix2 r k) := by
  rw [val_main_v7_apply, val_main_cst_apply]
  refine (congrArg (· + _) Ideal.ofBits_zero_f32).trans ((zero_add _).trans (Finset.sum_congr rfl fun k _ => ?_))
  rw [show idx_main_v7 (ix1 r) k = ix2 r k from by funext a; match a with | ⟨0, _⟩ => rfl | ⟨1, _⟩ => rfl, val_main_v6_apply]
  rfl

theorem result_eq (r : Fin 8192) (c : Fin 2048) : val_main_v19 (F := Ideal) x0 x1 x2 x3 x4 (ix2 r c) = spec x0 x1 x2 x3 x4 (ix2 r c) := by
  have h14 : idx_main_v14 (ix2 r c) = ix2 r (0 : Fin 1) := by funext a; match a with | ⟨0, _⟩ => rfl | ⟨1, _⟩ => rfl
  have h8 : idx_main_v8 (ix2 r (0 : Fin 1)) = ix1 r := by funext a; match a with | ⟨0, _⟩ => rfl
  have h17 : idx_main_v17 (ix2 r c) = ix2 (0 : Fin 1) c := by funext a; match a with | ⟨0, _⟩ => rfl | ⟨1, _⟩ => rfl
  have h16 : idx_main_v16 (ix2 (0 : Fin 1) c) = ix1 c := by funext a; match a with | ⟨0, _⟩ => rfl
  rw [val_main_v19_apply, val_main_v18_apply, val_main_v15_apply, val_main_v17_apply, h17, val_main_v16_apply, h16, val_main_v14_apply, h14,
    val_main_v13_apply, val_main_v12_apply, val_main_v10_apply, val_main_v8_apply, h8, square, val_main_v9_apply, val_main_v11_apply,
    val_main_cst_0_apply, val_main_cst_1_apply]
  have hp := funext fun k : Fin 2048 => product x0 x1 x2 r k
  show x4 (ix2 r c) + normed (fun k : Fin 2048 => val_main_v5 (F := Ideal) x0 x1 x2 (ix2 r k)) (fun k => x3 (ix1 k)) c = _
  rw [hp]
  rfl

end Cert.OutReferenceIdeal.Project

namespace Cert.Proof

/-- The kernel and the reference agree over the extended reals. -/
theorem algebraic_Out : Cert.algebraic_OutKernelIdeal_OutReferenceIdeal := by
  intro m ρ m' ρ' _ hagree
  refine ⟨fun c => Cert.OutKernelIdeal.Project.out m c, ?_, ?_⟩
  · exact (θ_run Cert.OutKernelIdeal.defs _ _).mono (fun _ h c => ⟨(h c).1.trans (Cert.OutKernelIdeal.Project.final m c), (h c).2⟩)
      (Cert.OutKernelIdeal.Value.run_blocks (F := Ideal) m ρ)
  refine (θ_run Cert.OutReferenceIdeal.defs _ _).mono (fun _ h c => ⟨(h c).1.trans ?_, (h c).2⟩)
    (Cert.OutReferenceIdeal.Value.run (F := Ideal) m' ρ')
  obtain ⟨h0, h1, h2, h3, h4⟩ := hagree c
  show Cert.OutReferenceIdeal.Read.val_main_v19 (F := Ideal) (m' ((c.tc : Thread Cert.OutReferenceIdeal.nD Cert.OutReferenceIdeal.τ).loc Cert.OutReferenceIdeal.main_arg0))
    (m' ((c.tc : Thread Cert.OutReferenceIdeal.nD Cert.OutReferenceIdeal.τ).loc Cert.OutReferenceIdeal.main_arg1))
    (m' ((c.tc : Thread Cert.OutReferenceIdeal.nD Cert.OutReferenceIdeal.τ).loc Cert.OutReferenceIdeal.main_arg2))
    (m' ((c.tc : Thread Cert.OutReferenceIdeal.nD Cert.OutReferenceIdeal.τ).loc Cert.OutReferenceIdeal.main_arg3))
    (m' ((c.tc : Thread Cert.OutReferenceIdeal.nD Cert.OutReferenceIdeal.τ).loc Cert.OutReferenceIdeal.main_arg4)) = _
  rw [h0, h1, h2, h3, h4]
  funext i
  rw [eq_ix2 i]
  exact Cert.OutReferenceIdeal.Project.result_eq _ _ _ _ _ _ _

end Cert.Proof

end
-- ==== Proof.Mkv.lean ====
/- The memory's keys and values. The kernel norms a block of rows once, keeps it, and multiplies it by the weights a block of columns
   at a time; the reference norms and multiplies whole. -/
module

public import proofs.«01_k».proof.Defs
public import proofs.«01_k».proof.Proof.Common
public import proofs.«01_k».proof.Proof.Gen.MkvKernelIdeal.Frame
public import proofs.«01_k».proof.Proof.Gen.MkvReferenceIdeal.Run
public import proofs.«01_k».proof.Proof.Gen.MkvReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.MkvKernelIdeal.Project

open Cert.MkvKernelIdeal Cert.MkvKernelIdeal.Gen

theorem zeros2 : (![0, 0] : Fin 2 → ℕ) = fun _ => 0 := funext fun a => by fin_cases a <;> rfl

/-- The normed rows, as the body keeps them. -/
theorem pay1_apply (x : Vec Ideal S512x2048 .f32) (g : Vec Ideal S1x2048 .f32) (r : Fin 512) (k : Fin 2048) :
    k0_pay1 x g (ix2 r k) = normed (fun k => x (ix2 r k)) (fun k => g (ix2 (0 : Fin 1) k)) k := by
  unfold k0_pay1
  dsimp only
  rw [shapeCast_self]
  exact rms_apply x g _ _ _ _ _ r k

/-- A block of the product. -/
theorem pay2_apply (x : Vec Ideal S512x2048 .bf16) (w : Vec Ideal S2048x512 .bf16) (r : Fin 512) (d : Fin 512) :
    k0_pay2 x w (ix2 r d) = ∑ k : Fin 2048, x (ix2 r k) * w (ix2 k d) := by
  unfold k0_pay2
  rw [shapeCast_self]
  exact matmul_apply dot_S512x2048_S2048x512_S512x512_1_0_0_1_n_n rfl none x w r d

section Cases

variable (c : Dev nD) (i : grid0.Coords) (a2 : Memref sig .tc .vmem S512x2048 .f32) (h2 : a2.IsWhole) (a3 : Memref sig .tc .vmem S1x2048 .f32)
  (h3 : a3.IsWhole) (a4 : Memref sig .tc .vmem S2048x512 .bf16) (h4 : a4.IsWhole) (a5 : Memref sig .tc .vmem S512x512 .f32) (h5 : a5.IsWhole)
  (a6 : Memref sig .tc .vmem S512x2048 .bf16) (h6 : a6.IsWhole)
  (x0 : Vec Ideal S512x2048 .f32) (x1 : Vec Ideal S1x2048 .f32) (x2 : Vec Ideal S2048x512 .bf16) (xs : Vec Ideal S512x2048 .bf16)

/-- The first column block's point keeps the normed rows. -/
theorem rows_first (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero zeros2]
  simp only [View.readAt_eq_ld, h2.read_unread, h3.read_unread, View.ld_unit_zero (S := S512x2048) zeros2, View.ld_unit_zero (S := S1x2048) zeros2]

theorem out_first (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero zeros2, View.readCov_unit_zero (S := S512x2048) _ zeros2]
  simp only [View.readAt_eq_ld, h2.read_unread, h3.read_unread, h4.read_unread, View.ld_unit_zero (S := S512x2048) zeros2,
    View.ld_unit_zero (S := S1x2048) zeros2, View.ld_unit_zero (S := S2048x512) zeros2]

/-- A later column block's point multiplies the rows kept. -/
theorem out_later (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero zeros2]
  simp only [View.readAt_eq_ld, h4.read_unread, h6.read_unread, View.ld_unit_zero (S := S512x2048) zeros2, View.ld_unit_zero (S := S2048x512) zeros2]

end Cases

variable (m : (ℓ : Loc nD τ sig) → Buf (Elt Ideal) ℓ) (ρ : Dev nD → PrngReg)

/-- The projection of what the arguments hold. -/
abbrev out (c : Dev nD) : Buf (Elt Ideal) ((c : Thread nD τ).loc main_v2) :=
  projected (m ((c : Thread nD τ).loc main_arg0)) (m ((c : Thread nD τ).loc main_arg1)) (m ((c : Thread nD τ).loc main_arg2))

theorem idx0 : ∀ t : Fin grid0.N, win0_0.index t 0 = t.val / 2 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 2 := by decide +kernel
theorem idx3 : ∀ t : Fin grid0.N, win0_3.index t 0 = t.val / 2 ∧ win0_3.index t 1 = t.val % 2 := by decide +kernel

/-- The gains reach the region as one row. -/
theorem gains (c : Dev nD) (k : Fin 2048) : V m c main_v1 (ix2 (0 : Fin 1) k) = m ((c : Thread nD τ).loc main_arg1) (ix1 k) := by
  have h : V m c main_v1 = shapeCast S1x2048 (m ((c : Thread nD τ).loc main_arg1)) shapeCasts_S2048_S1x2048 := rfl
  rw [h]
  exact shapeCast_a_1a_apply _ _ 0 k

/-- The weights reach it as they are. -/
theorem weights (c : Dev nD) : V m c main_v0 = m ((c : Thread nD τ).loc main_arg2) := rfl

theorem iblk0_apply (c : Dev nD) (t : Fin cfg0.N) (r : Fin 512) (k : Fin 2048) (i : Fin 1024) (h0 : i.val = t.val / 2 * 512 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 512 + 1 * r.val = i.val; omega
  | ⟨1, _⟩ => show win0_0.index t 1 * 2048 + 1 * k.val = k.val; omega

theorem iblk1_apply (c : Dev nD) (t : Fin cfg0.N) (k : Fin 2048) :
    iblk m c 1 t (ix2 (0 : Fin 1) k) = m ((c : Thread nD τ).loc main_arg1) (ix1 k) := by
  refine Eq.trans (congrArg (V m c main_v1) (funext fun a => Fin.ext ?_)) (gains m c k)
  obtain ⟨e0, e1⟩ := idx1 t
  match a with
  | ⟨0, _⟩ => show win0_1.index t 0 * 1 + 1 * 0 = 0; omega
  | ⟨1, _⟩ => show win0_1.index t 1 * 2048 + 1 * k.val = k.val; omega

theorem iblk2_apply (c : Dev nD) (t : Fin cfg0.N) (k : Fin 2048) (d : Fin 512) (j : Fin 1024) (h1 : j.val = t.val % 2 * 512 + d.val) :
    iblk m c 2 t (ix2 k d) = m ((c : Thread nD τ).loc main_arg2) (ix2 k j) := by
  refine (congrFun (weights m c) _).trans (congrArg _ (funext fun a => Fin.ext ?_))
  obtain ⟨e0, e1⟩ := idx2 t
  match a with
  | ⟨0, _⟩ => show win0_2.index t 0 * 2048 + 1 * k.val = k.val; omega
  | ⟨1, _⟩ => show win0_2.index t 1 * 512 + 1 * d.val = j.val; omega

/-- The rows of a row block's first point, normed. -/
theorem rows_apply (c : Dev nD) (s : Fin cfg0.N) (r : Fin 512) (k : Fin 2048) (i : Fin 1024) (hi : i.val = s.val / 2 * 512 + r.val) :
    k0_pay1 (iblk m c 0 s) (iblk m c 1 s) (ix2 r k)
      = normed (fun k => m ((c : Thread nD τ).loc main_arg0) (ix2 i k)) (fun k => m ((c : Thread nD τ).loc main_arg1) (ix1 k)) k := by
  refine (pay1_apply _ _ r k).trans ?_
  rw [funext fun k => iblk0_apply m c s r k i hi, funext fun k => iblk1_apply m c s k]

/-- What the points of a row block leave: the rows kept are those its first point `s` normed, and what goes to the result is their product
    with the point's weights. -/
theorem after_eq (c : Dev nD) (s : Fin cfg0.N) (h0 : s.val % 2 = 0) : ∀ (n : ℕ) (t : Fin cfg0.N), n < 2 → t.val = s.val + n →
    outsAt0 m c t.val t.isLt = (k0_pay2 (k0_pay1 (iblk m c 0 s) (iblk m c 1 s)) (iblk m c 2 t), k0_pay1 (iblk m c 0 s) (iblk m c 1 s))
  | 0, t, _, ht => by
    obtain rfl : t = s := Fin.ext ht
    rw [outsAt0_A m c t h0, out_first, rows_first]
  | n + 1, t, hn, ht => by
    obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    rw [outsAt0_B m c t (by omega), hx _ _ hu, after_eq c s h0 n u (by omega) (by omega)]
    dsimp only
    rw [out_later]
    rfl

/-- What a point writes back is its block of the projection. -/
theorem flushed_eq (c : Dev nD) (t : Fin cfg0.N) :
    (dats m 0 c).flushed 3 t = ((cfg0.win 3).blk t).view.read (Elt Ideal) (out m c) := by
  have ht : t.val < 4 := lt_of_lt_of_eq t.isLt N_0
  obtain ⟨s, hs⟩ : ∃ s : Fin cfg0.N, s.val = t.val / 2 * 2 := ⟨⟨t.val / 2 * 2, lt_of_lt_of_eq (by omega : t.val / 2 * 2 < 4) N_0.symm⟩, rfl⟩
  show (cfg0.win 3).cut (grid0.coords t) ((dats m 0 c).after 3 t) = _
  rw [after0_3, after_eq m c s (by omega) (t.val % 2) t (by omega) (by omega)]
  funext y
  show k0_pay2 (F := Ideal) _ _ y = out m c ((win0_3.blk t).view.emb y)
  obtain ⟨r, d, rfl⟩ : ∃ (r : Fin 512) (d : Fin 512), y = ix2 r d := ⟨y 0, y 1, eq_ix2 y⟩
  have hr := r.isLt; have hd := d.isLt
  obtain ⟨i, hi⟩ : ∃ i : Fin 1024, i.val = t.val / 2 * 512 + r.val := ⟨⟨_, by omega⟩, rfl⟩
  obtain ⟨j, hj⟩ : ∃ j : Fin 1024, j.val = t.val % 2 * 512 + d.val := ⟨⟨_, by omega⟩, rfl⟩
  have he : (win0_3.blk t).view.emb (ix2 r d) = ix2 i j := by
    obtain ⟨e0, e1⟩ := idx3 t
    funext a; refine Fin.ext ?_
    match a with
    | ⟨0, _⟩ => show win0_3.index t 0 * 512 + 1 * r.val = i.val; omega
    | ⟨1, _⟩ => show win0_3.index t 1 * 512 + 1 * d.val = j.val; omega
  rw [he]
  refine (pay2_apply _ _ r d).trans (Finset.sum_congr rfl fun k _ => ?_)
  exact congrArg₂ (· * ·) (rows_apply m c s r k i (by omega)) (iblk2_apply m c t k d j hj)

/-- The points' blocks tile the result. -/
theorem cover (i : S1024x1024.Idx) : ∃ t : Fin cfg0.N, (cfg0.win 3).flush t = true ∧ i ∈ ((cfg0.win 3).blk t).view.set := by
  have h0 : (i 0 : Nat) < 1024 := (i 0).isLt
  have h1 : (i 1 : Nat) < 1024 := (i 1).isLt
  obtain ⟨t, ht⟩ : ∃ t : Fin cfg0.N, t.val = (i 0).val / 512 * 2 + (i 1).val / 512 := ⟨⟨_, by rw [show cfg0.N = 4 from N_0]; omega⟩, rfl⟩
  refine ⟨t, flush0_3 _, ?_⟩
  show i ∈ ((View.whole main_v2).slice (win0_3.rect t)).set
  rw [View.set_slice_whole, Rect.mem_set_unit]
  obtain ⟨e0, e1⟩ := idx3 t
  intro a
  match a with
  | ⟨0, _⟩ => show win0_3.index t 0 * 512 ≤ (i 0 : Nat) ∧ (i 0 : Nat) < win0_3.index t 0 * 512 + 512; omega
  | ⟨1, _⟩ => show win0_3.index t 1 * 512 ≤ (i 1 : Nat) ∧ (i 1 : Nat) < win0_3.index t 1 * 512 + 512; omega

theorem final (c : Dev nD) : (dats m 0 c).arrAt 3 cfg0.N = out m c :=
  (dats m 0 c).arrAt_eq_of_cover 3 (out m c) (fun t _ => flushed_eq m c t) cover

/-- The kernel's run: the result holds the projection, and the arguments are as they were. -/
theorem run : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 3).trans (final m c), h.1 c⟩) (θ_run_and (unchanged m ρ) (run_main m ρ))

end Cert.MkvKernelIdeal.Project

namespace Cert.Proof

open Cert.MkvReferenceIdeal Cert.MkvReferenceIdeal.Gen Cert.MkvReferenceIdeal.Read

/-- The reference's result is the projection. -/
theorem reference_Mkv (x0 : (⟨S1024x2048, .f32⟩ : BufTy).Contents (Elt Ideal)) (x1 : (⟨S2048, .f32⟩ : BufTy).Contents (Elt Ideal))
    (x2 : (⟨S2048x1024, .f32⟩ : BufTy).Contents (Elt Ideal)) : val_main_v13 (F := Ideal) x0 x1 x2 = projected x0 x1 x2 := by
  funext i
  obtain ⟨r, d, rfl⟩ : ∃ (r : Fin 1024) (d : Fin 1024), i = ix2 r d := ⟨i 0, i 1, eq_ix2 i⟩
  rw [val_main_v13_apply]
  refine Finset.sum_congr rfl fun k _ => ?_
  rw [show lidx_main_v13 (ix2 r d) k = ix2 r k from by funext a; match a with | ⟨0, _⟩ => rfl | ⟨1, _⟩ => rfl,
    show ridx_main_v13 (ix2 r d) k = ix2 k d from by funext a; match a with | ⟨0, _⟩ => rfl | ⟨1, _⟩ => rfl]
  exact congrArg (· * x2 (ix2 k d)) (host_rms_apply x0 x1 _ (by decide) _ _ _ _ _ _ r k)

/-- The kernel and the reference agree over the extended reals. -/
theorem algebraic_Mkv : Cert.algebraic_MkvKernelIdeal_MkvReferenceIdeal := by
  intro m ρ m' ρ' _ hagree
  refine ⟨fun c => Cert.MkvKernelIdeal.Project.out m c, Cert.MkvKernelIdeal.Project.run m ρ, ?_⟩
  refine (θ_run Cert.MkvReferenceIdeal.defs _ _).mono (fun _ h c => ⟨(h c).1.trans ?_, (h c).2⟩)
    (Cert.MkvReferenceIdeal.Value.run (F := Ideal) m' ρ')
  obtain ⟨h0, h1, h2⟩ := hagree c
  refine (reference_Mkv _ _ _).trans ?_
  rw [h0, h1, h2]

end Cert.Proof

end
-- ==== Proof.Side.lean ====
/- The keys and values that the attention layers share. The kernel norms a block of rows once, keeps it, and multiplies it by the weights a block of columns
   at a time; the reference norms and multiplies whole. -/
module

public import proofs.«01_k».proof.Defs
public import proofs.«01_k».proof.Proof.Common
public import proofs.«01_k».proof.Proof.Gen.SideKernelIdeal.Frame
public import proofs.«01_k».proof.Proof.Gen.SideReferenceIdeal.Run
public import proofs.«01_k».proof.Proof.Gen.SideReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.SideKernelIdeal.Project

open Cert.SideKernelIdeal Cert.SideKernelIdeal.Gen

theorem zeros2 : (![0, 0] : Fin 2 → ℕ) = fun _ => 0 := funext fun a => by fin_cases a <;> rfl

/-- The normed rows, as the body keeps them. -/
theorem pay1_apply (x : Vec Ideal S1024x2048 .f32) (g : Vec Ideal S1x2048 .f32) (r : Fin 1024) (k : Fin 2048) :
    k0_pay1 x g (ix2 r k) = normed (fun k => x (ix2 r k)) (fun k => g (ix2 (0 : Fin 1) k)) k := by
  unfold k0_pay1
  dsimp only
  rw [shapeCast_self]
  exact rms_apply x g _ _ _ _ _ r k

/-- A block of the product. -/
theorem pay2_apply (x : Vec Ideal S1024x2048 .bf16) (w : Vec Ideal S2048x768 .bf16) (r : Fin 1024) (d : Fin 768) :
    k0_pay2 x w (ix2 r d) = ∑ k : Fin 2048, x (ix2 r k) * w (ix2 k d) := by
  unfold k0_pay2
  rw [shapeCast_self]
  exact matmul_apply dot_S1024x2048_S2048x768_S1024x768_1_0_0_1_n_n rfl none x w r d

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S1024x768 .f32) (h5 : a5.IsWhole)
  (a6 : Memref sig .tc .vmem S1024x2048 .bf16) (h6 : a6.IsWhole)
  (x0 : Vec Ideal S1024x2048 .f32) (x1 : Vec Ideal S1x2048 .f32) (x2 : Vec Ideal S2048x768 .bf16) (xs : Vec Ideal S1024x2048 .bf16)

/-- The first column block's point keeps the normed rows. -/
theorem rows_first (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero zeros2]
  simp only [View.readAt_eq_ld, h2.read_unread, h3.read_unread, View.ld_unit_zero (S := S1024x2048) zeros2, View.ld_unit_zero (S := S1x2048) zeros2]

theorem out_first (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero zeros2, View.readCov_unit_zero (S := S1024x2048) _ zeros2]
  simp only [View.readAt_eq_ld, h2.read_unread, h3.read_unread, h4.read_unread, View.ld_unit_zero (S := S1024x2048) zeros2,
    View.ld_unit_zero (S := S1x2048) zeros2, View.ld_unit_zero (S := S2048x768) zeros2]

/-- A later column block's point multiplies the rows kept. -/
theorem out_later (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero zeros2]
  simp only [View.readAt_eq_ld, h4.read_unread, h6.read_unread, View.ld_unit_zero (S := S1024x2048) zeros2, View.ld_unit_zero (S := S2048x768) zeros2]

end Cases

variable (m : (ℓ : Loc nD τ sig) → Buf (Elt Ideal) ℓ) (ρ : Dev nD → PrngReg)

/-- The projection of what the arguments hold. -/
abbrev out (c : Dev nD) : Buf (Elt Ideal) ((c : Thread nD τ).loc main_v2) :=
  projected (m ((c : Thread nD τ).loc main_arg0)) (m ((c : Thread nD τ).loc main_arg1)) (m ((c : Thread nD τ).loc main_arg2))

theorem idx0 : ∀ t : Fin grid0.N, win0_0.index t 0 = t.val / 4 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 4 := by decide +kernel
theorem idx3 : ∀ t : Fin grid0.N, win0_3.index t 0 = t.val / 4 ∧ win0_3.index t 1 = t.val % 4 := by decide +kernel

/-- The gains reach the region as one row. -/
theorem gains (c : Dev nD) (k : Fin 2048) : V m c main_v1 (ix2 (0 : Fin 1) k) = m ((c : Thread nD τ).loc main_arg1) (ix1 k) := by
  have h : V m c main_v1 = shapeCast S1x2048 (m ((c : Thread nD τ).loc main_arg1)) shapeCasts_S2048_S1x2048 := rfl
  rw [h]
  exact shapeCast_a_1a_apply _ _ 0 k

/-- The weights reach it as they are. -/
theorem weights (c : Dev nD) : V m c main_v0 = m ((c : Thread nD τ).loc main_arg2) := rfl

theorem iblk0_apply (c : Dev nD) (t : Fin cfg0.N) (r : Fin 1024) (k : Fin 2048) (i : Fin 8192) (h0 : i.val = t.val / 4 * 1024 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 1024 + 1 * r.val = i.val; omega
  | ⟨1, _⟩ => show win0_0.index t 1 * 2048 + 1 * k.val = k.val; omega

theorem iblk1_apply (c : Dev nD) (t : Fin cfg0.N) (k : Fin 2048) :
    iblk m c 1 t (ix2 (0 : Fin 1) k) = m ((c : Thread nD τ).loc main_arg1) (ix1 k) := by
  refine Eq.trans (congrArg (V m c main_v1) (funext fun a => Fin.ext ?_)) (gains m c k)
  obtain ⟨e0, e1⟩ := idx1 t
  match a with
  | ⟨0, _⟩ => show win0_1.index t 0 * 1 + 1 * 0 = 0; omega
  | ⟨1, _⟩ => show win0_1.index t 1 * 2048 + 1 * k.val = k.val; omega

theorem iblk2_apply (c : Dev nD) (t : Fin cfg0.N) (k : Fin 2048) (d : Fin 768) (j : Fin 3072) (h1 : j.val = t.val % 4 * 768 + d.val) :
    iblk m c 2 t (ix2 k d) = m ((c : Thread nD τ).loc main_arg2) (ix2 k j) := by
  refine (congrFun (weights m c) _).trans (congrArg _ (funext fun a => Fin.ext ?_))
  obtain ⟨e0, e1⟩ := idx2 t
  match a with
  | ⟨0, _⟩ => show win0_2.index t 0 * 2048 + 1 * k.val = k.val; omega
  | ⟨1, _⟩ => show win0_2.index t 1 * 768 + 1 * d.val = j.val; omega

/-- The rows of a row block's first point, normed. -/
theorem rows_apply (c : Dev nD) (s : Fin cfg0.N) (r : Fin 1024) (k : Fin 2048) (i : Fin 8192) (hi : i.val = s.val / 4 * 1024 + r.val) :
    k0_pay1 (iblk m c 0 s) (iblk m c 1 s) (ix2 r k)
      = normed (fun k => m ((c : Thread nD τ).loc main_arg0) (ix2 i k)) (fun k => m ((c : Thread nD τ).loc main_arg1) (ix1 k)) k := by
  refine (pay1_apply _ _ r k).trans ?_
  rw [funext fun k => iblk0_apply m c s r k i hi, funext fun k => iblk1_apply m c s k]

/-- What the points of a row block leave: the rows kept are those its first point `s` normed, and what goes to the result is their product
    with the point's weights. -/
theorem after_eq (c : Dev nD) (s : Fin cfg0.N) (h0 : s.val % 4 = 0) : ∀ (n : ℕ) (t : Fin cfg0.N), n < 4 → t.val = s.val + n →
    outsAt0 m c t.val t.isLt = (k0_pay2 (k0_pay1 (iblk m c 0 s) (iblk m c 1 s)) (iblk m c 2 t), k0_pay1 (iblk m c 0 s) (iblk m c 1 s))
  | 0, t, _, ht => by
    obtain rfl : t = s := Fin.ext ht
    rw [outsAt0_A m c t h0, out_first, rows_first]
  | n + 1, t, hn, ht => by
    obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    rw [outsAt0_B m c t (by omega), hx _ _ hu, after_eq c s h0 n u (by omega) (by omega)]
    dsimp only
    rw [out_later]
    rfl

/-- What a point writes back is its block of the projection. -/
theorem flushed_eq (c : Dev nD) (t : Fin cfg0.N) :
    (dats m 0 c).flushed 3 t = ((cfg0.win 3).blk t).view.read (Elt Ideal) (out m c) := by
  have ht : t.val < 32 := lt_of_lt_of_eq t.isLt N_0
  obtain ⟨s, hs⟩ : ∃ s : Fin cfg0.N, s.val = t.val / 4 * 4 := ⟨⟨t.val / 4 * 4, lt_of_lt_of_eq (by omega : t.val / 4 * 4 < 32) N_0.symm⟩, rfl⟩
  show (cfg0.win 3).cut (grid0.coords t) ((dats m 0 c).after 3 t) = _
  rw [after0_3, after_eq m c s (by omega) (t.val % 4) t (by omega) (by omega)]
  funext y
  show k0_pay2 (F := Ideal) _ _ y = out m c ((win0_3.blk t).view.emb y)
  obtain ⟨r, d, rfl⟩ : ∃ (r : Fin 1024) (d : Fin 768), y = ix2 r d := ⟨y 0, y 1, eq_ix2 y⟩
  have hr := r.isLt; have hd := d.isLt
  obtain ⟨i, hi⟩ : ∃ i : Fin 8192, i.val = t.val / 4 * 1024 + r.val := ⟨⟨_, by omega⟩, rfl⟩
  obtain ⟨j, hj⟩ : ∃ j : Fin 3072, j.val = t.val % 4 * 768 + d.val := ⟨⟨_, by omega⟩, rfl⟩
  have he : (win0_3.blk t).view.emb (ix2 r d) = ix2 i j := by
    obtain ⟨e0, e1⟩ := idx3 t
    funext a; refine Fin.ext ?_
    match a with
    | ⟨0, _⟩ => show win0_3.index t 0 * 1024 + 1 * r.val = i.val; omega
    | ⟨1, _⟩ => show win0_3.index t 1 * 768 + 1 * d.val = j.val; omega
  rw [he]
  refine (pay2_apply _ _ r d).trans (Finset.sum_congr rfl fun k _ => ?_)
  exact congrArg₂ (· * ·) (rows_apply m c s r k i (by omega)) (iblk2_apply m c t k d j hj)

/-- The points' blocks tile the result. -/
theorem cover (i : S8192x3072.Idx) : ∃ t : Fin cfg0.N, (cfg0.win 3).flush t = true ∧ i ∈ ((cfg0.win 3).blk t).view.set := by
  have h0 : (i 0 : Nat) < 8192 := (i 0).isLt
  have h1 : (i 1 : Nat) < 3072 := (i 1).isLt
  obtain ⟨t, ht⟩ : ∃ t : Fin cfg0.N, t.val = (i 0).val / 1024 * 4 + (i 1).val / 768 := ⟨⟨_, by rw [show cfg0.N = 32 from N_0]; omega⟩, rfl⟩
  refine ⟨t, flush0_3 _, ?_⟩
  show i ∈ ((View.whole main_v2).slice (win0_3.rect t)).set
  rw [View.set_slice_whole, Rect.mem_set_unit]
  obtain ⟨e0, e1⟩ := idx3 t
  intro a
  match a with
  | ⟨0, _⟩ => show win0_3.index t 0 * 1024 ≤ (i 0 : Nat) ∧ (i 0 : Nat) < win0_3.index t 0 * 1024 + 1024; omega
  | ⟨1, _⟩ => show win0_3.index t 1 * 768 ≤ (i 1 : Nat) ∧ (i 1 : Nat) < win0_3.index t 1 * 768 + 768; omega

theorem final (c : Dev nD) : (dats m 0 c).arrAt 3 cfg0.N = out m c :=
  (dats m 0 c).arrAt_eq_of_cover 3 (out m c) (fun t _ => flushed_eq m c t) cover

/-- 512 columns from `o` on, as heads: the way the kernel's host lines cut the projection. -/
abbrev part (o : ℕ) (h : S4x2048x3072.Slices ![0, 0, o] S4x2048x512) (z : (⟨S8192x3072, .f32⟩ : BufTy).Contents (Elt Ideal)) :
    (⟨S4x2048x4x128, .f32⟩ : BufTy).Contents (Elt Ideal) :=
  shapeCast S4x2048x4x128 (extractStridedSlice S4x2048x512 ![0, 0, o] (shapeCast S4x2048x3072 z shapeCasts_S8192x3072_S4x2048x3072) h)
    shapeCasts_S4x2048x512_S4x2048x4x128

theorem part_apply (o : ℕ) (h : S4x2048x3072.Slices ![0, 0, o] S4x2048x512) (z : (⟨S8192x3072, .f32⟩ : BufTy).Contents (Elt Ideal))
    (i : S4x2048x4x128.Idx) (r : Fin 8192) (d : Fin 3072) (hr : r.val = (i 0).val * 2048 + (i 1).val)
    (hd : d.val = o + ((i 2).val * 128 + (i 3).val)) : part o h z i = z (ix2 r d) := by
  have h0 : (i 0).val < 4 := (i 0).isLt
  have h1 : (i 1).val < 2048 := (i 1).isLt
  have h2 : (i 2).val < 4 := (i 2).isLt
  have h3 : (i 3).val < 128 := (i 3).isLt
  refine (shapeCast_apply _ _ i (ix3 (⟨(i 0).val, h0⟩ : Fin 4) (⟨(i 1).val, h1⟩ : Fin 2048) (⟨(i 2).val * 128 + (i 3).val, by omega⟩ : Fin 512)) ?_).trans ?_
  · rw [Shape.rowMajor_val_three, Shape.rowMajor_val_four]
    show ((i 0).val * 2048 + (i 1).val) * 512 + ((i 2).val * 128 + (i 3).val) = (((i 0).val * 2048 + (i 1).val) * 4 + (i 2).val) * 128 + (i 3).val
    omega
  refine (extractStridedSlice_apply _ _ _ _ (ix3 (⟨(i 0).val, h0⟩ : Fin 4) (⟨(i 1).val, h1⟩ : Fin 2048) d) fun a => ?_).trans ?_
  · match a with
    | ⟨0, _⟩ => show (i 0).val = 0 + (i 0).val; omega
    | ⟨1, _⟩ => show (i 1).val = 0 + (i 1).val; omega
    | ⟨2, _⟩ => exact hd
  refine shapeCast_apply _ _ _ (ix2 r d) ?_
  rw [Shape.rowMajor_val_two, Shape.rowMajor_val_three]
  show r.val * 3072 + d.val = ((i 0).val * 2048 + (i 1).val) * 3072 + d.val
  omega

/-- The last 512 rows of each sequence. -/
abbrev window (z : (⟨S4x2048x4x128, .f32⟩ : BufTy).Contents (Elt Ideal)) : (⟨S4x512x4x128, .f32⟩ : BufTy).Contents (Elt Ideal) :=
  extractStridedSlice S4x512x4x128 ![0, 1536, 0, 0] z slices_S4x2048x4x128_S4x512x4x128_0_1536_0_0

/-- The lines after the region find the projection in the region's result. -/
theorem region_result (c : Dev nD) : Pipeline.withArrays (cfgs 0).spec c (V0 m c) (fun w => (dats m 0 c).arrAt w (cfgs 0).N) (Proc.devRef .tc main_v2) = out m c :=
  (Pipeline.withArrays_arr (cfgs 0).spec (by decide) c (V0 m c) (fun w => (dats m 0 c).arrAt w (cfgs 0).N) 3).trans (final m c)

/-- What the lines after the region leave in the six results. -/
theorem tail (c : Dev nD) :
    Pipeline.afterTail₀ cfgs (dats m) 0 (V0 m) [hostOps1] c main_v5 = part 0 slices_S4x2048x3072_S4x2048x512_0_0_0 (out m c)
    ∧ Pipeline.afterTail₀ cfgs (dats m) 0 (V0 m) [hostOps1] c main_v7 = part 512 slices_S4x2048x3072_S4x2048x512_0_0_512 (out m c)
    ∧ Pipeline.afterTail₀ cfgs (dats m) 0 (V0 m) [hostOps1] c main_v9 = part 1024 slices_S4x2048x3072_S4x2048x512_0_0_1024 (out m c)
    ∧ Pipeline.afterTail₀ cfgs (dats m) 0 (V0 m) [hostOps1] c main_v11 = part 1536 slices_S4x2048x3072_S4x2048x512_0_0_1536 (out m c)
    ∧ Pipeline.afterTail₀ cfgs (dats m) 0 (V0 m) [hostOps1] c main_v16 = window (part 2048 slices_S4x2048x3072_S4x2048x512_0_0_2048 (out m c))
    ∧ Pipeline.afterTail₀ cfgs (dats m) 0 (V0 m) [hostOps1] c main_v17 = window (part 2560 slices_S4x2048x3072_S4x2048x512_0_0_2560 (out m c)) := by
  rw [← region_result m c]
  refine ⟨?_, ?_, ?_, ?_, ?_, ?_⟩ <;> unfold Pipeline.afterTail₀ <;> after_results_simp <;> rfl

/-- The kernel's run: the results hold the shared keys and values, and the arguments are as they were. -/
theorem run : θ_run defs (onTc (τ := τ) (main (F := Ideal))) ⟨m, fun _ => 0, ρ⟩ (fun r => ∀ c : Dev nD,
      r.2.mem ((c.tc : Thread nD τ).loc main_v5) = part 0 slices_S4x2048x3072_S4x2048x512_0_0_0 (out m c)
      ∧ r.2.mem ((c.tc : Thread nD τ).loc main_v7) = part 512 slices_S4x2048x3072_S4x2048x512_0_0_512 (out m c)
      ∧ r.2.mem ((c.tc : Thread nD τ).loc main_v9) = part 1024 slices_S4x2048x3072_S4x2048x512_0_0_1024 (out m c)
      ∧ r.2.mem ((c.tc : Thread nD τ).loc main_v11) = part 1536 slices_S4x2048x3072_S4x2048x512_0_0_1536 (out m c)
      ∧ r.2.mem ((c.tc : Thread nD τ).loc main_v16) = window (part 2048 slices_S4x2048x3072_S4x2048x512_0_0_2048 (out m c))
      ∧ r.2.mem ((c.tc : Thread nD τ).loc main_v17) = window (part 2560 slices_S4x2048x3072_S4x2048x512_0_0_2560 (out m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (θ_run_and (unchanged m ρ) (run_main m ρ))
  have rest := fun b hb => (h.2 c).2 b hb
  obtain ⟨e0, e1, e2, e3, e4, e5⟩ := tail m c
  exact ⟨(rest main_v5 (Pipeline.mem_restRefs_of main_v5 (by decide) (by decide))).trans e0,
    (rest main_v7 (Pipeline.mem_restRefs_of main_v7 (by decide) (by decide))).trans e1,
    (rest main_v9 (Pipeline.mem_restRefs_of main_v9 (by decide) (by decide))).trans e2,
    (rest main_v11 (Pipeline.mem_restRefs_of main_v11 (by decide) (by decide))).trans e3,
    (rest main_v16 (Pipeline.mem_restRefs_of main_v16 (by decide) (by decide))).trans e4,
    (rest main_v17 (Pipeline.mem_restRefs_of main_v17 (by decide) (by decide))).trans e5, h.1 c⟩

end Cert.SideKernelIdeal.Project

namespace Cert.Proof

open Cert.SideReferenceIdeal Cert.SideReferenceIdeal.Gen Cert.SideReferenceIdeal.Read
open Cert.SideKernelIdeal.Project (part part_apply window)

section Reference

variable (x0 : (⟨S8192x2048, .f32⟩ : BufTy).Contents (Elt Ideal)) (x1 : (⟨S2048, .f32⟩ : BufTy).Contents (Elt Ideal))
  (x2 : (⟨S2048x3072, .f32⟩ : BufTy).Contents (Elt Ideal))

/-- The reference's product is the projection. -/
theorem side_product (r : Fin 8192) (d : Fin 3072) : val_main_v13 (F := Ideal) x0 x1 x2 (ix2 r d) = projected x0 x1 x2 (ix2 r d) := by
  rw [val_main_v13_apply]
  refine Finset.sum_congr rfl fun k _ => ?_
  rw [show lidx_main_v13 (ix2 r d) k = ix2 r k from by funext a; match a with | ⟨0, _⟩ => rfl | ⟨1, _⟩ => rfl,
    show ridx_main_v13 (ix2 r d) k = ix2 k d from by funext a; match a with | ⟨0, _⟩ => rfl | ⟨1, _⟩ => rfl]
  exact congrArg (· * x2 (ix2 k d)) (host_rms_apply x0 x1 _ (by decide) _ _ _ _ _ _ r k)

/-- The reference's cut of its product is the kernel's of the projection. -/
theorem side_part (o : ℕ) (ho : o + 512 ≤ 3072) (h : S8192x3072.Slices ![0, o] S8192x512)
    (h' : Cert.SideKernelIdeal.S4x2048x3072.Slices ![0, 0, o] Cert.SideKernelIdeal.S4x2048x512) :
    shapeCast S4x2048x4x128 (extractStridedSlice S8192x512 ![0, o] (val_main_v13 (F := Ideal) x0 x1 x2) h) shapeCasts_S8192x512_S4x2048x4x128
      = part o h' (projected x0 x1 x2) := by
  funext i
  have h0 : (i 0).val < 4 := (i 0).isLt
  have h1 : (i 1).val < 2048 := (i 1).isLt
  have h2 : (i 2).val < 4 := (i 2).isLt
  have h3 : (i 3).val < 128 := (i 3).isLt
  obtain ⟨r, hr⟩ : ∃ r : Fin 8192, r.val = (i 0).val * 2048 + (i 1).val := ⟨⟨_, by omega⟩, rfl⟩
  obtain ⟨d, hd⟩ : ∃ d : Fin 3072, d.val = o + ((i 2).val * 128 + (i 3).val) := ⟨⟨_, by omega⟩, rfl⟩
  refine Eq.trans ?_ (part_apply o h' _ i r d hr hd).symm
  refine (shapeCast_apply _ _ i (ix2 r (⟨(i 2).val * 128 + (i 3).val, by omega⟩ : Fin 512)) ?_).trans ?_
  · rw [Shape.rowMajor_val_two, Shape.rowMajor_val_four]
    show r.val * 512 + ((i 2).val * 128 + (i 3).val) = (((i 0).val * 2048 + (i 1).val) * 4 + (i 2).val) * 128 + (i 3).val
    omega
  refine (extractStridedSlice_apply _ _ _ _ (ix2 r d) fun a => ?_).trans (side_product x0 x1 x2 r d)
  match a with
  | ⟨0, _⟩ => show r.val = 0 + r.val; omega
  | ⟨1, _⟩ => exact hd

end Reference

/-- The kernel and the reference agree over the extended reals. -/
theorem algebraic_Side : Cert.algebraic_SideKernelIdeal_SideReferenceIdeal := by
  intro m ρ m' ρ' _ hagree
  refine ⟨_, _, _, _, _, _, Cert.SideKernelIdeal.Project.run m ρ, ?_⟩
  refine (θ_run Cert.SideReferenceIdeal.defs _ _).mono (fun _ h c => ?_) (Cert.SideReferenceIdeal.Value.run (F := Ideal) m' ρ')
  obtain ⟨h0, h1, h2⟩ := hagree c
  obtain ⟨e0, e1, e2, e3, e4, e5, rest⟩ := h c
  rw [h0, h1, h2] at e0 e1 e2 e3 e4 e5
  exact ⟨e0.trans (side_part _ _ _ 0 (by omega) _ _), e1.trans (side_part _ _ _ 512 (by omega) _ _), e2.trans (side_part _ _ _ 1024 (by omega) _ _),
    e3.trans (side_part _ _ _ 1536 (by omega) _ _), e4.trans (congrArg window (side_part _ _ _ 2048 (by omega) _ _)),
    e5.trans (congrArg window (side_part _ _ _ 2560 (by omega) _ _)), rest⟩

end Cert.Proof

end
-- ==== Proof.Inb.lean ====
/- The attention layers' input projection. The kernel norms a block of rows once, keeps it, and multiplies it by the weights a block of columns
   at a time; the reference norms and multiplies whole. -/
module

public import proofs.«01_k».proof.Defs
public import proofs.«01_k».proof.Proof.Common
public import proofs.«01_k».proof.Proof.Gen.InbKernelIdeal.Frame
public import proofs.«01_k».proof.Proof.Gen.InbReferenceIdeal.Run
public import proofs.«01_k».proof.Proof.Gen.InbReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.InbKernelIdeal.Project

open Cert.InbKernelIdeal Cert.InbKernelIdeal.Gen

theorem zeros2 : (![0, 0] : Fin 2 → ℕ) = fun _ => 0 := funext fun a => by fin_cases a <;> rfl

/-- The normed rows, as the body keeps them. -/
theorem pay1_apply (x : Vec Ideal S1024x2048 .f32) (g : Vec Ideal S1x2048 .f32) (r : Fin 1024) (k : Fin 2048) :
    k0_pay1 x g (ix2 r k) = normed (fun k => x (ix2 r k)) (fun k => g (ix2 (0 : Fin 1) k)) k := by
  unfold k0_pay1
  dsimp only
  rw [shapeCast_self]
  exact rms_apply x g _ _ _ _ _ r k

/-- A block of the product. -/
theorem pay2_apply (x : Vec Ideal S1024x2048 .bf16) (w : Vec Ideal S2048x768 .bf16) (r : Fin 1024) (d : Fin 768) :
    k0_pay2 x w (ix2 r d) = ∑ k : Fin 2048, x (ix2 r k) * w (ix2 k d) := by
  unfold k0_pay2
  rw [shapeCast_self]
  exact matmul_apply dot_S1024x2048_S2048x768_S1024x768_1_0_0_1_n_n rfl none x w r d

section Cases

variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S1024x768 .f32) (h5 : a5.IsWhole)
  (a6 : Memref sig .tc .vmem S1024x2048 .bf16) (h6 : a6.IsWhole)
  (x0 : Vec Ideal S1024x2048 .f32) (x1 : Vec Ideal S1x2048 .f32) (x2 : Vec Ideal S2048x768 .bf16) (xs : Vec Ideal S1024x2048 .bf16)

/-- The first column block's point keeps the normed rows. -/
theorem rows_first (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero zeros2]
  simp only [View.readAt_eq_ld, h2.read_unread, h3.read_unread, View.ld_unit_zero (S := S1024x2048) zeros2, View.ld_unit_zero (S := S1x2048) zeros2]

theorem out_first (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero zeros2, View.readCov_unit_zero (S := S1024x2048) _ zeros2]
  simp only [View.readAt_eq_ld, h2.read_unread, h3.read_unread, h4.read_unread, View.ld_unit_zero (S := S1024x2048) zeros2,
    View.ld_unit_zero (S := S1x2048) zeros2, View.ld_unit_zero (S := S2048x768) zeros2]

/-- A later column block's point multiplies the rows kept. -/
theorem out_later (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero zeros2]
  simp only [View.readAt_eq_ld, h4.read_unread, h6.read_unread, View.ld_unit_zero (S := S1024x2048) zeros2, View.ld_unit_zero (S := S2048x768) zeros2]

end Cases

variable (m : (ℓ : Loc nD τ sig) → Buf (Elt Ideal) ℓ) (ρ : Dev nD → PrngReg)

/-- The projection of what the arguments hold. -/
abbrev out (c : Dev nD) : Buf (Elt Ideal) ((c : Thread nD τ).loc main_v2) :=
  projected (m ((c : Thread nD τ).loc main_arg0)) (m ((c : Thread nD τ).loc main_arg1)) (m ((c : Thread nD τ).loc main_arg2))

theorem idx0 : ∀ t : Fin grid0.N, win0_0.index t 0 = t.val / 3 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 3 := by decide +kernel
theorem idx3 : ∀ t : Fin grid0.N, win0_3.index t 0 = t.val / 3 ∧ win0_3.index t 1 = t.val % 3 := by decide +kernel

/-- The gains reach the region as one row. -/
theorem gains (c : Dev nD) (k : Fin 2048) : V m c main_v1 (ix2 (0 : Fin 1) k) = m ((c : Thread nD τ).loc main_arg1) (ix1 k) := by
  have h : V m c main_v1 = shapeCast S1x2048 (m ((c : Thread nD τ).loc main_arg1)) shapeCasts_S2048_S1x2048 := rfl
  rw [h]
  exact shapeCast_a_1a_apply _ _ 0 k

/-- The weights reach it as they are. -/
theorem weights (c : Dev nD) : V m c main_v0 = m ((c : Thread nD τ).loc main_arg2) := rfl

theorem iblk0_apply (c : Dev nD) (t : Fin cfg0.N) (r : Fin 1024) (k : Fin 2048) (i : Fin 8192) (h0 : i.val = t.val / 3 * 1024 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 1024 + 1 * r.val = i.val; omega
  | ⟨1, _⟩ => show win0_0.index t 1 * 2048 + 1 * k.val = k.val; omega

theorem iblk1_apply (c : Dev nD) (t : Fin cfg0.N) (k : Fin 2048) :
    iblk m c 1 t (ix2 (0 : Fin 1) k) = m ((c : Thread nD τ).loc main_arg1) (ix1 k) := by
  refine Eq.trans (congrArg (V m c main_v1) (funext fun a => Fin.ext ?_)) (gains m c k)
  obtain ⟨e0, e1⟩ := idx1 t
  match a with
  | ⟨0, _⟩ => show win0_1.index t 0 * 1 + 1 * 0 = 0; omega
  | ⟨1, _⟩ => show win0_1.index t 1 * 2048 + 1 * k.val = k.val; omega

theorem iblk2_apply (c : Dev nD) (t : Fin cfg0.N) (k : Fin 2048) (d : Fin 768) (j : Fin 2304) (h1 : j.val = t.val % 3 * 768 + d.val) :
    iblk m c 2 t (ix2 k d) = m ((c : Thread nD τ).loc main_arg2) (ix2 k j) := by
  refine (congrFun (weights m c) _).trans (congrArg _ (funext fun a => Fin.ext ?_))
  obtain ⟨e0, e1⟩ := idx2 t
  match a with
  | ⟨0, _⟩ => show win0_2.index t 0 * 2048 + 1 * k.val = k.val; omega
  | ⟨1, _⟩ => show win0_2.index t 1 * 768 + 1 * d.val = j.val; omega

/-- The rows of a row block's first point, normed. -/
theorem rows_apply (c : Dev nD) (s : Fin cfg0.N) (r : Fin 1024) (k : Fin 2048) (i : Fin 8192) (hi : i.val = s.val / 3 * 1024 + r.val) :
    k0_pay1 (iblk m c 0 s) (iblk m c 1 s) (ix2 r k)
      = normed (fun k => m ((c : Thread nD τ).loc main_arg0) (ix2 i k)) (fun k => m ((c : Thread nD τ).loc main_arg1) (ix1 k)) k := by
  refine (pay1_apply _ _ r k).trans ?_
  rw [funext fun k => iblk0_apply m c s r k i hi, funext fun k => iblk1_apply m c s k]

/-- What the points of a row block leave: the rows kept are those its first point `s` normed, and what goes to the result is their product
    with the point's weights. -/
theorem after_eq (c : Dev nD) (s : Fin cfg0.N) (h0 : s.val % 3 = 0) : ∀ (n : ℕ) (t : Fin cfg0.N), n < 3 → t.val = s.val + n →
    outsAt0 m c t.val t.isLt = (k0_pay2 (k0_pay1 (iblk m c 0 s) (iblk m c 1 s)) (iblk m c 2 t), k0_pay1 (iblk m c 0 s) (iblk m c 1 s))
  | 0, t, _, ht => by
    obtain rfl : t = s := Fin.ext ht
    rw [outsAt0_A m c t h0, out_first, rows_first]
  | n + 1, t, hn, ht => by
    obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    rw [outsAt0_B m c t (by omega), hx _ _ hu, after_eq c s h0 n u (by omega) (by omega)]
    dsimp only
    rw [out_later]
    rfl

/-- What a point writes back is its block of the projection. -/
theorem flushed_eq (c : Dev nD) (t : Fin cfg0.N) :
    (dats m 0 c).flushed 3 t = ((cfg0.win 3).blk t).view.read (Elt Ideal) (out m c) := by
  have ht : t.val < 24 := lt_of_lt_of_eq t.isLt N_0
  obtain ⟨s, hs⟩ : ∃ s : Fin cfg0.N, s.val = t.val / 3 * 3 := ⟨⟨t.val / 3 * 3, lt_of_lt_of_eq (by omega : t.val / 3 * 3 < 24) N_0.symm⟩, rfl⟩
  show (cfg0.win 3).cut (grid0.coords t) ((dats m 0 c).after 3 t) = _
  rw [after0_3, after_eq m c s (by omega) (t.val % 3) t (by omega) (by omega)]
  funext y
  show k0_pay2 (F := Ideal) _ _ y = out m c ((win0_3.blk t).view.emb y)
  obtain ⟨r, d, rfl⟩ : ∃ (r : Fin 1024) (d : Fin 768), y = ix2 r d := ⟨y 0, y 1, eq_ix2 y⟩
  have hr := r.isLt; have hd := d.isLt
  obtain ⟨i, hi⟩ : ∃ i : Fin 8192, i.val = t.val / 3 * 1024 + r.val := ⟨⟨_, by omega⟩, rfl⟩
  obtain ⟨j, hj⟩ : ∃ j : Fin 2304, j.val = t.val % 3 * 768 + d.val := ⟨⟨_, by omega⟩, rfl⟩
  have he : (win0_3.blk t).view.emb (ix2 r d) = ix2 i j := by
    obtain ⟨e0, e1⟩ := idx3 t
    funext a; refine Fin.ext ?_
    match a with
    | ⟨0, _⟩ => show win0_3.index t 0 * 1024 + 1 * r.val = i.val; omega
    | ⟨1, _⟩ => show win0_3.index t 1 * 768 + 1 * d.val = j.val; omega
  rw [he]
  refine (pay2_apply _ _ r d).trans (Finset.sum_congr rfl fun k _ => ?_)
  exact congrArg₂ (· * ·) (rows_apply m c s r k i (by omega)) (iblk2_apply m c t k d j hj)

/-- The points' blocks tile the result. -/
theorem cover (i : S8192x2304.Idx) : ∃ t : Fin cfg0.N, (cfg0.win 3).flush t = true ∧ i ∈ ((cfg0.win 3).blk t).view.set := by
  have h0 : (i 0 : Nat) < 8192 := (i 0).isLt
  have h1 : (i 1 : Nat) < 2304 := (i 1).isLt
  obtain ⟨t, ht⟩ : ∃ t : Fin cfg0.N, t.val = (i 0).val / 1024 * 3 + (i 1).val / 768 := ⟨⟨_, by rw [show cfg0.N = 24 from N_0]; omega⟩, rfl⟩
  refine ⟨t, flush0_3 _, ?_⟩
  show i ∈ ((View.whole main_v2).slice (win0_3.rect t)).set
  rw [View.set_slice_whole, Rect.mem_set_unit]
  obtain ⟨e0, e1⟩ := idx3 t
  intro a
  match a with
  | ⟨0, _⟩ => show win0_3.index t 0 * 1024 ≤ (i 0 : Nat) ∧ (i 0 : Nat) < win0_3.index t 0 * 1024 + 1024; omega
  | ⟨1, _⟩ => show win0_3.index t 1 * 768 ≤ (i 1 : Nat) ∧ (i 1 : Nat) < win0_3.index t 1 * 768 + 768; omega

theorem final (c : Dev nD) : (dats m 0 c).arrAt 3 cfg0.N = out m c :=
  (dats m 0 c).arrAt_eq_of_cover 3 (out m c) (fun t _ => flushed_eq m c t) cover

/-- The kernel's run: the result holds the projection, and the arguments are as they were. -/
theorem run : θ_run defs (onTc (τ := τ) (main (F := Ideal))) ⟨m, fun _ => 0, ρ⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).1 3).trans (final m c), h.1 c⟩) (θ_run_and (unchanged m ρ) (run_main m ρ))

end Cert.InbKernelIdeal.Project

namespace Cert.Proof

open Cert.InbReferenceIdeal Cert.InbReferenceIdeal.Gen Cert.InbReferenceIdeal.Read

/-- The reference's result is the projection. -/
theorem reference_Inb (x0 : (⟨S8192x2048, .f32⟩ : BufTy).Contents (Elt Ideal)) (x1 : (⟨S2048, .f32⟩ : BufTy).Contents (Elt Ideal))
    (x2 : (⟨S2048x2304, .f32⟩ : BufTy).Contents (Elt Ideal)) : val_main_v13 (F := Ideal) x0 x1 x2 = projected x0 x1 x2 := by
  funext i
  obtain ⟨r, d, rfl⟩ : ∃ (r : Fin 8192) (d : Fin 2304), i = ix2 r d := ⟨i 0, i 1, eq_ix2 i⟩
  rw [val_main_v13_apply]
  refine Finset.sum_congr rfl fun k _ => ?_
  rw [show lidx_main_v13 (ix2 r d) k = ix2 r k from by funext a; match a with | ⟨0, _⟩ => rfl | ⟨1, _⟩ => rfl,
    show ridx_main_v13 (ix2 r d) k = ix2 k d from by funext a; match a with | ⟨0, _⟩ => rfl | ⟨1, _⟩ => rfl]
  exact congrArg (· * x2 (ix2 k d)) (host_rms_apply x0 x1 _ (by decide) _ _ _ _ _ _ r k)

/-- The kernel and the reference agree over the extended reals. -/
theorem algebraic_Inb : Cert.algebraic_InbKernelIdeal_InbReferenceIdeal := by
  intro m ρ m' ρ' _ hagree
  refine ⟨fun c => Cert.InbKernelIdeal.Project.out m c, Cert.InbKernelIdeal.Project.run m ρ, ?_⟩
  refine (θ_run Cert.InbReferenceIdeal.defs _ _).mono (fun _ h c => ⟨(h c).1.trans ?_, (h c).2⟩)
    (Cert.InbReferenceIdeal.Value.run (F := Ideal) m' ρ')
  obtain ⟨h0, h1, h2⟩ := hagree c
  refine (reference_Inb _ _ _).trans ?_
  rw [h0, h1, h2]

end Cert.Proof

end
-- ==== Proof.RinRuns.lean ====
/- The recurrent layers' input projection, its body case by case: what a point leaves in every buffer it is handed, from what it finds there. -/
module

public import proofs.«01_k».proof.Defs
public import proofs.«01_k».proof.Proof.Common
public import proofs.«01_k».proof.Proof.Gen.RinKernelIdeal.Frame
public import proofs.«01_k».proof.Proof.Gen.RinKernelIdeal.Skeleton
public import Idealize.ShloMosaic.Lib.Claim
public import Idealize.ShloMosaic.Lib.VecWindow

@[expose] public section

set_option maxRecDepth 16384

noncomputable section

namespace Cert.RinKernelIdeal.Body

open Cert.RinKernelIdeal Cert.RinKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.Common

variable {F : FTy → Type} [FloatOps F]

/-- The assertions the body's runs are stated in. -/
abbrev Assertion (F : FTy → Type) := sProp (MT nD τ sig Unit (Elt F) ℕ (UR sig nD τ) ℕ)

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The condition that the column step is `n`, as the body tests it. -/
abbrev atStep (i : grid0.Coords) (n : BitVec 32) : Prop := (Scalar.cmpi .ne (Scalar.extui (Scalar.cmpi .eq (BitVec.ofNat 32 (i 2).val) n)) 0#32) = 1#1

/-- The condition that the row block is its sequence's first. -/
abbrev atFirst (i : grid0.Coords) : Prop := (Scalar.cmpi .ne (Scalar.extui (Scalar.cmpi .eq (BitVec.ofNat 32 (i 1).val) 0#32)) 0#32) = 1#1

/-- Row `n` of the mixing coefficients. -/
def muRow (mu : Vec F S8x2048 .f32) (n : ℕ) : Vec F S1x2048 .f32 := fun y => mu (ix2 (Fin.ofNat 8 n) (y 1))

theorem ld_row (mu : Vec F S8x2048 .f32) (n : ℕ) (h : ∀ a, (![n, 0] : Fin 2 → ℕ) a + S1x2048.size a ≤ S8x2048.size a) :
    View.ld (Val := Elt F) (e' := .f32) mu (Rect.unit (s := S8x2048) ![n, 0] ![1, 2048] h)
      = muRow mu n := by
  have hn : n % 8 = n := Nat.mod_eq_of_lt (Nat.lt_of_succ_le (h 0))
  funext y
  refine congrArg mu (funext fun a => Fin.ext ?_)
  match a with
  | ⟨0, _⟩ => show n + 1 * (y 0).val = n % 8; have : (y 0).val < 1 := (y 0).isLt; omega
  | ⟨1, _⟩ => show 0 + 1 * (y 1).val = (y 1).val; omega

/-- The body mixes the same way wherever it mixes, and multiplies half a block the same way wherever it does. -/
theorem mixes : @k0_pay4 F _ = k0_pay3 ∧ @k0_pay5 F _ = k0_pay3 ∧ @k0_pay15 F _ = k0_pay3 ∧ @k0_pay17 F _ = k0_pay3
    ∧ @k0_pay18 F _ = k0_pay3 ∧ @k0_pay20 F _ = k0_pay3 ∧ @k0_pay8 F _ = k0_pay7 ∧ @k0_pay16 F _ = k0_pay7 ∧ @k0_pay19 F _ = k0_pay7 :=
  ⟨rfl, rfl, rfl, rfl, rfl, rfl, rfl, rfl, rfl⟩

/-- 256 columns of a weights' block, from column `n` on. -/
def cols (w : Vec F S2048x512 .bf16) (n : ℕ) : Vec F S2048x256 .bf16 := fun y => w (ix2 (y 0) (Fin.ofNat 512 (n + (y 1).val)))

theorem ld_cols (w : Vec F S2048x512 .bf16) (n : ℕ) (h : ∀ a, (![0, n] : Fin 2 → ℕ) a + S2048x256.size a ≤ S2048x512.size a) :
    View.ld (Val := Elt F) (e' := .bf16) w (Rect.unit (s := S2048x512) ![0, n] S2048x256.size h) = cols w n := by
  have hn : n + 256 ≤ 512 := h 1
  funext y
  have hy : (y 1).val < 256 := (y 1).isLt
  refine congrArg w (funext fun a => Fin.ext ?_)
  match a with
  | ⟨0, _⟩ => show 0 + 1 * (y 0).val = (y 0).val; omega
  | ⟨1, _⟩ => show n + 1 * (y 1).val = (n + (y 1).val) % 512; omega

/-- The block of a point whose column block holds two mixes: `p`, and `q` next to it. -/
def halves (p q : Vec F S1x1024x256 .f32) : Vec F S1x1024x512 .f32 := fun y =>
  if (y 2).val < 256 then p (ix3 (0 : Fin 1) (y 1) (Fin.ofNat 256 (y 2).val)) else q (ix3 (0 : Fin 1) (y 1) (Fin.ofNat 256 ((y 2).val - 256)))

theorem halves_emb (p q : Vec F S1x1024x256 .f32) (n : ℕ) (hn : n = 0 ∨ n = 256)
    (h : ∀ a, (![0, 0, n] : Fin 3 → ℕ) a + S1x1024x256.size a ≤ S1x1024x512.size a) (y : S1x1024x256.Idx) :
    halves p q ((Rect.unit (s := S1x1024x512) ![0, 0, n] S1x1024x256.size h).emb y) = if n = 0 then p y else q y := by
  have e0 : (y 0).val < 1 := (y 0).isLt
  have e2 : (y 2).val < 256 := (y 2).isLt
  show (if n + 1 * (y 2).val < 256 then _ else _) = _
  rcases hn with rfl | rfl
  · rw [if_pos (by omega), if_pos rfl]
    refine congrArg p (funext fun a => Fin.ext ?_)
    match a with
    | ⟨0, _⟩ => show 0 = (y 0).val; omega
    | ⟨1, _⟩ => show 0 + 1 * (y 1).val = (y 1).val; omega
    | ⟨2, _⟩ => show (0 + 1 * (y 2).val) % 256 = (y 2).val; omega
  · rw [if_neg (by omega), if_neg (by decide)]
    refine congrArg q (funext fun a => Fin.ext ?_)
    match a with
    | ⟨0, _⟩ => show 0 = (y 0).val; omega
    | ⟨1, _⟩ => show 0 + 1 * (y 1).val = (y 1).val; omega
    | ⟨2, _⟩ => show (256 + 1 * (y 2).val - 256) % 256 = (y 2).val; omega

/-- A block stored in two halves holds the two. -/
theorem two_halves (a : Memref sig .tc .vmem S1x1024x512 .f32) (f : a.view.ty.Contents (Elt F)) (x z : Vec F S1024x2048 .bf16)
    (w : Vec F S2048x512 .bf16) (h0 : ∀ d, (![0, 0] : Fin 2 → ℕ) d + S2048x256.size d ≤ S2048x512.size d)
    (h1 : ∀ d, (![0, 256] : Fin 2 → ℕ) d + S2048x256.size d ≤ S2048x512.size d)
    (h0' : ∀ d, (![0, 0, 0] : Fin 3 → ℕ) d + S1x1024x256.size d ≤ S1x1024x512.size d)
    (h1' : ∀ d, (![0, 0, 256] : Fin 3 → ℕ) d + S1x1024x256.size d ≤ S1x1024x512.size d) :
    a.view.read (Elt F) (a.view.writes (Elt F) f
      [⟨Rect.unit (s := S1x1024x512) ![0, 0, 256] S1x1024x256.size h1',
          k0_pay7 z (View.ld (Val := Elt F) (e' := .bf16) w (Rect.unit (s := S2048x512) ![0, 256] S2048x256.size h1))⟩,
        ⟨Rect.unit (s := S1x1024x512) ![0, 0, 0] S1x1024x256.size h0',
          k0_pay7 x (View.ld (Val := Elt F) (e' := .bf16) w (Rect.unit (s := S2048x512) ![0, 0] S2048x256.size h0))⟩])
      = halves (k0_pay7 x (cols w 0)) (k0_pay7 z (cols w 256)) := by
  rw [ld_cols, ld_cols]
  funext y
  refine View.read_writes_apply_of_pieces (Val := Elt F) _ _ _ _ ?_ y ?_
  · simp only [List.mem_cons, List.not_mem_nil, _root_.or_false, forall_eq_or_imp, forall_eq]
    exact ⟨fun t => ((halves_emb _ _ 256 (.inr rfl) h1' t).trans (if_neg (by decide))).symm,
      fun t => ((halves_emb _ _ 0 (.inl rfl) h0' t).trans (if_pos rfl)).symm⟩
  · have e0 : (y 0).val < 1 := (y 0).isLt
    have e1 : (y 1).val < 1024 := (y 1).isLt
    have e2 : (y 2).val < 512 := (y 2).isLt
    by_cases hy : (y 2).val < 256
    · refine ⟨_, List.mem_cons_of_mem _ List.mem_cons_self, (Rect.mem_set_unit (inb := h0')).mpr fun d => ?_⟩
      match d with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 256; omega
    · refine ⟨_, List.mem_cons_self, (Rect.mem_set_unit (inb := h1')).mpr fun d => ?_⟩
      match d with
      | ⟨0, _⟩ => show 0 ≤ (y 0).val ∧ (y 0).val < 0 + 1; omega
      | ⟨1, _⟩ => show 0 ≤ (y 1).val ∧ (y 1).val < 0 + 1024; omega
      | ⟨2, _⟩ => show 256 ≤ (y 2).val ∧ (y 2).val < 256 + 256; omega

variable (c : Dev nD) (i : grid0.Coords) (a3 : Memref sig .tc .vmem S1x1024x2048 .f32) (h3 : a3.IsWhole) (a4 : Memref sig .tc .vmem S1x1x2048 .f32) (h4 : a4.IsWhole)
  (a5 : Memref sig .tc .vmem S1x2048 .f32) (h5 : a5.IsWhole) (a6 : Memref sig .tc .vmem S8x2048 .f32) (h6 : a6.IsWhole)
  (a7 : Memref sig .tc .vmem S2048x512 .bf16) (h7 : a7.IsWhole) (a8 : Memref sig .tc .vmem S1x1024x512 .f32) (h8 : a8.IsWhole)
  (a9 : Memref sig .tc .vmem S1x1x2048 .f32) (h9 : a9.IsWhole) (a10 : Memref sig .tc .vmem S1024x2048 .f32) (h10 : a10.IsWhole)
  (a11 : Memref sig .tc .vmem S1024x2048 .f32) (h11 : a11.IsWhole) (a12 : Memref sig .tc .vmem S1024x2048 .bf16) (h12 : a12.IsWhole)
  (a13 : Memref sig .tc .vmem S1x2048 .f32) (h13 : a13.IsWhole)

/-- The buffers the body only reads, at their contents. -/
abbrev Inputs (x : Vec F S1x1024x2048 .f32) (sp : Vec F S1x1x2048 .f32) (g : Vec F S1x2048 .f32) (mu : Vec F S8x2048 .f32)
    (w : Vec F S2048x512 .bf16) : Assertion F :=
  iprop(owns (c : Thread nD τ) a3 fullShare x ∗ owns (c : Thread nD τ) a4 fullShare sp ∗ owns (c : Thread nD τ) a5 fullShare g
    ∗ owns (c : Thread nD τ) a6 fullShare mu ∗ owns (c : Thread nD τ) a7 fullShare w)

/-- The buffers the body writes: its two results' blocks, the normed rows, their differences to the rows before, the mixed rows, and the
    row carried to the next row block. -/
abbrev Written (o : Vec F S1x1024x512 .f32) (l : Vec F S1x1x2048 .f32) (u xx : Vec F S1024x2048 .f32) (xm : Vec F S1024x2048 .bf16)
    (ca : Vec F S1x2048 .f32) : Assertion F :=
  iprop(owns (c : Thread nD τ) a8 fullShare o ∗ owns (c : Thread nD τ) a9 fullShare l ∗ owns (c : Thread nD τ) a10 fullShare u
    ∗ owns (c : Thread nD τ) a11 fullShare xx ∗ owns (c : Thread nD τ) a12 fullShare xm ∗ owns (c : Thread nD τ) a13 fullShare ca)

variable (x : Vec F S1x1024x2048 .f32) (sp : Vec F S1x1x2048 .f32) (g : Vec F S1x2048 .f32) (mu : Vec F S8x2048 .f32) (w : Vec F S2048x512 .bf16)
  (o : Vec F S1x1024x512 .f32) (l : Vec F S1x1x2048 .f32) (u xx : Vec F S1024x2048 .f32) (xm : Vec F S1024x2048 .bf16) (ca : Vec F S1x2048 .f32)

/-- The body, run from these contents, leaves those. -/
abbrev Runs (o : Vec F S1x1024x512 .f32) (l : Vec F S1x1x2048 .f32) (u xx : Vec F S1024x2048 .f32) (xm : Vec F S1024x2048 .bf16)
    (ca : Vec F S1x2048 .f32) (o' : Vec F S1x1024x512 .f32) (l' : Vec F S1x1x2048 .f32) (u' xx' : Vec F S1024x2048 .f32)
    (xm' : Vec F S1024x2048 .bf16) (ca' : Vec F S1x2048 .f32) : Prop :=
  ∀ (E : Set ℕ) (K : PUnit → Assertion F),
    iprop(Inputs c a3 a4 a5 a6 a7 x sp g mu w ∗ Written c a8 a9 a10 a11 a12 a13 o l u xx xm ca
        ∗ (iprop(Inputs c a3 a4 a5 a6 a7 x sp g mu w ∗ Written c a8 a9 a10 a11 a12 a13 o' l' u' xx' xm' ca') -∗ K ⟨⟩))
      ⊢ wp frame (wpE (defs₀ (F := F)) Variants.none c none) E
        (cc0_rwkv_in_proj i a3 h3 a4 h4 a5 h5 a6 h6 a7 h7 a8 h8 a9 h9 a10 h10 a11 h11 a12 h12 a13 h13) K

/-- The first row block's first point norms its rows, keeps them and their differences to the rows before (the first from the row handed over), the first mix and the last row, and multiplies the mix by its weights. -/
theorem run_first (f : atFirst i) (c3 : ¬k0_cond3 i = 1#1) (c1 : k0_cond1 i = 1#1) (s0 : atStep i 0#32) (s3 : ¬atStep i 3#32) (s6 : ¬atStep i 6#32) (s9 : ¬atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 (k0_pay3 (k0_pay12 x g) (k0_pay13 x g (k0_pay10 sp)) (muRow mu 0)) w) l (k0_pay12 x g) (k0_pay13 x g (k0_pay10 sp)) (k0_pay3 (k0_pay12 x g) (k0_pay13 x g (k0_pay10 sp)) (muRow mu 0)) (k0_pay1 (k0_pay14 x g)) := by
  intro E K
  simp only [cc0_rwkv_in_proj_eq_skeleton, k0_part1_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact f | sl_exact c3 | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; · ipureintro; exact h9.read_unread _
    iexact H9
  isplitl [H10]
  · iexists _; isplitr; swap; · iexact H10
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H11]
  · iexists _; isplitr; swap; · iexact H11
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; swap; · iexact H13
  ipureintro; sl_unfold_words
  refine (View.read_writes_full _ _ _ _ _).trans ?_
  simp only [View.readCov_full (s := S1024x2048), View.readCov_full (s := S1x2048), View.readAt_eq_ld, h3.read_unread, h4.read_unread, h5.read_unread, h6.read_unread, h7.read_unread,
    h10.read_unread, h11.read_unread, h12.read_unread, h13.read_unread, ld_row, mixes,
    View.ld_unit_zero (S := S1x1024x2048) zeros3, View.ld_unit_zero (S := S1x1x2048) zeros3, View.ld_unit_zero (S := S1x2048) zeros2,
    View.ld_unit_zero (S := S1024x2048) zeros2, View.ld_unit_zero (S := S2048x512) zeros2]

/-- The second row block's first point does so too, its first row's difference taken to the row carried, and hands its last row out. -/
theorem run_second (f : ¬atFirst i) (c3 : k0_cond3 i = 1#1) (c1 : k0_cond1 i = 1#1) (s0 : atStep i 0#32) (s3 : ¬atStep i 3#32) (s6 : ¬atStep i 6#32) (s9 : ¬atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 (k0_pay3 (k0_pay12 x g) (k0_pay13 x g ca) (muRow mu 0)) w) (k0_pay2 (k0_pay11 x g)) (k0_pay12 x g) (k0_pay13 x g ca) (k0_pay3 (k0_pay12 x g) (k0_pay13 x g ca) (muRow mu 0)) (k0_pay1 (k0_pay14 x g)) := by
  intro E K
  simp only [cc0_rwkv_in_proj_eq_skeleton, k0_part1_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact f | sl_exact c3 | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; swap; · iexact H9
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H10]
  · iexists _; isplitr; swap; · iexact H10
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H11]
  · iexists _; isplitr; swap; · iexact H11
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; swap; · iexact H13
  ipureintro; sl_unfold_words
  refine (View.read_writes_full _ _ _ _ _).trans ?_
  simp only [View.readCov_full (s := S1024x2048), View.readCov_full (s := S1x2048), View.readAt_eq_ld, h3.read_unread, h4.read_unread, h5.read_unread, h6.read_unread, h7.read_unread,
    h10.read_unread, h11.read_unread, h12.read_unread, h13.read_unread, ld_row, mixes,
    View.ld_unit_zero (S := S1x1024x2048) zeros3, View.ld_unit_zero (S := S1x1x2048) zeros3, View.ld_unit_zero (S := S1x2048) zeros2,
    View.ld_unit_zero (S := S1024x2048) zeros2, View.ld_unit_zero (S := S2048x512) zeros2]

/-- A point that keeps the mixed rows multiplies them by its weights. -/
theorem run_plain (c1 : ¬k0_cond1 i = 1#1) (s0 : ¬atStep i 0#32) (s3 : ¬atStep i 3#32) (s6 : ¬atStep i 6#32) (s9 : ¬atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 xm w) l u xx xm ca := by
  intro E K
  simp only [cc0_rwkv_in_proj_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  iexists _; isplitr; · ipureintro; exact h13.read_unread _
  iexact H13

/-- The fourth point mixes anew. -/
theorem run_third (c1 : ¬k0_cond1 i = 1#1) (s0 : ¬atStep i 0#32) (s3 : atStep i 3#32) (s6 : ¬atStep i 6#32) (s9 : ¬atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 (k0_pay3 u xx (muRow mu 2)) w) l u xx (k0_pay3 u xx (muRow mu 2)) ca := by
  intro E K
  simp only [cc0_rwkv_in_proj_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; · ipureintro; exact h13.read_unread _
  iexact H13

/-- So does the seventh. -/
theorem run_sixth (c1 : ¬k0_cond1 i = 1#1) (s0 : ¬atStep i 0#32) (s3 : ¬atStep i 3#32) (s6 : atStep i 6#32) (s9 : ¬atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 (k0_pay3 u xx (muRow mu 3)) w) l u xx (k0_pay3 u xx (muRow mu 3)) ca := by
  intro E K
  simp only [cc0_rwkv_in_proj_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; · ipureintro; exact h13.read_unread _
  iexact H13

/-- The tenth takes the normed rows unmixed. -/
theorem run_ninth (c1 : ¬k0_cond1 i = 1#1) (s0 : ¬atStep i 0#32) (s3 : ¬atStep i 3#32) (s6 : ¬atStep i 6#32) (s9 : atStep i 9#32) (c8 : ¬k0_cond8 i = 1#1) (c9 : ¬k0_cond9 i = 1#1) (c10 : k0_cond10 i = 1#1) :
    Runs c i a3 h3 a4 h4 a5 h5 a6 h6 a7 h7 a8 h8 a9 h9 a10 h10 a11 h11 a12 h12 a13 h13 x sp g mu w o l u xx xm ca
      (k0_pay9 (k0_pay6 u) w) l u xx (k0_pay6 u) ca := by
  intro E K
  simp only [cc0_rwkv_in_proj_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; · ipureintro; exact h13.read_unread _
  iexact H13

/-- The eleventh takes two mixes, one for each half of its columns. -/
theorem run_tenth (c1 : ¬k0_cond1 i = 1#1) (s0 : ¬atStep i 0#32) (s3 : ¬atStep i 3#32) (s6 : ¬atStep i 6#32) (s9 : ¬atStep i 9#32) (c8 : k0_cond8 i = 1#1) (c9 : ¬k0_cond9 i = 1#1) (c10 : ¬k0_cond10 i = 1#1) :
    Runs c i a3 h3 a4 h4 a5 h5 a6 h6 a7 h7 a8 h8 a9 h9 a10 h10 a11 h11 a12 h12 a13 h13 x sp g mu w o l u xx xm ca
      (halves (k0_pay7 (k0_pay3 u xx (muRow mu 1)) (cols w 0)) (k0_pay7 (k0_pay3 u xx (muRow mu 3)) (cols w 256))) l u xx (k0_pay3 u xx (muRow mu 3)) ca := by
  intro E K
  simp only [cc0_rwkv_in_proj_eq_skeleton, k0_part2_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
    exact two_halves a8 _ _ _ w _ _ _ _
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; · ipureintro; exact h13.read_unread _
  iexact H13

/-- So does the twelfth. -/
theorem run_eleventh (c1 : ¬k0_cond1 i = 1#1) (s0 : ¬atStep i 0#32) (s3 : ¬atStep i 3#32) (s6 : ¬atStep i 6#32) (s9 : ¬atStep i 9#32) (c8 : ¬k0_cond8 i = 1#1) (c9 : k0_cond9 i = 1#1) (c10 : ¬k0_cond10 i = 1#1) :
    Runs c i a3 h3 a4 h4 a5 h5 a6 h6 a7 h7 a8 h8 a9 h9 a10 h10 a11 h11 a12 h12 a13 h13 x sp g mu w o l u xx xm ca
      (halves (k0_pay7 (k0_pay3 u xx (muRow mu 4)) (cols w 0)) (k0_pay7 (k0_pay3 u xx (muRow mu 5)) (cols w 256))) l u xx (k0_pay3 u xx (muRow mu 5)) ca := by
  intro E K
  simp only [cc0_rwkv_in_proj_eq_skeleton, k0_part3_eq_skeleton]
  unfold cc0_rwkv_in_proj_skel
  unfold Inputs Written owns
  iintro ⟨⟨⟨%f3, %e3, H3⟩, ⟨%f4, %e4, H4⟩, ⟨%f5, %e5, H5⟩, ⟨%f6, %e6, H6⟩, ⟨%f7, %e7, H7⟩⟩,
    ⟨⟨%f8, %e8, H8⟩, ⟨%f9, %e9, H9⟩, ⟨%f10, %e10, H10⟩, ⟨%f11, %e11, H11⟩, ⟨%f12, %e12, H12⟩, ⟨%f13, %e13, H13⟩⟩, Hk⟩
  obtain rfl := h3.eq_unread e3; obtain rfl := h4.eq_unread e4; obtain rfl := h5.eq_unread e5; obtain rfl := h6.eq_unread e6
  obtain rfl := h7.eq_unread e7; obtain rfl := h8.eq_unread e8; obtain rfl := h9.eq_unread e9; obtain rfl := h10.eq_unread e10
  obtain rfl := h11.eq_unread e11; obtain rfl := h12.eq_unread e12; obtain rfl := h13.eq_unread e13
  sl_exec (disch := first | sl_exact c1 | sl_exact s0 | sl_exact s3 | sl_exact s6 | sl_exact s9 | sl_exact c8 | sl_exact c9 | sl_exact c10)
  sl_step
  iapply Hk
  isplitl [H3 H4 H5 H6 H7]
  · isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro; sl_unfold_words
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
    exact two_halves a8 _ _ _ w _ _ _ _
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; swap; · iexact H12
    ipureintro; sl_unfold_words
    refine (View.read_writes_full _ _ _ _ _).trans ?_
    simp only [View.readCov_full (s := S1024x2048), View.readCov_full (s := S1x2048), View.readAt_eq_ld, h3.read_unread, h4.read_unread, h5.read_unread, h6.read_unread, h7.read_unread,
      h10.read_unread, h11.read_unread, h12.read_unread, h13.read_unread, ld_row, mixes,
      View.ld_unit_zero (S := S1x1024x2048) zeros3, View.ld_unit_zero (S := S1x1x2048) zeros3, View.ld_unit_zero (S := S1x2048) zeros2,
      View.ld_unit_zero (S := S1024x2048) zeros2, View.ld_unit_zero (S := S2048x512) zeros2]
  iexists _; isplitr; · ipureintro; exact h13.read_unread _
  iexact H13

end Cert.RinKernelIdeal.Body

end
-- ==== Proof.RinFrame.lean ====
/- The recurrent layers' input projection, point by point: what every buffer holds after each point of the grid, and the kernel's run. -/
module

public import proofs.«01_k».proof.Defs
public import proofs.«01_k».proof.Proof.RinRuns
public import Idealize.ShloMosaic.Lib.Pipeline.FrameBody
public import Idealize.ShloMosaic.Lib.WordCmp

@[expose] public section

set_option maxRecDepth 16384

noncomputable section

namespace Cert.RinKernelIdeal.Body

open Cert.RinKernelIdeal Cert.RinKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] (m : (ℓ : Loc nD τ sig) → Buf (Elt F) ℓ) (ρ : Dev nD → PrngReg) (c : Dev nD)

/-! ## The conditions -/

/-- The point's coordinates: 24 points a sequence, 12 a row block. -/
theorem coords_eq (t : Fin cfg0.N) : (grid0.coords t 1).val = t.val / 12 % 2 ∧ (grid0.coords t 2).val = t.val / 1 % 12 :=
  ⟨Pipeline.Grid.coords_val t 1 (by decide) rfl, Pipeline.Grid.coords_val t 2 (by decide) rfl⟩

theorem atFirst_iff (t : Fin cfg0.N) : atFirst (grid0.coords t) ↔ t.val / 12 % 2 = 0 := by
  have ht : t.val < 96 := Nat.lt_of_lt_of_eq t.isLt N_0
  simp only [atFirst, (coords_eq t).1]
  word_cmp

theorem cond3_iff (t : Fin cfg0.N) : k0_cond3 (grid0.coords t) = 1#1 ↔ t.val / 12 % 2 = 1 := by
  have ht : t.val < 96 := Nat.lt_of_lt_of_eq t.isLt N_0
  simp only [k0_cond3, (coords_eq t).1]
  word_cmp

theorem cond1_iff (t : Fin cfg0.N) : k0_cond1 (grid0.coords t) = 1#1 ↔ t.val % 12 = 0 := by
  have ht : t.val < 96 := Nat.lt_of_lt_of_eq t.isLt N_0
  simp only [k0_cond1, (coords_eq t).2]
  word_cmp

theorem cond8_iff (t : Fin cfg0.N) : k0_cond8 (grid0.coords t) = 1#1 ↔ t.val % 12 = 10 := by
  have ht : t.val < 96 := Nat.lt_of_lt_of_eq t.isLt N_0
  simp only [k0_cond8, (coords_eq t).2]
  word_cmp

theorem cond9_iff (t : Fin cfg0.N) : k0_cond9 (grid0.coords t) = 1#1 ↔ t.val % 12 = 11 := by
  have ht : t.val < 96 := Nat.lt_of_lt_of_eq t.isLt N_0
  simp only [k0_cond9, (coords_eq t).2]
  word_cmp

theorem cond10_iff : ∀ t : Fin grid0.N, k0_cond10 (grid0.coords t) = 1#1 ↔ t.val % 12 ≤ 9 := by decide +kernel

theorem atStep0_iff (t : Fin cfg0.N) : atStep (grid0.coords t) 0#32 ↔ t.val % 12 = 0 := by
  have ht : t.val < 96 := Nat.lt_of_lt_of_eq t.isLt N_0
  simp only [atStep, (coords_eq t).2]
  word_cmp

theorem atStep3_iff (t : Fin cfg0.N) : atStep (grid0.coords t) 3#32 ↔ t.val % 12 = 3 := by
  have ht : t.val < 96 := Nat.lt_of_lt_of_eq t.isLt N_0
  simp only [atStep, (coords_eq t).2]
  word_cmp

theorem atStep6_iff (t : Fin cfg0.N) : atStep (grid0.coords t) 6#32 ↔ t.val % 12 = 6 := by
  have ht : t.val < 96 := Nat.lt_of_lt_of_eq t.isLt N_0
  simp only [atStep, (coords_eq t).2]
  word_cmp

theorem atStep9_iff (t : Fin cfg0.N) : atStep (grid0.coords t) 9#32 ↔ t.val % 12 = 9 := by
  have ht : t.val < 96 := Nat.lt_of_lt_of_eq t.isLt N_0
  simp only [atStep, (coords_eq t).2]
  word_cmp

/-- The product's block is stored at every point; the last row's, at a sequence's second row block's first point. -/
theorem live5 : ∀ t : Fin grid0.N, idle0 5 (grid0.coords t) = false := by decide +kernel
theorem idle6 : ∀ t : Fin grid0.N, idle0 6 (grid0.coords t) = decide (t.val % 24 ≠ 12) := by decide +kernel

/-! ## What the buffers hold after a point -/

/-- The first point of a point's row block, and the last of the row block before. -/
def head (t : Fin cfg0.N) : Fin cfg0.N := ⟨t.val - t.val % 12, Nat.lt_of_le_of_lt (Nat.sub_le _ _) t.isLt⟩
def back (t : Fin cfg0.N) : Fin cfg0.N := ⟨t.val - 1, Nat.lt_of_le_of_lt (Nat.sub_le _ _) t.isLt⟩

/-- The normed rows of the row block. -/
def rows (t : Fin cfg0.N) : Vec F S1024x2048 .f32 := k0_pay12 (iblk m c 0 (head t)) (iblk m c 2 (head t))

/-- Its last row, carried to the next row block, and as handed out. -/
def carried (t : Fin cfg0.N) : Vec F S1x2048 .f32 := k0_pay1 (k0_pay14 (iblk m c 0 (head t)) (iblk m c 2 (head t)))
def lastRow (t : Fin cfg0.N) : Vec F S1x1x2048 .f32 := k0_pay2 (k0_pay11 (iblk m c 0 (head t)) (iblk m c 2 (head t)))

/-- The row before the row block's first: the one handed over, or the row block before's last. -/
def before (t : Fin cfg0.N) : Vec F S1x2048 .f32 :=
  if t.val / 12 % 2 = 0 then k0_pay10 (iblk m c 1 (head t)) else carried m c (back (head t))

/-- The differences of the rows before to the rows. -/
def diffs (t : Fin cfg0.N) : Vec F S1024x2048 .f32 := k0_pay13 (iblk m c 0 (head t)) (iblk m c 2 (head t)) (before m c t)

/-- The rows mixed with coefficients' row `n`. -/
def mix (n : ℕ) (t : Fin cfg0.N) : Vec F S1024x2048 .bf16 := k0_pay3 (rows m c t) (diffs m c t) (muRow (iblk m c 3 (head t)) n)

/-- The mixed rows kept after a point. -/
def mixed (t : Fin cfg0.N) : Vec F S1024x2048 .bf16 :=
  if t.val % 12 < 3 then mix m c 0 t else if t.val % 12 < 6 then mix m c 2 t else if t.val % 12 < 9 then mix m c 3 t
  else if t.val % 12 = 9 then k0_pay6 (rows m c t) else if t.val % 12 = 10 then mix m c 3 t else mix m c 5 t

/-- The block of the product a point leaves. -/
def block (t : Fin cfg0.N) : Vec F S1x1024x512 .f32 :=
  if t.val % 12 < 10 then k0_pay9 (mixed m c t) (iblk m c 4 t)
  else if t.val % 12 = 10 then halves (k0_pay7 (mix m c 1 t) (cols (iblk m c 4 t) 0)) (k0_pay7 (mix m c 3 t) (cols (iblk m c 4 t) 256))
  else halves (k0_pay7 (mix m c 4 t) (cols (iblk m c 4 t) 0)) (k0_pay7 (mix m c 5 t) (cols (iblk m c 4 t) 256))

theorem head_self (t : Fin cfg0.N) (h : t.val % 12 = 0) : head t = t := Fin.ext (by show t.val - t.val % 12 = t.val; omega)

theorem head_back (t : Fin cfg0.N) (h : t.val % 12 ≠ 0) : head (back t) = head t :=
  Fin.ext (by show t.val - 1 - (t.val - 1) % 12 = t.val - t.val % 12; omega)

theorem rows_back (t : Fin cfg0.N) (h : t.val % 12 ≠ 0) : rows m c (back t) = rows m c t := by
  unfold rows; rw [head_back t h]
theorem carried_back (t : Fin cfg0.N) (h : t.val % 12 ≠ 0) : carried m c (back t) = carried m c t := by
  unfold carried; rw [head_back t h]
theorem lastRow_back (t : Fin cfg0.N) (h : t.val % 12 ≠ 0) : lastRow m c (back t) = lastRow m c t := by
  unfold lastRow; rw [head_back t h]
theorem diffs_back (t : Fin cfg0.N) (h : t.val % 12 ≠ 0) : diffs m c (back t) = diffs m c t := by
  unfold diffs before
  rw [head_back t h, show (back t).val / 12 % 2 = t.val / 12 % 2 from by show (t.val - 1) / 12 % 2 = _; omega]
theorem mix_back (n : ℕ) (t : Fin cfg0.N) (h : t.val % 12 ≠ 0) : mix m c n (back t) = mix m c n t := by
  unfold mix; rw [head_back t h, rows_back m c t h, diffs_back m c t h]

/-- A point that does not mix keeps what the point before kept. -/
theorem mixed_back (t : Fin cfg0.N) (h : t.val % 12 ≠ 0) (h3 : t.val % 12 ≠ 3) (h6 : t.val % 12 ≠ 6) (h9 : t.val % 12 < 9) :
    mixed m c (back t) = mixed m c t := by
  have hb : (back t).val % 12 = t.val % 12 - 1 := by show (t.val - 1) % 12 = _; omega
  unfold mixed
  rw [hb, mix_back m c 0 t h, mix_back m c 2 t h, mix_back m c 3 t h]
  by_cases a : t.val % 12 < 3
  · rw [if_pos a, if_pos (by omega)]
  · rw [if_neg a, if_neg (by omega)]
    by_cases b : t.val % 12 < 6
    · rw [if_pos b, if_pos (by omega)]
    · rw [if_neg b, if_neg (by omega), if_pos h9, if_pos (by omega)]

/-- The coefficients' window does not move. -/
theorem coeffs_eq (t s : Fin cfg0.N) : iblk m c 3 t = iblk m c 3 s := rfl

/-! ## The pipeline's proof data -/

abbrev sc0 : Memref sig .tc .vmem S1024x2048 .f32 := Memref.whole cc0_scratch0
abbrev sc1 : Memref sig .tc .vmem S1024x2048 .f32 := Memref.whole cc0_scratch1
abbrev sc2 : Memref sig .tc .vmem S1024x2048 .bf16 := Memref.whole cc0_scratch2
abbrev sc3 : Memref sig .tc .vmem S1x2048 .f32 := Memref.whole cc0_scratch3

/-- The kernel's own buffers at given contents. -/
def Kept (u xx : Vec F S1024x2048 .f32) (xm : Vec F S1024x2048 .bf16) (ca : Vec F S1x2048 .f32) : Assertion F :=
  iprop(iprop(owns (c : Thread nD τ) sc0 fullShare u ∗ owns (c : Thread nD τ) sc1 fullShare xx ∗ owns (c : Thread nD τ) sc2 fullShare xm
    ∗ owns (c : Thread nD τ) sc3 fullShare ca) ∗ (∃ r, prngReg c r))

theorem region_eq : (Pipeline.ΦA spec0 c : Assertion F)
    = iprop(iprop((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d)) ∗ (∃ r, prngReg c r)) := by
  unfold Pipeline.ΦA; rw [scopedRest0_eq]; simp only [sc0, sc1, sc2, sc3, owns_whole]; try rfl

/-- What holds before the point at position `n`. -/
def Between : (n : ℕ) → n ≤ cfg0.N → Assertion F
  | 0, _ => Pipeline.ΦA spec0 c
  | n + 1, hn => Kept c (rows m c ⟨n, hn⟩) (diffs m c ⟨n, hn⟩) (mixed m c ⟨n, hn⟩) (carried m c ⟨n, hn⟩)

theorem between_pos (n : ℕ) (h : n ≤ cfg0.N) (hz : n ≠ 0) (t : Fin cfg0.N) (ht : t.val = n - 1) :
    Between m c n h = Kept c (rows m c t) (diffs m c t) (mixed m c t) (carried m c t) := by
  cases n with
  | zero => exact absurd rfl hz
  | succ n =>
    obtain rfl : t = ⟨n, h⟩ := Fin.ext ht
    rfl

theorem between_zero (n : ℕ) (h : n ≤ cfg0.N) (hz : n = 0) : Between m c n h = Pipeline.ΦA spec0 c := by
  subst hz; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block m c t
    | ⟨6, _⟩ => lastRow m c t
  Φ t := Between m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = block m c t := by dsimp only [dats]
theorem after_6 (t : Fin cfg0.N) : (dats m 0 c).after 6 t = lastRow m c t := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d
theorem before_4 (t : Fin cfg0.N) (d) : (dats m 0 c).before 4 t d = iblk m c 4 t := before0_4_of m (dats m 0 c) (A_eq m c 4) (after_4 m c) t d

/-- Past the point that stores the last row, its buffer holds it until it is written back. -/
theorem before_6 : ∀ (n : ℕ) (t : Fin cfg0.N) (d), t.val % 24 = 13 + n → n < 11 → (dats m 0 c).before 6 t d = lastRow m c t
  | n, t, d, ht, hn => by
    have hf : (cfg0.win 6).flush (back t) = false := eq_false_of_ne_true fun h => by
      have := (flush0_6 (back t)).mp h
      have hb : (back t).val = t.val - 1 := rfl
      omega
    rw [Dat.before_of_pos (dats m 0 c) 6 t (by omega) rfl d]
    refine (if_neg (by rw [show (⟨t.val - 1, _⟩ : Fin cfg0.N) = back t from rfl, hf]; exact Bool.false_ne_true)).trans ?_
    show (dats m 0 c).left 6 (back t) d = _
    have hi : cfg0.idle 6 (cfg0.grid.coords (back t)) = decide ((t.val - 1) % 24 ≠ 12) := idle6 (back t)
    unfold Dat.left
    rw [← lastRow_back m c t (by omega)]
    match n with
    | 0 =>
      rw [hi, show decide ((t.val - 1) % 24 ≠ 12) = false from decide_eq_false (by omega)]
      show (dats m 0 c).kept 6 (back t) d = _
      unfold Dat.kept
      rw [after_6]
      rfl
    | n + 1 =>
      rw [hi, show decide ((t.val - 1) % 24 ≠ 12) = true from decide_eq_true (by omega)]
      exact before_6 n (back t) d (by show (t.val - 1) % 24 = _; omega) (by omega)

/-! ## The body at a point -/

abbrev ms0 (t : Fin cfg0.N) : Memref sig .tc .vmem S1x1024x2048 .f32 := win0_0.stage (cfg0.slots t 0)
abbrev ms1 (t : Fin cfg0.N) : Memref sig .tc .vmem S1x1x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S8x2048 .f32 := win0_3.stage (cfg0.slots t 3)
abbrev ms4 (t : Fin cfg0.N) : Memref sig .tc .vmem S2048x512 .bf16 := win0_4.stage (cfg0.slots t 4)
abbrev ms5 (t : Fin cfg0.N) : Memref sig .tc .vmem S1x1024x512 .f32 := win0_5.stage (cfg0.slots t 5)
abbrev ms6 (t : Fin cfg0.N) : Memref sig .tc .vmem S1x1x2048 .f32 := win0_6.stage (cfg0.slots t 6)

/-- The point's run from given contents of what it writes, in the place the pipeline runs it. -/
abbrev PointRuns (t : Fin cfg0.N) (o : Vec F S1x1024x512 .f32) (l : Vec F S1x1x2048 .f32) (u xx : Vec F S1024x2048 .f32)
    (xm : Vec F S1024x2048 .bf16) (ca : Vec F S1x2048 .f32) (o' : Vec F S1x1024x512 .f32) (l' : Vec F S1x1x2048 .f32)
    (u' xx' : Vec F S1024x2048 .f32) (xm' : Vec F S1024x2048 .bf16) (ca' : Vec F S1x2048 .f32) : Prop :=
  Runs c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    (ms4 t) (hstage0_4 ((cfg0.slots t 4).cast nbuf0_4)) (ms5 t) (hstage0_5 ((cfg0.slots t 5).cast nbuf0_5))
    (ms6 t) (hstage0_6 ((cfg0.slots t 6).cast nbuf0_6)) sc0 (Memref.isWhole_whole _) sc1 (Memref.isWhole_whole _)
    sc2 (Memref.isWhole_whole _) sc3 (Memref.isWhole_whole _)
    (iblk m c 0 t) (iblk m c 1 t) (iblk m c 2 t) (iblk m c 3 t) (iblk m c 4 t) o l u xx xm ca o' l' u' xx' xm' ca'

/-- What the body is called with at a point, the kernel's own buffers apart, -/
def Given (t : Fin cfg0.N) : Assertion F :=
  iprop((dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def Left (t : Fin cfg0.N) : Assertion F :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_0 (t : Fin cfg0.N) : (dats m 0 c).leavesExact 0 t = owns (c : Thread nD τ) (ms0 t) fullShare (iblk m c 0 t) := by
  rw [← after_0]
theorem leaves_1 (t : Fin cfg0.N) : (dats m 0 c).leavesExact 1 t = owns (c : Thread nD τ) (ms1 t) fullShare (iblk m c 1 t) := by
  rw [← after_1]
theorem leaves_2 (t : Fin cfg0.N) : (dats m 0 c).leavesExact 2 t = owns (c : Thread nD τ) (ms2 t) fullShare (iblk m c 2 t) := by
  rw [← after_2]
theorem leaves_3 (t : Fin cfg0.N) : (dats m 0 c).leavesExact 3 t = owns (c : Thread nD τ) (ms3 t) fullShare (iblk m c 3 t) := by
  rw [← after_3]
theorem leaves_4 (t : Fin cfg0.N) : (dats m 0 c).leavesExact 4 t = owns (c : Thread nD τ) (ms4 t) fullShare (iblk m c 4 t) := by
  rw [← after_4]
theorem leaves_5 (t : Fin cfg0.N) : (dats m 0 c).leavesExact 5 t = owns (c : Thread nD τ) (ms5 t) fullShare (block m c t) := by
  have hi : cfg0.idle 5 (cfg0.grid.coords t) = false := live5 t
  unfold Dat.leavesExact; rw [hi, after_5]

/-- The last row's buffer at the point that stores it, -/
theorem leaves_6 (t : Fin cfg0.N) (h : t.val % 24 = 12) : owns (c : Thread nD τ) (ms6 t) fullShare (lastRow m c t) ⊢ (dats m 0 c).leavesExact 6 t := by
  have hi : cfg0.idle 6 (cfg0.grid.coords t) = false := (idle6 t).trans (decide_eq_false (by omega))
  unfold Dat.leavesExact; rw [hi, after_6]

/-- and at the others. -/
theorem leaves_6' (t : Fin cfg0.N) (h : t.val % 24 ≠ 12) (d) :
    owns (c : Thread nD τ) (ms6 t) fullShare ((dats m 0 c).before 6 t d) ⊢ (dats m 0 c).leavesExact 6 t := by
  have hi : cfg0.idle 6 (cfg0.grid.coords t) = true := (idle6 t).trans (decide_eq_true h)
  by_cases h' : t.val % 24 = 23
  · have hf : (cfg0.win 6).flush t = true := (flush0_6 t).mpr h'
    unfold Dat.leavesExact; rw [hi, hf, after_6, before_6 m c 10 t d (by omega) (by omega)]
  · rw [(dats m 0 c).leavesExact_idle 6 t hi (eq_false_of_ne_true fun hf => h' ((flush0_6 t).mp hf))]
    iintro H
    iexists _
    iexact H

set_option maxHeartbeats 1600000 in
/-- A point whose run leaves what it should returns what it should. -/
theorem point (t : Fin cfg0.N) (u xx : Vec F S1024x2048 .f32) (xm : Vec F S1024x2048 .bf16) (ca : Vec F S1x2048 .f32)
    (f : Vec F S1x1x2048 .f32 → Vec F S1x1x2048 .f32)
    (hr : ∀ o l, PointRuns m c t o l u xx xm ca (block m c t) (f l) (rows m c t) (diffs m c t) (mixed m c t) (carried m c t))
    (h6 : ∀ d, owns (c : Thread nD τ) (ms6 t) fullShare (f ((dats m 0 c).before 6 t d)) ⊢ (dats m 0 c).leavesExact 6 t) :
    iprop(Kept c u xx xm ca ∗ Given m c t) ⊢ wp frame (wpE (defs₀ (F := F)) Variants.none c none) Set.univ (bodyAt0 t) (fun _ => Left m c t) := by
  unfold Given Left bodyAt0 Kept
  simp only [before_0, before_1, before_2, before_3, before_4]
  rw [show (dats m 0 c).owesAt () t.succ = (dats m 0 c).owesAt () t.castSucc from rfl, leaves_0, leaves_1, leaves_2, leaves_3, leaves_4, leaves_5]
  rw [show (dats m 0 c).Φ t.succ = Kept c (rows m c t) (diffs m c t) (mixed m c t) (carried m c t) from rfl]
  unfold Kept
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply (hr _ _ Set.univ _)
  unfold Inputs Written
  isplitl [H0 H1 H2 H3 H4]
  · isplitl [H0]; · iexact H0
    isplitl [H1]; · iexact H1
    isplitl [H2]; · iexact H2
    isplitl [H3]; · iexact H3
    iexact H4
  isplitl [H5 H6 S0 S1 S2 S3]
  · isplitl [H5]; · iexact H5
    isplitl [H6]; · iexact H6
    isplitl [S0]; · iexact S0
    isplitl [S1]; · iexact S1
    isplitl [S2]; · iexact S2
    iexact S3
  iintro ⟨⟨H0, H1, H2, H3, H4⟩, ⟨H5, H6, S0, S1, S2, S3⟩⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (h6 d6)
  iexact H6

theorem mix_eq (n : ℕ) (t : Fin cfg0.N) : k0_pay3 (rows m c t) (diffs m c t) (muRow (iblk m c 3 t) n) = mix m c n t := rfl

/-- A sequence's first point, from any contents. -/
theorem point_first (t : Fin cfg0.N) (h : t.val % 24 = 0) (u xx : Vec F S1024x2048 .f32) (xm : Vec F S1024x2048 .bf16) (ca : Vec F S1x2048 .f32) :
    iprop(Kept c u xx xm ca ∗ Given m c t) ⊢ wp frame (wpE (defs₀ (F := F)) Variants.none c none) Set.univ (bodyAt0 t) (fun _ => Left m c t) := by
  refine point m c t u xx xm ca id (fun o l => ?_) (leaves_6' m c t (by omega))
  have hs := head_self t (by omega)
  have hm : mixed m c t = mix m c 0 t := if_pos (by omega)
  rw [show block m c t = k0_pay9 (mixed m c t) (iblk m c 4 t) from if_pos (by omega), hm]
  unfold mix diffs before rows carried
  rw [hs, if_pos (show t.val / 12 % 2 = 0 by omega)]
  apply run_first <;> simp only [atFirst_iff, cond3_iff, cond1_iff, cond8_iff, cond9_iff, cond10_iff, atStep0_iff, atStep3_iff, atStep6_iff, atStep9_iff] <;> omega

/-- The second row block's first point, from the first row block's last row. -/
theorem point_second (t : Fin cfg0.N) (h : t.val % 24 = 12) (u xx : Vec F S1024x2048 .f32) (xm : Vec F S1024x2048 .bf16) :
    iprop(Kept c u xx xm (carried m c (back t)) ∗ Given m c t) ⊢ wp frame (wpE (defs₀ (F := F)) Variants.none c none) Set.univ (bodyAt0 t) (fun _ => Left m c t) := by
  refine point m c t u xx xm _ (fun _ => lastRow m c t) (fun o l => ?_) (fun _ => leaves_6 m c t h)
  have hs := head_self t (by omega)
  have hm : mixed m c t = mix m c 0 t := if_pos (by omega)
  have hb : before m c t = carried m c (back t) := (if_neg (by omega)).trans (by rw [hs])
  rw [show block m c t = k0_pay9 (mixed m c t) (iblk m c 4 t) from if_pos (by omega), hm]
  unfold mix diffs
  rw [hb, show rows m c t = k0_pay12 (iblk m c 0 t) (iblk m c 2 t) from by unfold rows; rw [hs],
    show carried m c t = k0_pay1 (k0_pay14 (iblk m c 0 t) (iblk m c 2 t)) from by unfold carried; rw [hs],
    show lastRow m c t = k0_pay2 (k0_pay11 (iblk m c 0 t) (iblk m c 2 t)) from by unfold lastRow; rw [hs], hs]
  apply run_second <;> simp only [atFirst_iff, cond3_iff, cond1_iff, cond8_iff, cond9_iff, cond10_iff, atStep0_iff, atStep3_iff, atStep6_iff, atStep9_iff] <;> omega

/-- A later point of a row block, from what the point before left. -/
theorem point_later (t : Fin cfg0.N) (h : t.val % 12 ≠ 0) :
    iprop(Kept c (rows m c (back t)) (diffs m c (back t)) (mixed m c (back t)) (carried m c (back t)) ∗ Given m c t)
      ⊢ wp frame (wpE (defs₀ (F := F)) Variants.none c none) Set.univ (bodyAt0 t) (fun _ => Left m c t) := by
  rw [rows_back m c t h, diffs_back m c t h, carried_back m c t h]
  refine point m c t _ _ _ _ id (fun o l => ?_) (leaves_6' m c t (by omega))
  by_cases h10 : t.val % 12 = 10
  · rw [show mixed m c t = mix m c 3 t from by unfold mixed; rw [if_neg (by omega), if_neg (by omega), if_neg (by omega), if_neg (by omega), if_pos h10],
      show block m c t = halves (k0_pay7 (mix m c 1 t) (cols (iblk m c 4 t) 0)) (k0_pay7 (mix m c 3 t) (cols (iblk m c 4 t) 256)) from (if_neg (by omega)).trans (if_pos h10),
      ← mix_eq, ← mix_eq]
    apply run_tenth <;> simp only [cond1_iff, cond8_iff, cond9_iff, cond10_iff, atStep0_iff, atStep3_iff, atStep6_iff, atStep9_iff] <;> omega
  by_cases h11 : t.val % 12 = 11
  · rw [show mixed m c t = mix m c 5 t from by unfold mixed; rw [if_neg (by omega), if_neg (by omega), if_neg (by omega), if_neg (by omega), if_neg (by omega)],
      show block m c t = halves (k0_pay7 (mix m c 4 t) (cols (iblk m c 4 t) 0)) (k0_pay7 (mix m c 5 t) (cols (iblk m c 4 t) 256)) from (if_neg (by omega)).trans (if_neg h10),
      ← mix_eq, ← mix_eq]
    apply run_eleventh <;> simp only [cond1_iff, cond8_iff, cond9_iff, cond10_iff, atStep0_iff, atStep3_iff, atStep6_iff, atStep9_iff] <;> omega
  rw [show block m c t = k0_pay9 (mixed m c t) (iblk m c 4 t) from if_pos (by omega)]
  by_cases h3 : t.val % 12 = 3
  · rw [show mixed m c t = mix m c 2 t from by unfold mixed; rw [if_neg (by omega), if_pos (by omega)], ← mix_eq]
    apply run_third <;> simp only [cond1_iff, cond8_iff, cond9_iff, cond10_iff, atStep0_iff, atStep3_iff, atStep6_iff, atStep9_iff] <;> omega
  by_cases h6 : t.val % 12 = 6
  · rw [show mixed m c t = mix m c 3 t from by unfold mixed; rw [if_neg (by omega), if_neg (by omega), if_pos (by omega)], ← mix_eq]
    apply run_sixth <;> simp only [cond1_iff, cond8_iff, cond9_iff, cond10_iff, atStep0_iff, atStep3_iff, atStep6_iff, atStep9_iff] <;> omega
  by_cases h9 : t.val % 12 = 9
  · rw [show mixed m c t = k0_pay6 (rows m c t) from by unfold mixed; rw [if_neg (by omega), if_neg (by omega), if_neg (by omega), if_pos h9]]
    apply run_ninth <;> simp only [cond1_iff, cond8_iff, cond9_iff, cond10_iff, atStep0_iff, atStep3_iff, atStep6_iff, atStep9_iff] <;> omega
  rw [mixed_back m c t h h3 h6 (by omega)]
  apply run_plain <;> simp only [cond1_iff, cond8_iff, cond9_iff, cond10_iff, atStep0_iff, atStep3_iff, atStep6_iff, atStep9_iff] <;> omega

/-- The body at any point. -/
theorem sound_body (t : Fin cfg0.N) :
    iprop((dats m 0 c).Φ t.castSucc ∗ Given m c t) ⊢ wp frame (wpE (defs₀ (F := F)) Variants.none c none) Set.univ (bodyAt0 t) (fun _ => Left m c t) := by
  rw [show (dats m 0 c).Φ t.castSucc = Between m c t.val (Nat.le_of_lt t.isLt) from by
    dsimp only [dats]; exact Pipeline.Dat.Φ_castSucc (Between m c) t]
  by_cases hz : t.val = 0
  · rw [between_zero m c _ _ hz, region_eq]
    iintro ⟨⟨⟨⟨%u, S0⟩, ⟨%xx, S1⟩, ⟨%xm, S2⟩, ⟨%ca, S3⟩⟩, Hg⟩, H⟩
    iapply (point_first m c t (by omega) u xx xm ca)
    unfold Kept
    isplitl [S0 S1 S2 S3 Hg]
    · isplitl [S0 S1 S2 S3]
      · isplitl [S0]; · iexact S0
        isplitl [S1]; · iexact S1
        isplitl [S2]; · iexact S2
        iexact S3
      iexact Hg
    iexact H
  rw [between_pos m c _ _ hz (back t) rfl]
  by_cases h : t.val % 12 = 0
  · by_cases h' : t.val % 24 = 0
    · exact point_first m c t h' _ _ _ _
    exact point_second m c t (by omega) _ _ _
  exact point_later m c t h

/-! ## The run -/

theorem defs₀_row (t : Fin cfg0.N) : defs₀ (F := F) .tc cfg0.body (cfg0.bodyArgs t (cfg0.slots t)) = bodyAt0 t := by
  unfold defs₀; rw [Defs.onTc_tc]

theorem body_obligation : BodyObligation (dats m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := Entails.refl _

theorem hout : (dats m 0 c).Φ (Fin.last cfg0.N) ⊢ Pipeline.ΦA spec0 c := by
  rw [show (dats m 0 c).Φ (Fin.last cfg0.N) = Between m c cfg0.N (Nat.le_refl _) from rfl,
    between_pos m c _ _ (by rw [show cfg0.N = 96 from N_0]; omega) ⟨cfg0.N - 1, by rw [show cfg0.N = 96 from N_0]; omega⟩ rfl, region_eq]
  unfold Kept
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch ends with every array at what the points wrote and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and with them every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.RinKernelIdeal.Body

end
-- ==== Proof.RinOut.lean ====
/- What the recurrent layers' input projection leaves in its two results: every column's mix of the normed rows times the weights, and each
   sequence's last normed row. -/
module

public import proofs.«01_k».proof.Defs
public import proofs.«01_k».proof.Proof.Common
public import proofs.«01_k».proof.Proof.RinFrame
public import Idealize.ShloMosaic.Lib.KernelVsHost
public import Idealize.ShloMosaic.Lib.Pointwise.SelectCore

@[expose] public section

set_option maxRecDepth 16384

noncomputable section

open Idealize.ShloMosaic hiding ix1 ix2 ix3
open Idealize.ShloMosaic.TcCoe Idealize.SL.Sem Idealize.ShloMosaic.ValueIdx
open Idealize.ShloMosaic.Pipeline (Dat)
open Cert.Common

namespace Cert.RinKernelIdeal.Body

open Cert.RinKernelIdeal Cert.RinKernelIdeal.Gen

/-! ## The results, as functions of the arguments -/

section Result

variable (x : S4x2048x2048.Idx → EReal) (p : S4x2048.Idx → EReal) (g : S2048.Idx → EReal) (mu : S6x2048.Idx → EReal) (w : S2048x6144.Idx → EReal)

/-- Row `s` of sequence `b`, normed. -/
def row (b : Fin 4) (s k : Fin 2048) : EReal := normed (fun k => x (ix3 b s k)) (fun k => g (ix1 k)) k

/-- The row before: the one handed over at a sequence's start. -/
def prior (b : Fin 4) (s k : Fin 2048) : EReal :=
  if s.val = 0 then p (ix2 b k) else row x g b ⟨s.val - 1, Nat.lt_of_le_of_lt (Nat.sub_le _ _) s.isLt⟩ k

/-- The row moved towards the one before by coefficients' row `n`. -/
def blend (n : Fin 6) (b : Fin 4) (s k : Fin 2048) : EReal := row x g b s k + (prior x p g b s k - row x g b s k) * mu (ix2 n k)

/-- The row that column `j` of the weights multiplies. -/
def source (j : ℕ) (b : Fin 4) (s k : Fin 2048) : EReal :=
  if j < 1536 then blend x p g mu 0 b s k else if j < 3072 then blend x p g mu 2 b s k else if j < 4608 then blend x p g mu 3 b s k
  else if j < 5120 then row x g b s k else if j < 5376 then blend x p g mu 1 b s k else if j < 5632 then blend x p g mu 3 b s k
  else if j < 5888 then blend x p g mu 4 b s k else blend x p g mu 5 b s k

/-- The product, -/
def products (i : S4x2048x6144.Idx) : EReal := ∑ k : Fin 2048, source x p g mu (i 2).val (i 0) (i 1) k * w (ix2 k (i 2))

/-- and the last rows. -/
def lasts (i : S4x1x2048.Idx) : EReal := row x g (i 0) ⟨2047, by omega⟩ (i 2)

end Result

/-! ## The body's values at an index -/

theorem pay11_apply (x : Vec Ideal S1x1024x2048 .f32) (g : Vec Ideal S1x2048 .f32) (r : Fin 1024) (k : Fin 2048) :
    k0_pay11 x g (ix2 r k) = normed (fun k => x (ix3 (0 : Fin 1) r k)) (fun k => g (ix2 (0 : Fin 1) k)) k := by
  unfold k0_pay11
  dsimp only
  refine (rms_apply (shapeCast S1024x2048 x shapeCasts_S1x1024x2048_S1024x2048) g reduces_S1024x2048_S1024 shapeCasts_S1024_S1024x1
    broadcasts_S1024x1_S1024x2048 shapeCasts_S1x2048_S1x2048 broadcasts_S1x2048_S1024x2048 r k).trans ?_
  exact congrArg (fun f => normed f (fun k => g (ix2 (0 : Fin 1) k)) k) (funext fun k => shapeCast_1ab_ab_apply x _ r k)

theorem pay12_eq (x : Vec Ideal S1x1024x2048 .f32) (g : Vec Ideal S1x2048 .f32) : k0_pay12 x g = k0_pay11 x g := by
  unfold k0_pay12
  exact shapeCast_self _ _

theorem pay14_apply (x : Vec Ideal S1x1024x2048 .f32) (g : Vec Ideal S1x2048 .f32) (k : Fin 2048) :
    k0_pay1 (k0_pay14 x g) (ix2 (0 : Fin 1) k) = k0_pay11 x g (ix2 (⟨1023, by omega⟩ : Fin 1024) k) := by
  unfold k0_pay1 k0_pay14
  dsimp only
  rw [shapeCast_self]
  refine extractStridedSlice_apply _ _ _ _ _ fun a => ?_
  match a with
  | ⟨0, _⟩ => rfl
  | ⟨1, _⟩ => show k.val = 0 + k.val; omega

/-- A block of the product. -/
theorem pay9_apply (x : Vec Ideal S1024x2048 .bf16) (w : Vec Ideal S2048x512 .bf16) (r : Fin 1024) (d : Fin 512) :
    k0_pay9 x w (ix3 (0 : Fin 1) r d) = ∑ k : Fin 2048, x (ix2 r k) * w (ix2 k d) := by
  unfold k0_pay9
  rw [shapeCast_self]
  exact (shapeCast_ab_1ab_apply _ _ 0 r d).trans (matmul_apply dot_S1024x2048_S2048x512_S1024x512_1_0_0_1_n_n rfl none x w r d)

/-- A half block of the product. -/
theorem pay7_apply (x : Vec Ideal S1024x2048 .bf16) (w : Vec Ideal S2048x256 .bf16) (r : Fin 1024) (d : Fin 256) :
    k0_pay7 x w (ix3 (0 : Fin 1) r d) = ∑ k : Fin 2048, x (ix2 r k) * w (ix2 k d) := by
  unfold k0_pay7
  rw [shapeCast_self]
  exact (shapeCast_ab_1ab_apply _ _ 0 r d).trans (matmul_apply dot_S1024x2048_S2048x256_S1024x256_1_0_0_1_n_n rfl none x w r d)

theorem pay2_apply (v : FVec Ideal S1024x2048 .f32) (k : Fin 2048) :
    k0_pay2 v (ix3 (0 : Fin 1) (0 : Fin 1) k) = v (ix2 (⟨1023, by omega⟩ : Fin 1024) k) := by
  unfold k0_pay2
  refine (shapeCast_ab_1ab_apply _ _ 0 0 k).trans (extractStridedSlice_apply _ _ _ _ _ fun a => ?_)
  match a with
  | ⟨0, _⟩ => rfl
  | ⟨1, _⟩ => show k.val = 0 + k.val; omega

theorem pay10_apply (v : Vec Ideal S1x1x2048 .f32) (k : Fin 2048) : k0_pay10 v (ix2 (0 : Fin 1) k) = v (ix3 (0 : Fin 1) (0 : Fin 1) k) := by
  unfold k0_pay10
  rw [shapeCast_self]
  exact shapeCast_1ab_ab_apply _ _ 0 k

theorem pay13_apply (x : Vec Ideal S1x1024x2048 .f32) (g p : Vec Ideal S1x2048 .f32) (r : Fin 1024) (k : Fin 2048) :
    k0_pay13 x g p (ix2 r k) = (if r.val = 0 then p (ix2 (0 : Fin 1) k)
      else k0_pay11 x g (ix2 (⟨r.val - 1, Nat.lt_of_le_of_lt (Nat.sub_le _ _) r.isLt⟩ : Fin 1024) k)) - k0_pay11 x g (ix2 r k) := by
  unfold k0_pay13
  dsimp only
  rw [shapeCast_self, shapeCast_self, subf_apply, select_apply, cmpi_apply, iota_single_apply, broadcast_apply, broadcastTo_1b_ab_apply]
  refine congrArg (· - k0_pay11 x g (ix2 r k)) ?_
  have hr := r.isLt
  by_cases h : r.val = 0
  · rw [if_pos h]
    show Scalar.select (IntOp.cmpi .eq (BitVec.ofNat 32 r.val) 0#32) _ _ = _
    rw [h]
    rfl
  · rw [if_neg h]
    show Scalar.select (IntOp.cmpi .eq (BitVec.ofNat 32 r.val) (BitVec.ofNat 32 0)) _ _ = _
    rw [WordCmp.cmpi_eq_ofNat (by omega) (by omega), decide_eq_false h]
    refine (select_zero _ _).trans (dynamicRotate_apply _ _ _ _ _ _ fun a => ?_)
    match a with
    | ⟨0, _⟩ => show r.val - 1 = (r.val + 1024 - 1 % 1024) % 1024; omega
    | ⟨1, _⟩ => rfl

theorem pay3_apply (u xx : Vec Ideal S1024x2048 .f32) (v : Vec Ideal S1x2048 .f32) (r : Fin 1024) (k : Fin 2048) :
    k0_pay3 u xx v (ix2 r k) = u (ix2 r k) + xx (ix2 r k) * v (ix2 (0 : Fin 1) k) := by
  unfold k0_pay3
  rw [shapeCast_self, shapeCast_self, truncf_apply, addf_apply, mulf_apply, broadcastTo_1b_ab_apply]

theorem pay6_apply (u : Vec Ideal S1024x2048 .f32) (i : S1024x2048.Idx) : k0_pay6 u i = u i := by
  unfold k0_pay6
  rw [shapeCast_self]
  rfl

/-! ## The blocks the points read -/

variable (m : (ℓ : Loc nD τ sig) → Buf (Elt Ideal) ℓ) (ρ : Dev nD → PrngReg) (c : Dev nD)

theorem idx0 : ∀ t : Fin grid0.N, win0_0.index t 0 = t.val / 24 ∧ win0_0.index t 1 = t.val / 12 % 2 ∧ win0_0.index t 2 = 0 := by decide +kernel
theorem idx1 : ∀ t : Fin grid0.N, win0_1.index t 0 = t.val / 24 ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = t.val % 12 := by decide +kernel
theorem idx5 : ∀ t : Fin grid0.N, win0_5.index t 0 = t.val / 24 ∧ win0_5.index t 1 = t.val / 12 % 2 ∧ win0_5.index t 2 = t.val % 12 := by decide +kernel
theorem idx6 : ∀ t : Fin grid0.N, win0_6.index t 0 = t.val / 24 ∧ win0_6.index t 1 = 0 ∧ win0_6.index t 2 = 0 := by decide +kernel

abbrev hidden : S4x2048x2048.Idx → EReal := m ((c : Thread nD τ).loc main_arg0)
abbrev handed : S4x2048.Idx → EReal := m ((c : Thread nD τ).loc main_arg1)
abbrev gain : S2048.Idx → EReal := m ((c : Thread nD τ).loc main_arg2)
abbrev coeffs : S6x2048.Idx → EReal := m ((c : Thread nD τ).loc main_arg3)
abbrev weights : S2048x6144.Idx → EReal := m ((c : Thread nD τ).loc main_arg4)

theorem hands (b : Fin 4) (k : Fin 2048) : V m c main_v3 (ix3 b (0 : Fin 1) k) = handed m c (ix2 b k) := by
  have h : V m c main_v3 = shapeCast S4x1x2048 (handed m c) shapeCasts_S4x2048_S4x1x2048 := rfl
  rw [h]
  refine shapeCast_apply _ _ _ (ix2 b k) ?_
  rw [Shape.rowMajor_val_two, Shape.rowMajor_val_three]
  show b.val * 2048 + k.val = (b.val * 1 + 0) * 2048 + k.val
  omega

theorem gains (k : Fin 2048) : V m c main_v4 (ix2 (0 : Fin 1) k) = gain m c (ix1 k) := by
  have h : V m c main_v4 = shapeCast S1x2048 (gain m c) shapeCasts_S2048_S1x2048 := rfl
  rw [h]
  exact shapeCast_a_1a_apply _ _ 0 k

/-- The coefficients reach the region with two rows of zeros below. -/
theorem padded (n : Fin 6) (k : Fin 2048) (n' : Fin 8) (h : n'.val = n.val) : V m c main_v2 (ix2 n' k) = coeffs m c (ix2 n k) := by
  have hV : V m c main_v2 = concatenate S8x2048 0 [⟨S6x2048, coeffs m c⟩, ⟨S2x2048, broadcastInDim S2x2048 ![] bcast_S_S2x2048 (constant (F := Ideal) S_ .f32 0x00000000#32)⟩]
    concatenates_S6x2048_S2x2048_S8x2048_d0 := rfl
  rw [hV]
  refine concatenate_pair_apply_left (t := S8x2048) (s₁ := S6x2048) (s₂ := S2x2048) 0 _ _ _ _ rfl _ fun b => ?_
  match b with
  | ⟨0, _⟩ => exact h.symm
  | ⟨1, _⟩ => rfl

theorem weights_eq : V m c main_v0 = weights m c := rfl

theorem iblk0_apply (t : Fin cfg0.N) (r : Fin 1024) (k : Fin 2048) (b : Fin 4) (s : Fin 2048) (hb : b.val = t.val / 24)
    (hs : s.val = t.val / 12 % 2 * 1024 + r.val) : iblk m c 0 t (ix3 (0 : Fin 1) r k) = hidden m c (ix3 b s k) := by
  refine (congrFun (V_main_arg0 m c) _).trans (congrArg _ (funext fun a => Fin.ext ?_))
  obtain ⟨e0, e1, e2⟩ := idx0 t
  match a with
  | ⟨0, _⟩ => show win0_0.index t 0 * 1 + 1 * 0 = b.val; omega
  | ⟨1, _⟩ => show win0_0.index t 1 * 1024 + 1 * r.val = s.val; omega
  | ⟨2, _⟩ => show win0_0.index t 2 * 2048 + 1 * k.val = k.val; omega

theorem iblk1_apply (t : Fin cfg0.N) (k : Fin 2048) (b : Fin 4) (hb : b.val = t.val / 24) :
    iblk m c 1 t (ix3 (0 : Fin 1) (0 : Fin 1) k) = handed m c (ix2 b k) := by
  refine Eq.trans (congrArg (V m c main_v3) (funext fun a => Fin.ext ?_)) (hands m c b k)
  obtain ⟨e0, e1, e2⟩ := idx1 t
  match a with
  | ⟨0, _⟩ => show win0_1.index t 0 * 1 + 1 * 0 = b.val; omega
  | ⟨1, _⟩ => show win0_1.index t 1 * 1 + 1 * 0 = 0; omega
  | ⟨2, _⟩ => show win0_1.index t 2 * 2048 + 1 * k.val = k.val; omega

theorem iblk2_apply (t : Fin cfg0.N) (k : Fin 2048) : iblk m c 2 t (ix2 (0 : Fin 1) k) = gain m c (ix1 k) := by
  refine Eq.trans (congrArg (V m c main_v4) (funext fun a => Fin.ext ?_)) (gains m c k)
  obtain ⟨e0, e1⟩ := idx2 t
  match a with
  | ⟨0, _⟩ => show win0_2.index t 0 * 1 + 1 * 0 = 0; omega
  | ⟨1, _⟩ => show win0_2.index t 1 * 2048 + 1 * k.val = k.val; omega

theorem iblk3_apply (t : Fin cfg0.N) (n : Fin 6) (k : Fin 2048) (y : Fin 1) : muRow (iblk m c 3 t) n.val (ix2 y k) = coeffs m c (ix2 n k) := by
  have hn := n.isLt
  refine Eq.trans (congrArg (V m c main_v2) (funext fun a => Fin.ext ?_)) (padded m c n k ⟨n.val, by omega⟩ rfl)
  obtain ⟨e0, e1⟩ := idx3 t
  match a with
  | ⟨0, _⟩ => show win0_3.index t 0 * 8 + 1 * (n.val % 8) = n.val; omega
  | ⟨1, _⟩ => show win0_3.index t 1 * 2048 + 1 * k.val = k.val; omega

theorem iblk4_apply (t : Fin cfg0.N) (k : Fin 2048) (d : Fin 512) (j : Fin 6144) (h1 : j.val = t.val % 12 * 512 + d.val) :
    iblk m c 4 t (ix2 k d) = weights m c (ix2 k j) := by
  refine (congrFun (weights_eq m c) _).trans (congrArg _ (funext fun a => Fin.ext ?_))
  obtain ⟨e0, e1⟩ := idx4 t
  match a with
  | ⟨0, _⟩ => show win0_4.index t 0 * 2048 + 1 * k.val = k.val; omega
  | ⟨1, _⟩ => show win0_4.index t 1 * 512 + 1 * d.val = j.val; omega

/-! ## What a point has, in terms of the arguments -/

theorem head_div (t : Fin cfg0.N) : (head t).val / 24 = t.val / 24 ∧ (head t).val / 12 % 2 = t.val / 12 % 2 := by
  show (t.val - t.val % 12) / 24 = t.val / 24 ∧ (t.val - t.val % 12) / 12 % 2 = t.val / 12 % 2
  omega

/-- The normed rows of a block read at a point. -/
theorem normed_rows (t : Fin cfg0.N) (r : Fin 1024) (k : Fin 2048) (b : Fin 4) (s : Fin 2048) (hb : b.val = t.val / 24)
    (hs : s.val = t.val / 12 % 2 * 1024 + r.val) :
    k0_pay11 (iblk m c 0 t) (iblk m c 2 t) (ix2 r k) = row (hidden m c) (gain m c) b s k := by
  refine (pay11_apply _ _ r k).trans ?_
  exact congrArg₂ (fun f h => normed f h k) (funext fun k => iblk0_apply m c t r k b s hb hs) (funext fun k => iblk2_apply m c t k)

theorem rows_apply (t : Fin cfg0.N) (r : Fin 1024) (k : Fin 2048) (b : Fin 4) (s : Fin 2048) (hb : b.val = t.val / 24)
    (hs : s.val = t.val / 12 % 2 * 1024 + r.val) : rows m c t (ix2 r k) = row (hidden m c) (gain m c) b s k := by
  obtain ⟨e0, e1⟩ := head_div t
  exact (congrFun (pay12_eq _ _) _).trans (normed_rows m c (head t) r k b s (by omega) (by omega))

/-- The row before a row block's first. -/
theorem before_apply (t : Fin cfg0.N) (k : Fin 2048) (b : Fin 4) (s : Fin 2048) (hb : b.val = t.val / 24)
    (hs : s.val = t.val / 12 % 2 * 1024) : before m c t (ix2 (0 : Fin 1) k) = prior (hidden m c) (handed m c) (gain m c) b s k := by
  obtain ⟨e0, e1⟩ := head_div t
  unfold before prior
  by_cases h : t.val / 12 % 2 = 0
  · rw [if_pos h, if_pos (by omega)]
    exact (pay10_apply _ k).trans (iblk1_apply m c (head t) k b (by omega))
  · rw [if_neg h, if_neg (by omega)]
    refine (pay14_apply _ _ k).trans (normed_rows m c (head (back (head t))) _ k b _ ?_ ?_)
    all_goals
      obtain ⟨f0, f1⟩ := head_div (back (head t))
      rw [show (back (head t)).val = t.val - t.val % 12 - 1 from rfl] at f0 f1
    · omega
    · show s.val - 1 = _ + 1023
      omega

/-- The row before any of its rows, less the row. -/
theorem diffs_apply (t : Fin cfg0.N) (r : Fin 1024) (k : Fin 2048) (b : Fin 4) (s : Fin 2048) (hb : b.val = t.val / 24)
    (hs : s.val = t.val / 12 % 2 * 1024 + r.val) :
    diffs m c t (ix2 r k) = prior (hidden m c) (handed m c) (gain m c) b s k - row (hidden m c) (gain m c) b s k := by
  obtain ⟨e0, e1⟩ := head_div t
  refine (pay13_apply _ _ _ r k).trans (congrArg₂ (· - ·) ?_ (normed_rows m c (head t) r k b s (by omega) (by omega)))
  by_cases h : r.val = 0
  · rw [if_pos h]
    exact before_apply m c t k b s hb (by omega)
  · rw [if_neg h]
    unfold prior
    rw [if_neg (by omega)]
    refine normed_rows m c (head t) _ k b _ (by omega) ?_
    show s.val - 1 = _ + (r.val - 1)
    omega

theorem mix_apply (n : Fin 6) (t : Fin cfg0.N) (r : Fin 1024) (k : Fin 2048) (b : Fin 4) (s : Fin 2048) (hb : b.val = t.val / 24)
    (hs : s.val = t.val / 12 % 2 * 1024 + r.val) :
    mix m c n.val t (ix2 r k) = blend (hidden m c) (handed m c) (gain m c) (coeffs m c) n b s k := by
  refine (pay3_apply _ _ _ r k).trans ?_
  rw [rows_apply m c t r k b s hb hs, diffs_apply m c t r k b s hb hs, iblk3_apply m c (head t) n k 0]
  rfl

theorem mixed_apply (t : Fin cfg0.N) (h : t.val % 12 < 10) (r : Fin 1024) (k : Fin 2048) (b : Fin 4) (s : Fin 2048) (hb : b.val = t.val / 24)
    (hs : s.val = t.val / 12 % 2 * 1024 + r.val) (j : ℕ) (d : Fin 512) (hj : j = t.val % 12 * 512 + d.val) :
    mixed m c t (ix2 r k) = source (hidden m c) (handed m c) (gain m c) (coeffs m c) j b s k := by
  have hd := d.isLt
  unfold mixed source
  by_cases h3 : t.val % 12 < 3
  · rw [if_pos h3, if_pos (show j < 1536 by omega)]
    exact mix_apply m c 0 t r k b s hb hs
  rw [if_neg h3, if_neg (show ¬ j < 1536 by omega)]
  by_cases h6 : t.val % 12 < 6
  · rw [if_pos h6, if_pos (show j < 3072 by omega)]
    exact mix_apply m c 2 t r k b s hb hs
  rw [if_neg h6, if_neg (show ¬ j < 3072 by omega)]
  by_cases h9 : t.val % 12 < 9
  · rw [if_pos h9, if_pos (show j < 4608 by omega)]
    exact mix_apply m c 3 t r k b s hb hs
  rw [if_neg h9, if_neg (show ¬ j < 4608 by omega), if_pos (show t.val % 12 = 9 by omega), if_pos (show j < 5120 by omega)]
  exact (pay6_apply _ _).trans (rows_apply m c t r k b s hb hs)

/-- A product with a mixed row that is the columns' source. -/
theorem product_apply (t : Fin cfg0.N) (x : Vec Ideal S1024x2048 .bf16) (r : Fin 1024) (d : Fin 512) (b : Fin 4) (s : Fin 2048) (j : Fin 6144)
    (hj : j.val = t.val % 12 * 512 + d.val)
    (hx : ∀ k, x (ix2 r k) = source (hidden m c) (handed m c) (gain m c) (coeffs m c) j.val b s k) :
    k0_pay9 x (iblk m c 4 t) (ix3 (0 : Fin 1) r d)
      = products (hidden m c) (handed m c) (gain m c) (coeffs m c) (weights m c) (ix3 b s j) :=
  (pay9_apply _ _ r d).trans (Finset.sum_congr rfl fun k _ => congrArg₂ (· * ·) (hx k) (iblk4_apply m c t k d j hj))

/-- A half block's product likewise, of the 256 columns from `n` on. -/
theorem half_apply (t : Fin cfg0.N) (x : Vec Ideal S1024x2048 .bf16) (n : ℕ) (r : Fin 1024) (d : Fin 256) (b : Fin 4) (s : Fin 2048)
    (j : Fin 6144) (hn : n + d.val < 512) (hj : j.val = t.val % 12 * 512 + (n + d.val))
    (hx : ∀ k, x (ix2 r k) = source (hidden m c) (handed m c) (gain m c) (coeffs m c) j.val b s k) :
    k0_pay7 x (cols (iblk m c 4 t) n) (ix3 (0 : Fin 1) r d)
      = products (hidden m c) (handed m c) (gain m c) (coeffs m c) (weights m c) (ix3 b s j) :=
  (pay7_apply _ _ r d).trans (Finset.sum_congr rfl fun k _ => congrArg₂ (· * ·) (hx k)
    (iblk4_apply m c t k (Fin.ofNat 512 (n + d.val)) j (hj.trans (congrArg _ (Nat.mod_eq_of_lt hn).symm))))

theorem block_apply (t : Fin cfg0.N) (r : Fin 1024) (d : Fin 512) (b : Fin 4) (s : Fin 2048) (j : Fin 6144) (hb : b.val = t.val / 24)
    (hs : s.val = t.val / 12 % 2 * 1024 + r.val) (hj : j.val = t.val % 12 * 512 + d.val) :
    block m c t (ix3 (0 : Fin 1) r d) = products (hidden m c) (handed m c) (gain m c) (coeffs m c) (weights m c) (ix3 b s j) := by
  have hd := d.isLt
  unfold block
  by_cases h : t.val % 12 < 10
  · rw [if_pos h]
    exact product_apply m c t _ r d b s j hj fun k => mixed_apply m c t h r k b s hb hs j.val d hj
  rw [if_neg h]
  by_cases h' : t.val % 12 = 10
  · rw [if_pos h']
    show (if d.val < 256 then (_ : EReal) else _) = _
    by_cases hd' : d.val < 256
    · rw [if_pos hd']
      refine half_apply m c t _ 0 r (Fin.ofNat 256 d.val) b s j (by show 0 + d.val % 256 < 512; omega)
        (by show _ = _ + (0 + d.val % 256); omega) fun k => (mix_apply m c 1 t r k b s hb hs).trans ?_
      unfold source
      rw [if_neg (by omega), if_neg (by omega), if_neg (by omega), if_neg (by omega), if_pos (by omega)]
    · rw [if_neg hd']
      refine half_apply m c t _ 256 r (Fin.ofNat 256 (d.val - 256)) b s j (by show 256 + (d.val - 256) % 256 < 512; omega)
        (by show _ = _ + (256 + (d.val - 256) % 256); omega) fun k => (mix_apply m c 3 t r k b s hb hs).trans ?_
      unfold source
      rw [if_neg (by omega), if_neg (by omega), if_neg (by omega), if_neg (by omega), if_neg (by omega), if_pos (by omega)]
  · rw [if_neg h']
    show (if d.val < 256 then (_ : EReal) else _) = _
    by_cases hd' : d.val < 256
    · rw [if_pos hd']
      refine half_apply m c t _ 0 r (Fin.ofNat 256 d.val) b s j (by show 0 + d.val % 256 < 512; omega)
        (by show _ = _ + (0 + d.val % 256); omega) fun k => (mix_apply m c 4 t r k b s hb hs).trans ?_
      unfold source
      rw [if_neg (by omega), if_neg (by omega), if_neg (by omega), if_neg (by omega), if_neg (by omega), if_neg (by omega), if_pos (by omega)]
    · rw [if_neg hd']
      refine half_apply m c t _ 256 r (Fin.ofNat 256 (d.val - 256)) b s j (by show 256 + (d.val - 256) % 256 < 512; omega)
        (by show _ = _ + (256 + (d.val - 256) % 256); omega) fun k => (mix_apply m c 5 t r k b s hb hs).trans ?_
      unfold source
      rw [if_neg (by omega), if_neg (by omega), if_neg (by omega), if_neg (by omega), if_neg (by omega), if_neg (by omega), if_neg (by omega)]

/-! ## The results -/

abbrev out : S4x2048x6144.Idx → EReal := products (hidden m c) (handed m c) (gain m c) (coeffs m c) (weights m c)
abbrev out' : S4x1x2048.Idx → EReal := lasts (hidden m c) (gain m c)

theorem flushed_5 (t : Fin cfg0.N) : (dats m 0 c).flushed 5 t = ((cfg0.win 5).blk t).view.read (Elt Ideal) (out m c) := by
  have ht : t.val < 96 := lt_of_lt_of_eq t.isLt N_0
  show (cfg0.win 5).cut (grid0.coords t) ((dats m 0 c).after 5 t) = _
  rw [after_5]
  funext y
  show block m c t y = out m c ((win0_5.blk t).view.emb y)
  obtain ⟨a, r, d, rfl⟩ : ∃ (a : Fin 1) (r : Fin 1024) (d : Fin 512), y = ix3 a r d := ⟨y 0, y 1, y 2, ValueIdx.eq_ix3 y⟩
  obtain rfl : a = 0 := Subsingleton.elim _ _
  have hr := r.isLt; have hd := d.isLt
  obtain ⟨b, hb⟩ : ∃ b : Fin 4, b.val = t.val / 24 := ⟨⟨_, by omega⟩, rfl⟩
  obtain ⟨s, hs⟩ : ∃ s : Fin 2048, s.val = t.val / 12 % 2 * 1024 + r.val := ⟨⟨_, by omega⟩, rfl⟩
  obtain ⟨j, hj⟩ : ∃ j : Fin 6144, j.val = t.val % 12 * 512 + d.val := ⟨⟨_, by omega⟩, rfl⟩
  have he : (win0_5.blk t).view.emb (ix3 (0 : Fin 1) r d) = ix3 b s j := by
    obtain ⟨e0, e1, e2⟩ := idx5 t
    funext a; refine Fin.ext ?_
    match a with
    | ⟨0, _⟩ => show win0_5.index t 0 * 1 + 1 * 0 = b.val; omega
    | ⟨1, _⟩ => show win0_5.index t 1 * 1024 + 1 * r.val = s.val; omega
    | ⟨2, _⟩ => show win0_5.index t 2 * 512 + 1 * d.val = j.val; omega
  rw [he]
  exact block_apply m c t r d b s j hb hs hj

theorem flushed_6 (t : Fin cfg0.N) (h : (cfg0.win 6).flush t = true) :
    (dats m 0 c).flushed 6 t = ((cfg0.win 6).blk t).view.read (Elt Ideal) (out' m c) := by
  have ht : t.val < 96 := lt_of_lt_of_eq t.isLt N_0
  have hlast := (flush0_6 t).mp h
  show (cfg0.win 6).cut (grid0.coords t) ((dats m 0 c).after 6 t) = _
  rw [after_6]
  funext y
  show lastRow m c t y = out' m c ((win0_6.blk t).view.emb y)
  obtain ⟨a, a', k, rfl⟩ : ∃ (a a' : Fin 1) (k : Fin 2048), y = ix3 a a' k := ⟨y 0, y 1, y 2, ValueIdx.eq_ix3 y⟩
  obtain rfl : a = 0 := Subsingleton.elim _ _
  obtain rfl : a' = 0 := Subsingleton.elim _ _
  obtain ⟨b, hb⟩ : ∃ b : Fin 4, b.val = t.val / 24 := ⟨⟨_, by omega⟩, rfl⟩
  have he : (win0_6.blk t).view.emb (ix3 (0 : Fin 1) (0 : Fin 1) k) = ix3 b (0 : Fin 1) k := by
    obtain ⟨e0, e1, e2⟩ := idx6 t
    funext a; refine Fin.ext ?_
    match a with
    | ⟨0, _⟩ => show win0_6.index t 0 * 1 + 1 * 0 = b.val; omega
    | ⟨1, _⟩ => show win0_6.index t 1 * 1 + 1 * 0 = 0; omega
    | ⟨2, _⟩ => show win0_6.index t 2 * 2048 + 1 * k.val = k.val; omega
  rw [he]
  obtain ⟨e0, e1⟩ := head_div t
  exact (pay2_apply _ k).trans (normed_rows m c (head t) _ k b _ (by omega) (by show 2047 = _ + 1023; omega))

/-- The points' blocks tile the product, -/
theorem cover_5 (i : S4x2048x6144.Idx) : ∃ t : Fin cfg0.N, (cfg0.win 5).flush t = true ∧ i ∈ ((cfg0.win 5).blk t).view.set := by
  have h0 : (i 0 : Nat) < 4 := (i 0).isLt
  have h1 : (i 1 : Nat) < 2048 := (i 1).isLt
  have h2 : (i 2 : Nat) < 6144 := (i 2).isLt
  obtain ⟨t, ht⟩ : ∃ t : Fin cfg0.N, t.val = (i 0).val * 24 + (i 1).val / 1024 * 12 + (i 2).val / 512 :=
    ⟨⟨_, by rw [show cfg0.N = 96 from N_0]; omega⟩, rfl⟩
  refine ⟨t, flush0_5 _, ?_⟩
  show i ∈ ((View.whole main_v5_0).slice (win0_5.rect t)).set
  rw [View.set_slice_whole, Rect.mem_set_unit]
  obtain ⟨e0, e1, e2⟩ := idx5 t
  intro a
  match a with
  | ⟨0, _⟩ => show win0_5.index t 0 * 1 ≤ (i 0 : Nat) ∧ (i 0 : Nat) < win0_5.index t 0 * 1 + 1; omega
  | ⟨1, _⟩ => show win0_5.index t 1 * 1024 ≤ (i 1 : Nat) ∧ (i 1 : Nat) < win0_5.index t 1 * 1024 + 1024; omega
  | ⟨2, _⟩ => show win0_5.index t 2 * 512 ≤ (i 2 : Nat) ∧ (i 2 : Nat) < win0_5.index t 2 * 512 + 512; omega

/-- and the sequences' last points the last rows. -/
theorem cover_6 (i : S4x1x2048.Idx) : ∃ t : Fin cfg0.N, (cfg0.win 6).flush t = true ∧ i ∈ ((cfg0.win 6).blk t).view.set := by
  have h0 : (i 0 : Nat) < 4 := (i 0).isLt
  have h1 : (i 1 : Nat) < 1 := (i 1).isLt
  have h2 : (i 2 : Nat) < 2048 := (i 2).isLt
  obtain ⟨t, ht⟩ : ∃ t : Fin cfg0.N, t.val = (i 0).val * 24 + 23 := ⟨⟨_, by rw [show cfg0.N = 96 from N_0]; omega⟩, rfl⟩
  refine ⟨t, (flush0_6 t).mpr (by omega), ?_⟩
  show i ∈ ((View.whole main_v5_1).slice (win0_6.rect t)).set
  rw [View.set_slice_whole, Rect.mem_set_unit]
  obtain ⟨e0, e1, e2⟩ := idx6 t
  intro a
  match a with
  | ⟨0, _⟩ => show win0_6.index t 0 * 1 ≤ (i 0 : Nat) ∧ (i 0 : Nat) < win0_6.index t 0 * 1 + 1; omega
  | ⟨1, _⟩ => show win0_6.index t 1 * 1 ≤ (i 1 : Nat) ∧ (i 1 : Nat) < win0_6.index t 1 * 1 + 1; omega
  | ⟨2, _⟩ => show win0_6.index t 2 * 2048 ≤ (i 2 : Nat) ∧ (i 2 : Nat) < win0_6.index t 2 * 2048 + 2048; omega

theorem final_5 : (dats m 0 c).arrAt 5 cfg0.N = out m c :=
  (dats m 0 c).arrAt_eq_of_cover 5 (out m c) (fun t _ => flushed_5 m c t) cover_5

theorem final_6 : (dats m 0 c).arrAt 6 cfg0.N = out' m c :=
  (dats m 0 c).arrAt_eq_of_cover 6 (out' m c) (fun t h => flushed_6 m c t h) cover_6

/-- The kernel's run: the results hold the product and the last rows, and the arguments are as they were. -/
theorem run : θ_run defs (onTc (τ := τ) (main (F := Ideal))) ⟨m, fun _ => 0, ρ⟩ (fun r => ∀ c : Dev nD,
      r.2.mem ((c.tc : Thread nD τ).loc main_v5_0) = out m c
      ∧ r.2.mem ((c.tc : Thread nD τ).loc main_v5_1) = out' m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2 c).1 5).trans (final_5 m c), ((h.2 c).1 6).trans (final_6 m c), h.1 c⟩)
    (θ_run_and (unchanged m ρ) (run_main m ρ))

end Cert.RinKernelIdeal.Body

end
-- ==== Proof.Rin.lean ====
/- The recurrent layers' input projection: the kernel computes the reference's products and last rows. -/
module

public import proofs.«01_k».proof.Defs
public import proofs.«01_k».proof.Proof.Common
public import proofs.«01_k».proof.Proof.RinOut
public import proofs.«01_k».proof.Proof.Gen.RinKernel
public import proofs.«01_k».proof.Proof.Gen.RinReferenceIdeal.Run
public import proofs.«01_k».proof.Proof.Gen.RinReferenceIdeal.Read
public import Idealize.ShloMosaic.Lib.Pointwise.SelectCore

@[expose] public section

set_option maxRecDepth 16384

noncomputable section

open Idealize.ShloMosaic hiding ix1 ix2 ix3
open Idealize.ShloMosaic.TcCoe Idealize.SL.Sem Idealize.ShloMosaic.ValueIdx
open Cert.Common

namespace Cert.Proof

open Cert.RinReferenceIdeal Cert.RinReferenceIdeal.Gen Cert.RinReferenceIdeal.Read
open Cert.RinKernelIdeal.Body (row prior blend source products lasts)

section Reference

variable (x0 : (⟨S4x2048x2048, .f32⟩ : BufTy).Contents (Elt Ideal)) (x1 : (⟨S4x2048, .f32⟩ : BufTy).Contents (Elt Ideal))
  (x2 : (⟨S2048, .f32⟩ : BufTy).Contents (Elt Ideal)) (x3 : (⟨S6x2048, .f32⟩ : BufTy).Contents (Elt Ideal))
  (x4 : (⟨S2048x6144, .f32⟩ : BufTy).Contents (Elt Ideal))

/-- The reference's normed rows, -/
theorem rin_row (b : Fin 4) (s k : Fin 2048) : val_main_v12 (F := Ideal) x0 x2 (ix3 b s k) = row x0 x2 b s k := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply]
  unfold row normed
  refine congrArg₂ (fun z g => x0 (ix3 b s k) * Ideal.rsqrt (Ideal.div z dim + eps) * g) ?_
    (congrArg x2 (funext fun a => match a with | ⟨0, _⟩ => rfl))
  refine (congrArg (· + _) Ideal.ofBits_zero_f32).trans ((zero_add _).trans (Finset.sum_congr rfl fun k _ => ?_))
  exact congrArg (fun i => x0 i * x0 i) (funext fun a => match a with | ⟨0, _⟩ => rfl | ⟨1, _⟩ => rfl | ⟨2, _⟩ => rfl)

/-- the rows before, -/
theorem rin_prior (b : Fin 4) (s k : Fin 2048) : val_main_v15 (F := Ideal) x0 x1 x2 (ix3 b s k) = prior x0 x1 x2 b s k := by
  have hs := s.isLt
  unfold val_main_v15 prior
  by_cases h : s.val = 0
  · rw [if_pos h]
    refine (concatenate_pair_apply_left (t := S4x2048x2048) (s₁ := S4x1x2048) (s₂ := S4x2047x2048) 1 _ _ _ _ rfl (ix3 b (0 : Fin 1) k) fun a => ?_).trans ?_
    · match a with
      | ⟨0, _⟩ => rfl
      | ⟨1, _⟩ => exact h.symm
      | ⟨2, _⟩ => rfl
    rw [val_main_v13_apply]
    exact congrArg x1 (funext fun a => match a with | ⟨0, _⟩ => rfl | ⟨1, _⟩ => rfl)
  · rw [if_neg h]
    refine (concatenate_pair_apply_right (t := S4x2048x2048) (s₁ := S4x1x2048) (s₂ := S4x2047x2048) 1 _ _ _ _ rfl rfl
      (ix3 b (⟨s.val - 1, by omega⟩ : Fin 2047) k) (fun a ha => ?_) ?_).trans ?_
    · match a, ha with
      | ⟨0, _⟩, _ => rfl
      | ⟨1, _⟩, ha => exact absurd rfl ha
      | ⟨2, _⟩, _ => rfl
    · show s.val - 1 + 1 = s.val
      omega
    rw [val_main_v14_apply]
    refine Eq.trans (congrArg (val_main_v12 (F := Ideal) x0 x2) ?_) (rin_row x0 x2 b ⟨s.val - 1, by omega⟩ k)
    exact funext fun a => match a with | ⟨0, _⟩ => rfl | ⟨1, _⟩ => rfl | ⟨2, _⟩ => rfl

/-- and the rows mixed with a row of the coefficients. -/
theorem rin_blend (n : Fin 6) (h : S6x2048.Slices ![n.val, 0] S1x2048) (b : Fin 4) (s k : Fin 2048) :
    addf (F := Ideal) (φ := .f32) (val_main_v12 (F := Ideal) x0 x2) (mulf (F := Ideal) (φ := .f32) (val_main_v16 (F := Ideal) x0 x1 x2)
      (broadcastInDim S4x2048x2048 ![0, 1, 2] bcast_S1x1x2048_S4x2048x2048_0_1_2 (broadcastInDim S1x1x2048 ![2] bcast_S2048_S1x1x2048_2
        (shapeCast S2048 (extractStridedSlice S1x2048 ![n.val, 0] x3 h) shapeCasts_S1x2048_S2048)))) (ix3 b s k)
      = blend x0 x1 x2 x3 n b s k := by
  rw [addf_apply, mulf_apply, val_main_v16_apply, rin_row, rin_prior]
  refine congrArg (fun z => row x0 x2 b s k + (prior x0 x1 x2 b s k - row x0 x2 b s k) * z) ?_
  refine (broadcastInDim_apply _ _ _ _ (ix3 (0 : Fin 1) (0 : Fin 1) k) fun a => match a with | ⟨0, _⟩ => rfl | ⟨1, _⟩ => rfl | ⟨2, _⟩ => rfl).trans ?_
  refine (broadcastInDim_apply _ _ _ _ (ix1 k) fun a => match a with | ⟨0, _⟩ => rfl).trans ?_
  refine (shapeCast_apply _ _ _ (ix2 (0 : Fin 1) k) ?_).trans ?_
  · rw [Shape.rowMajor_val_two, Shape.rowMajor_val_one]
    show 0 * 2048 + k.val = k.val
    omega
  refine extractStridedSlice_apply _ _ _ _ (ix2 n k) fun a => ?_
  match a with
  | ⟨0, _⟩ => rfl
  | ⟨1, _⟩ => show k.val = 0 + k.val; omega

/-- A product whose left rows are the columns' source is the product's columns. -/
theorem rin_piece (y : S4x2048x2048.Idx → EReal) (z : Fin 2048 → EReal) (b : Fin 4) (s : Fin 2048) (j : Fin 6144) (l : Fin 2048 → S4x2048x2048.Idx)
    (hl : ∀ k, l k = ix3 b s k) (hy : ∀ k, y (ix3 b s k) = source x0 x1 x2 x3 j.val b s k) (hz : ∀ k, z k = x4 (ix2 k j)) :
    ∑ k, y (l k) * z k = products x0 x1 x2 x3 x4 (ix3 b s j) :=
  Finset.sum_congr rfl fun k _ => congrArg₂ (· * ·) ((congrArg y (hl k)).trans (hy k)) (hz k)

/-! The eight groups of columns. -/

theorem rin_54 (b : Fin 4) (s : Fin 2048) (d : Fin 1536) (j : Fin 6144) (hj : j.val = d.val) :
    val_main_v54 (F := Ideal) x0 x1 x2 x3 x4 (ix3 b s d) = products x0 x1 x2 x3 x4 (ix3 b s j) := by
  have hd := d.isLt
  rw [val_main_v54_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 0 slices_S6x2048_S1x2048_0_0 b s k).trans ?_) fun k => ?_
  · unfold source
    rw [if_pos (by omega)]
  · rw [val_main_v53_apply]
    exact congrArg x4 (funext fun a => match a with | ⟨0, _⟩ => rfl | ⟨1, _⟩ => Fin.ext hj.symm)

theorem rin_56 (b : Fin 4) (s : Fin 2048) (d : Fin 1536) (j : Fin 6144) (hj : j.val = 1536 + d.val) :
    val_main_v56 (F := Ideal) x0 x1 x2 x3 x4 (ix3 b s d) = products x0 x1 x2 x3 x4 (ix3 b s j) := by
  have hd := d.isLt
  rw [val_main_v56_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 2 slices_S6x2048_S1x2048_2_0 b s k).trans ?_) fun k => ?_
  · unfold source
    rw [if_neg (by omega), if_pos (by omega)]
  · rw [val_main_v55_apply]
    exact congrArg x4 (funext fun a => match a with | ⟨0, _⟩ => rfl | ⟨1, _⟩ => Fin.ext hj.symm)

theorem rin_58 (b : Fin 4) (s : Fin 2048) (d : Fin 1536) (j : Fin 6144) (hj : j.val = 3072 + d.val) :
    val_main_v58 (F := Ideal) x0 x1 x2 x3 x4 (ix3 b s d) = products x0 x1 x2 x3 x4 (ix3 b s j) := by
  have hd := d.isLt
  rw [val_main_v58_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 3 slices_S6x2048_S1x2048_3_0 b s k).trans ?_) fun k => ?_
  · unfold source
    rw [if_neg (by omega), if_neg (by omega), if_pos (by omega)]
  · rw [val_main_v57_apply]
    exact congrArg x4 (funext fun a => match a with | ⟨0, _⟩ => rfl | ⟨1, _⟩ => Fin.ext hj.symm)

theorem rin_60 (b : Fin 4) (s : Fin 2048) (d : Fin 512) (j : Fin 6144) (hj : j.val = 4608 + d.val) :
    val_main_v60 (F := Ideal) x0 x2 x4 (ix3 b s d) = products x0 x1 x2 x3 x4 (ix3 b s j) := by
  have hd := d.isLt
  rw [val_main_v60_apply]
  refine rin_piece x0 x1 x2 x3 x4 _ _ b s j _ (fun k => funext fun a => match a with | ⟨0, _⟩ => rfl | ⟨1, _⟩ => rfl | ⟨2, _⟩ => rfl)
    (fun k => (rin_row x0 x2 b s k).trans ?_) fun k => ?_
  · unfold source
    rw [if_neg (by omega), if_neg (by omega), if_neg (by omega), if_pos (by omega)]
  · rw [val_main_v59_apply]
    exact congrArg x4 (funext fun a => match a with | ⟨0, _⟩ => rfl | ⟨1, _⟩ => Fin.ext hj.symm)

theorem rin_66 (b : Fin 4) (s : Fin 2048) (d : Fin 256) (j : Fin 6144) (hj : j.val = 5120 + d.val) :
    val_main_v66 (F := Ideal) x0 x1 x2 x3 x4 (ix3 b s d) = products x0 x1 x2 x3 x4 (ix3 b s j) := by
  have hd := d.isLt
  rw [val_main_v66_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 1 slices_S6x2048_S1x2048_1_0 b s k).trans ?_) fun k => ?_
  · unfold source
    rw [if_neg (by omega), if_neg (by omega), if_neg (by omega), if_neg (by omega), if_pos (by omega)]
  · rw [val_main_v62_apply, val_main_v61_apply]
    exact congrArg x4 (funext fun a => match a with | ⟨0, _⟩ => rfl | ⟨1, _⟩ => Fin.ext (by show 5120 + d.val = j.val; omega))

theorem rin_67 (b : Fin 4) (s : Fin 2048) (d : Fin 256) (j : Fin 6144) (hj : j.val = 5376 + d.val) :
    val_main_v67 (F := Ideal) x0 x1 x2 x3 x4 (ix3 b s d) = products x0 x1 x2 x3 x4 (ix3 b s j) := by
  have hd := d.isLt
  rw [val_main_v67_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 3 slices_S6x2048_S1x2048_3_0 b s k).trans ?_) fun k => ?_
  · unfold source
    rw [if_neg (by omega), if_neg (by omega), if_neg (by omega), if_neg (by omega), if_neg (by omega), if_pos (by omega)]
  · rw [val_main_v63_apply, val_main_v61_apply]
    exact congrArg x4 (funext fun a => match a with | ⟨0, _⟩ => rfl | ⟨1, _⟩ => Fin.ext (by show 5120 + (256 + d.val) = j.val; omega))

theorem rin_68 (b : Fin 4) (s : Fin 2048) (d : Fin 256) (j : Fin 6144) (hj : j.val = 5632 + d.val) :
    val_main_v68 (F := Ideal) x0 x1 x2 x3 x4 (ix3 b s d) = products x0 x1 x2 x3 x4 (ix3 b s j) := by
  have hd := d.isLt
  rw [val_main_v68_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 4 slices_S6x2048_S1x2048_4_0 b s k).trans ?_) fun k => ?_
  · unfold source
    rw [if_neg (by omega), if_neg (by omega), if_neg (by omega), if_neg (by omega), if_neg (by omega), if_neg (by omega), if_pos (by omega)]
  · rw [val_main_v64_apply, val_main_v61_apply]
    exact congrArg x4 (funext fun a => match a with | ⟨0, _⟩ => rfl | ⟨1, _⟩ => Fin.ext (by show 5120 + (512 + d.val) = j.val; omega))

theorem rin_69 (b : Fin 4) (s : Fin 2048) (d : Fin 256) (j : Fin 6144) (hj : j.val = 5888 + d.val) :
    val_main_v69 (F := Ideal) x0 x1 x2 x3 x4 (ix3 b s d) = products x0 x1 x2 x3 x4 (ix3 b s j) := by
  have hd := d.isLt
  rw [val_main_v69_apply]
  refine rin_piece x0 x1 x2 x3 x4 _ _ b s j _ (fun k => funext fun a => match a with | ⟨0, _⟩ => rfl | ⟨1, _⟩ => rfl | ⟨2, _⟩ => rfl)
    (fun k => (rin_blend x0 x1 x2 x3 5 slices_S6x2048_S1x2048_5_0 b s k).trans ?_) fun k => ?_
  · unfold source
    rw [if_neg (by omega), if_neg (by omega), if_neg (by omega), if_neg (by omega), if_neg (by omega), if_neg (by omega), if_neg (by omega)]
  · rw [val_main_v65_apply, val_main_v61_apply]
    exact congrArg x4 (funext fun a => match a with | ⟨0, _⟩ => rfl | ⟨1, _⟩ => Fin.ext (by show 5120 + (768 + d.val) = j.val; omega))

/-- Pieces joined along the columns read as `v` at a column when the first does where it holds the column, and the rest do elsewhere. -/
theorem rin_step {n : ℕ} (y : (⟨3, ![4, 2048, n]⟩ : Shape).Idx → EReal) (q : (s : Shape) × (s.Idx → EReal)) (xs : List ((s : Shape) × (s.Idx → EReal)))
    (b : Fin 4) (s : Fin 2048) (j : Fin 6144) (c : ℕ) (v : EReal) (hs hc) (H : ∀ h : c < n, y (ix3 b s ⟨c, h⟩) = v)
    (H' : n ≤ c → ∀ hs hc, concatenateAt S4x2048x6144 2 (ix3 b s j) (q :: xs) hs (c - n) hc = v) :
    concatenateAt S4x2048x6144 2 (ix3 b s j) (⟨⟨3, ![4, 2048, n]⟩, y⟩ :: q :: xs) hs c hc = v := by
  refine (concatenateAt_cons _ _ _ _ _ hs c hc).trans ?_
  by_cases h : c < n
  · refine (dif_pos h).trans (Eq.trans (congrArg y ?_) (H h))
    exact funext fun a => match a with | ⟨0, _⟩ => rfl | ⟨1, _⟩ => rfl | ⟨2, _⟩ => rfl
  · exact (dif_neg h).trans (H' (by omega) _ _)

theorem rin_last {n : ℕ} (y : (⟨3, ![4, 2048, n]⟩ : Shape).Idx → EReal) (b : Fin 4) (s : Fin 2048) (j : Fin 6144) (c : ℕ) (v : EReal) (hs hc) (h : c < n)
    (H : ∀ h : c < n, y (ix3 b s ⟨c, h⟩) = v) : concatenateAt S4x2048x6144 2 (ix3 b s j) [⟨⟨3, ![4, 2048, n]⟩, y⟩] hs c hc = v := by
  refine (concatenateAt_singleton _ _ _ hs c hc).trans (Eq.trans (congrArg y ?_) (H h))
  exact funext fun a => match a with | ⟨0, _⟩ => rfl | ⟨1, _⟩ => rfl | ⟨2, _⟩ => rfl

/-- Pieces that are a function's groups of columns join into it. -/
theorem rin_joined (f : S4x2048x6144.Idx → EReal) (y0 y1 y2 : S4x2048x1536.Idx → EReal) (y3 : S4x2048x512.Idx → EReal) (y4 y5 y6 y7 : S4x2048x256.Idx → EReal)
    (h0 : ∀ (b : Fin 4) (s : Fin 2048) (d : Fin 1536) (j : Fin 6144), j.val = d.val → y0 (ix3 b s d) = f (ix3 b s j))
    (h1 : ∀ (b : Fin 4) (s : Fin 2048) (d : Fin 1536) (j : Fin 6144), j.val = 1536 + d.val → y1 (ix3 b s d) = f (ix3 b s j))
    (h2 : ∀ (b : Fin 4) (s : Fin 2048) (d : Fin 1536) (j : Fin 6144), j.val = 3072 + d.val → y2 (ix3 b s d) = f (ix3 b s j))
    (h3 : ∀ (b : Fin 4) (s : Fin 2048) (d : Fin 512) (j : Fin 6144), j.val = 4608 + d.val → y3 (ix3 b s d) = f (ix3 b s j))
    (h4 : ∀ (b : Fin 4) (s : Fin 2048) (d : Fin 256) (j : Fin 6144), j.val = 5120 + d.val → y4 (ix3 b s d) = f (ix3 b s j))
    (h5 : ∀ (b : Fin 4) (s : Fin 2048) (d : Fin 256) (j : Fin 6144), j.val = 5376 + d.val → y5 (ix3 b s d) = f (ix3 b s j))
    (h6 : ∀ (b : Fin 4) (s : Fin 2048) (d : Fin 256) (j : Fin 6144), j.val = 5632 + d.val → y6 (ix3 b s d) = f (ix3 b s j))
    (h7 : ∀ (b : Fin 4) (s : Fin 2048) (d : Fin 256) (j : Fin 6144), j.val = 5888 + d.val → y7 (ix3 b s d) = f (ix3 b s j))
    (h : Shape.Concatenates [S4x2048x1536, S4x2048x1536, S4x2048x1536, S4x2048x512, S4x2048x256, S4x2048x256, S4x2048x256, S4x2048x256] S4x2048x6144 2) :
    concatenate S4x2048x6144 2 [⟨S4x2048x1536, y0⟩, ⟨S4x2048x1536, y1⟩, ⟨S4x2048x1536, y2⟩, ⟨S4x2048x512, y3⟩, ⟨S4x2048x256, y4⟩, ⟨S4x2048x256, y5⟩,
      ⟨S4x2048x256, y6⟩, ⟨S4x2048x256, y7⟩] h = f := by
  funext i
  obtain ⟨b, s, j, rfl⟩ : ∃ (b : Fin 4) (s : Fin 2048) (j : Fin 6144), i = ix3 b s j := ⟨i 0, i 1, i 2, ValueIdx.eq_ix3 i⟩
  have hj := j.isLt
  rw [concatenate_cons_apply]
  refine rin_step y0 _ _ b s j _ _ _ _ (fun g => h0 b s ⟨_, g⟩ j ?_) fun g0 _ _ => ?_
  · show j.val = j.val; omega
  replace g0 : 1536 ≤ j.val := g0
  refine rin_step y1 _ _ b s j _ _ _ _ (fun g => h1 b s ⟨_, g⟩ j ?_) fun g1 _ _ => ?_
  · show j.val = 1536 + (j.val - 1536); omega
  replace g1 : 1536 ≤ j.val - 1536 := g1
  refine rin_step y2 _ _ b s j _ _ _ _ (fun g => h2 b s ⟨_, g⟩ j ?_) fun g2 _ _ => ?_
  · show j.val = 3072 + (j.val - 1536 - 1536); omega
  replace g2 : 1536 ≤ j.val - 1536 - 1536 := g2
  refine rin_step y3 _ _ b s j _ _ _ _ (fun g => h3 b s ⟨_, g⟩ j ?_) fun g3 _ _ => ?_
  · show j.val = 4608 + (j.val - 1536 - 1536 - 1536); omega
  replace g3 : 512 ≤ j.val - 1536 - 1536 - 1536 := g3
  refine rin_step y4 _ _ b s j _ _ _ _ (fun g => h4 b s ⟨_, g⟩ j ?_) fun g4 _ _ => ?_
  · show j.val = 5120 + (j.val - 1536 - 1536 - 1536 - 512); omega
  replace g4 : 256 ≤ j.val - 1536 - 1536 - 1536 - 512 := g4
  refine rin_step y5 _ _ b s j _ _ _ _ (fun g => h5 b s ⟨_, g⟩ j ?_) fun g5 _ _ => ?_
  · show j.val = 5376 + (j.val - 1536 - 1536 - 1536 - 512 - 256); omega
  replace g5 : 256 ≤ j.val - 1536 - 1536 - 1536 - 512 - 256 := g5
  refine rin_step y6 _ _ b s j _ _ _ _ (fun g => h6 b s ⟨_, g⟩ j ?_) fun g6 _ _ => ?_
  · show j.val = 5632 + (j.val - 1536 - 1536 - 1536 - 512 - 256 - 256); omega
  replace g6 : 256 ≤ j.val - 1536 - 1536 - 1536 - 512 - 256 - 256 := g6
  refine rin_last y7 b s j _ _ _ _ (by show j.val - 1536 - 1536 - 1536 - 512 - 256 - 256 - 256 < 256; omega) fun g => h7 b s ⟨_, g⟩ j ?_
  show j.val = 5888 + (j.val - 1536 - 1536 - 1536 - 512 - 256 - 256 - 256)
  omega

/-- The reference's first result is the product, -/
theorem rin_products : val_main_v70 (F := Ideal) x0 x1 x2 x3 x4 = products x0 x1 x2 x3 x4 :=
  rin_joined _ _ _ _ _ _ _ _ _ (rin_54 x0 x1 x2 x3 x4) (rin_56 x0 x1 x2 x3 x4) (rin_58 x0 x1 x2 x3 x4) (rin_60 x0 x1 x2 x3 x4)
    (rin_66 x0 x1 x2 x3 x4) (rin_67 x0 x1 x2 x3 x4) (rin_68 x0 x1 x2 x3 x4) (rin_69 x0 x1 x2 x3 x4) _

/-- and its second the last rows. -/
theorem rin_lasts : val_main_v71 (F := Ideal) x0 x2 = lasts x0 x2 := by
  funext i
  obtain ⟨b, z, k, rfl⟩ : ∃ (b : Fin 4) (z : Fin 1) (k : Fin 2048), i = ix3 b z k := ⟨i 0, i 1, i 2, ValueIdx.eq_ix3 i⟩
  obtain rfl : z = 0 := Subsingleton.elim _ _
  rw [val_main_v71_apply]
  refine Eq.trans (congrArg (val_main_v12 (F := Ideal) x0 x2) ?_) (rin_row x0 x2 b ⟨2047, by omega⟩ k)
  exact funext fun a => match a with | ⟨0, _⟩ => rfl | ⟨1, _⟩ => rfl | ⟨2, _⟩ => rfl

end Reference

/-- The kernel and the reference agree over the extended reals. -/
theorem algebraic_Rin : Cert.algebraic_RinKernelIdeal_RinReferenceIdeal := by
  intro m ρ m' ρ' _ hagree
  refine ⟨fun c => Cert.RinKernelIdeal.Body.out m c, fun c => Cert.RinKernelIdeal.Body.out' m c, Cert.RinKernelIdeal.Body.run m ρ, ?_⟩
  refine (θ_run Cert.RinReferenceIdeal.defs _ _).mono (fun _ h c => ⟨(h c).1.trans ?_, (h c).2.1.trans ?_, (h c).2.2⟩)
    (Cert.RinReferenceIdeal.Value.run (F := Ideal) m' ρ')
  · obtain ⟨h0, h1, h2, h3, h4⟩ := hagree c
    refine (val_main_v70_eq m' c).trans ((rin_products _ _ _ _ _).trans ?_)
    rw [h0, h1, h2, h3, h4]
  · obtain ⟨h0, h1, h2, h3, h4⟩ := hagree c
    refine (val_main_v71_eq _ _).trans ((rin_lasts _ _).trans ?_)
    rw [h0, h2]

/-! ## The kernel's frame

The kernel and its idealization are the same program, read in other numbers: the run shown for any numbers is the kernel's too. -/

theorem bodies_eq : @Cert.RinKernel.defs₀ Bits _ _ = @Cert.RinKernelIdeal.defs₀ Bits _ _ :=
  congrArg (Defs.onTc (nD := Cert.RinKernel.nD) (τ := Cert.RinKernel.τ) (sig := Cert.RinKernel.sig)) (funext fun k => funext fun a =>
    match k, a with
    | 0, (_, _) => rfl
    | ⟨_ + 1, h⟩, _ => absurd h (Nat.not_lt.2 (Nat.le_add_left _ _)))

theorem defs_eq : @Cert.RinKernel.defs Bits _ _ = @Cert.RinKernelIdeal.defs Bits _ _ :=
  congrArg (Idealize.ShloMosaic.Pipeline.defs Cert.RinKernel.pcfgs) bodies_eq

theorem frame_RinKernel : Cert.quiescent_RinKernel := fun m ρ _ => by
  rw [defs_eq]
  exact Cert.RinKernelIdeal.Body.frame (F := Bits) m ρ

end Cert.Proof

end
-- ==== Proof.New.lean ====
/- The sample's new keys and values and its updated windows. The kernel projects eight rows a sequence, of which the first is the new one, and cuts the
   result; the reference projects the new rows alone. -/
module

public import proofs.«01_k».proof.Defs
public import proofs.«01_k».proof.Proof.Common
public import proofs.«01_k».proof.Proof.Gen.NewKernelIdeal.Frame
public import proofs.«01_k».proof.Proof.Gen.NewReferenceIdeal.Run
public import proofs.«01_k».proof.Proof.Gen.NewReferenceIdeal.Read

@[expose] public section

noncomputable section

open Idealize.ShloMosaic Idealize.ShloMosaic.TcCoe Idealize.SL.Sem Idealize.ShloMosaic.ValueIdx
open Idealize.ShloMosaic.Pipeline (Dat)
open Cert.Common

namespace Cert.NewKernelIdeal.Project

open Cert.NewKernelIdeal Cert.NewKernelIdeal.Gen

theorem zeros2 : (![0, 0] : Fin 2 → ℕ) = fun _ => 0 := funext fun a => by fin_cases a <;> rfl

/-- The normed rows, as the body keeps them. -/
theorem pay1_apply (x : Vec Ideal S64x2048 .f32) (g : Vec Ideal S1x2048 .f32) (r : Fin 64) (k : Fin 2048) :
    k0_pay1 x g (ix2 r k) = normed (fun k => x (ix2 r k)) (fun k => g (ix2 (0 : Fin 1) k)) k := by
  unfold k0_pay1
  dsimp only
  rw [shapeCast_self]
  exact rms_apply x g _ _ _ _ _ r k

/-- A block of the product. -/
theorem pay2_apply (x : Vec Ideal S64x2048 .bf16) (w : Vec Ideal S2048x768 .bf16) (r : Fin 64) (d : Fin 768) :
    k0_pay2 x w (ix2 r d) = ∑ k : Fin 2048, x (ix2 r k) * w (ix2 k d) := by
  unfold k0_pay2
  rw [shapeCast_self]
  exact matmul_apply dot_S64x2048_S2048x768_S64x768_1_0_0_1_n_n rfl none x w r d

section Cases

variable (c : Dev nD) (i : grid0.Coords) (a2 : Memref sig .tc .vmem S64x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S64x768 .f32) (h5 : a5.IsWhole)
  (a6 : Memref sig .tc .vmem S64x2048 .bf16) (h6 : a6.IsWhole)
  (x0 : Vec Ideal S64x2048 .f32) (x1 : Vec Ideal S1x2048 .f32) (x2 : Vec Ideal S2048x768 .bf16) (xs : Vec Ideal S64x2048 .bf16)

/-- The first column block's point keeps the normed rows. -/
theorem rows_first (hc0 : cond0_0 i) : sout0_A_0 c i a2 h2 a3 h3 a4 h4 a5 h5 a6 h6 hc0 x0 x1 x2 = k0_pay1 x0 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero zeros2]
  simp only [View.readAt_eq_ld, h2.read_unread, h3.read_unread, View.ld_unit_zero (S := S64x2048) zeros2, View.ld_unit_zero (S := S1x2048) zeros2]

theorem out_first (hc0 : cond0_0 i) : out0_A_3 c i a2 h2 a3 h3 a4 h4 a5 h5 a6 h6 hc0 x0 x1 x2 = k0_pay2 (k0_pay1 x0 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero zeros2, View.readCov_unit_zero (S := S64x2048) _ zeros2]
  simp only [View.readAt_eq_ld, h2.read_unread, h3.read_unread, h4.read_unread, View.ld_unit_zero (S := S64x2048) zeros2,
    View.ld_unit_zero (S := S1x2048) zeros2, View.ld_unit_zero (S := S2048x768) zeros2]

/-- A later column block's point multiplies the rows kept. -/
theorem out_later (hc0 : ¬cond0_0 i) : out0_B_3 c i a2 h2 a3 h3 a4 h4 a5 h5 a6 h6 hc0 x0 x1 x2 xs = k0_pay2 xs x2 := by
  unfold out0_B_3
  rw [View.read_writes_eq_canon _ _ _ (cover0_B_3 c i a2 h2 a3 h3 a4 h4 a5 h5 a6 h6 hc0 x0 x1 x2 xs)]
  unfold kernelRun0_B
  dsimp only
  sl_unfold_words
  rw [View.canon_unit_zero zeros2]
  simp only [View.readAt_eq_ld, h4.read_unread, h6.read_unread, View.ld_unit_zero (S := S64x2048) zeros2, View.ld_unit_zero (S := S2048x768) zeros2]

end Cases

variable (m : (ℓ : Loc nD τ sig) → Buf (Elt Ideal) ℓ) (ρ : Dev nD → PrngReg)

/-- The projection of what the arguments hold. -/
abbrev out (c : Dev nD) : Buf (Elt Ideal) ((c : Thread nD τ).loc main_v2) :=
  projected (m ((c : Thread nD τ).loc main_arg0)) (m ((c : Thread nD τ).loc main_arg1)) (m ((c : Thread nD τ).loc main_arg2))

theorem idx0 : ∀ t : Fin grid0.N, win0_0.index t 0 = t.val / 4 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 4 := by decide +kernel
theorem idx3 : ∀ t : Fin grid0.N, win0_3.index t 0 = t.val / 4 ∧ win0_3.index t 1 = t.val % 4 := by decide +kernel

/-- The gains reach the region as one row. -/
theorem gains (c : Dev nD) (k : Fin 2048) : V m c main_v1 (ix2 (0 : Fin 1) k) = m ((c : Thread nD τ).loc main_arg1) (ix1 k) := by
  have h : V m c main_v1 = shapeCast S1x2048 (m ((c : Thread nD τ).loc main_arg1)) shapeCasts_S2048_S1x2048 := rfl
  rw [h]
  exact shapeCast_a_1a_apply _ _ 0 k

/-- The weights reach it as they are. -/
theorem weights (c : Dev nD) : V m c main_v0 = m ((c : Thread nD τ).loc main_arg2) := rfl

theorem iblk0_apply (c : Dev nD) (t : Fin cfg0.N) (r : Fin 64) (k : Fin 2048) (i : Fin 64) (h0 : i.val = t.val / 4 * 64 + r.val) :
    iblk m c 0 t (ix2 r k) = m ((c : Thread nD τ).loc main_arg0) (ix2 i k) := by
  refine (congrFun (V_main_arg0 m c) _).trans (congrArg _ (funext fun a => Fin.ext ?_))
  obtain ⟨e0, e1⟩ := idx0 t
  match a with
  | ⟨0, _⟩ => show win0_0.index t 0 * 64 + 1 * r.val = i.val; omega
  | ⟨1, _⟩ => show win0_0.index t 1 * 2048 + 1 * k.val = k.val; omega

theorem iblk1_apply (c : Dev nD) (t : Fin cfg0.N) (k : Fin 2048) :
    iblk m c 1 t (ix2 (0 : Fin 1) k) = m ((c : Thread nD τ).loc main_arg1) (ix1 k) := by
  refine Eq.trans (congrArg (V m c main_v1) (funext fun a => Fin.ext ?_)) (gains m c k)
  obtain ⟨e0, e1⟩ := idx1 t
  match a with
  | ⟨0, _⟩ => show win0_1.index t 0 * 1 + 1 * 0 = 0; omega
  | ⟨1, _⟩ => show win0_1.index t 1 * 2048 + 1 * k.val = k.val; omega

theorem iblk2_apply (c : Dev nD) (t : Fin cfg0.N) (k : Fin 2048) (d : Fin 768) (j : Fin 3072) (h1 : j.val = t.val % 4 * 768 + d.val) :
    iblk m c 2 t (ix2 k d) = m ((c : Thread nD τ).loc main_arg2) (ix2 k j) := by
  refine (congrFun (weights m c) _).trans (congrArg _ (funext fun a => Fin.ext ?_))
  obtain ⟨e0, e1⟩ := idx2 t
  match a with
  | ⟨0, _⟩ => show win0_2.index t 0 * 2048 + 1 * k.val = k.val; omega
  | ⟨1, _⟩ => show win0_2.index t 1 * 768 + 1 * d.val = j.val; omega

/-- The rows of a row block's first point, normed. -/
theorem rows_apply (c : Dev nD) (s : Fin cfg0.N) (r : Fin 64) (k : Fin 2048) (i : Fin 64) (hi : i.val = s.val / 4 * 64 + r.val) :
    k0_pay1 (iblk m c 0 s) (iblk m c 1 s) (ix2 r k)
      = normed (fun k => m ((c : Thread nD τ).loc main_arg0) (ix2 i k)) (fun k => m ((c : Thread nD τ).loc main_arg1) (ix1 k)) k := by
  refine (pay1_apply _ _ r k).trans ?_
  rw [funext fun k => iblk0_apply m c s r k i hi, funext fun k => iblk1_apply m c s k]

/-- What the points of a row block leave: the rows kept are those its first point `s` normed, and what goes to the result is their product
    with the point's weights. -/
theorem after_eq (c : Dev nD) (s : Fin cfg0.N) (h0 : s.val % 4 = 0) : ∀ (n : ℕ) (t : Fin cfg0.N), n < 4 → t.val = s.val + n →
    outsAt0 m c t.val t.isLt = (k0_pay2 (k0_pay1 (iblk m c 0 s) (iblk m c 1 s)) (iblk m c 2 t), k0_pay1 (iblk m c 0 s) (iblk m c 1 s))
  | 0, t, _, ht => by
    obtain rfl : t = s := Fin.ext ht
    rw [outsAt0_A m c t h0, out_first, rows_first]
  | n + 1, t, hn, ht => by
    obtain ⟨u, hu⟩ : ∃ u : Fin cfg0.N, u.val = t.val - 1 := ⟨⟨t.val - 1, Nat.lt_of_le_of_lt (Nat.sub_le _ _) t.isLt⟩, rfl⟩
    have hx : ∀ (k : ℕ) (hk : k < cfg0.N), u.val = k → outsAt0 m c k hk = outsAt0 m c u.val u.isLt := by rintro _ _ rfl; rfl
    rw [outsAt0_B m c t (by omega), hx _ _ hu, after_eq c s h0 n u (by omega) (by omega)]
    dsimp only
    rw [out_later]
    rfl

/-- What a point writes back is its block of the projection. -/
theorem flushed_eq (c : Dev nD) (t : Fin cfg0.N) :
    (dats m 0 c).flushed 3 t = ((cfg0.win 3).blk t).view.read (Elt Ideal) (out m c) := by
  have ht : t.val < 4 := lt_of_lt_of_eq t.isLt N_0
  obtain ⟨s, hs⟩ : ∃ s : Fin cfg0.N, s.val = t.val / 4 * 4 := ⟨⟨t.val / 4 * 4, lt_of_lt_of_eq (by omega : t.val / 4 * 4 < 4) N_0.symm⟩, rfl⟩
  show (cfg0.win 3).cut (grid0.coords t) ((dats m 0 c).after 3 t) = _
  rw [after0_3, after_eq m c s (by omega) (t.val % 4) t (by omega) (by omega)]
  funext y
  show k0_pay2 (F := Ideal) _ _ y = out m c ((win0_3.blk t).view.emb y)
  obtain ⟨r, d, rfl⟩ : ∃ (r : Fin 64) (d : Fin 768), y = ix2 r d := ⟨y 0, y 1, eq_ix2 y⟩
  have hr := r.isLt; have hd := d.isLt
  obtain ⟨i, hi⟩ : ∃ i : Fin 64, i.val = t.val / 4 * 64 + r.val := ⟨⟨_, by omega⟩, rfl⟩
  obtain ⟨j, hj⟩ : ∃ j : Fin 3072, j.val = t.val % 4 * 768 + d.val := ⟨⟨_, by omega⟩, rfl⟩
  have he : (win0_3.blk t).view.emb (ix2 r d) = ix2 i j := by
    obtain ⟨e0, e1⟩ := idx3 t
    funext a; refine Fin.ext ?_
    match a with
    | ⟨0, _⟩ => show win0_3.index t 0 * 64 + 1 * r.val = i.val; omega
    | ⟨1, _⟩ => show win0_3.index t 1 * 768 + 1 * d.val = j.val; omega
  rw [he]
  refine (pay2_apply _ _ r d).trans (Finset.sum_congr rfl fun k _ => ?_)
  exact congrArg₂ (· * ·) (rows_apply m c s r k i (by omega)) (iblk2_apply m c t k d j hj)

/-- The points' blocks tile the result. -/
theorem cover (i : S64x3072.Idx) : ∃ t : Fin cfg0.N, (cfg0.win 3).flush t = true ∧ i ∈ ((cfg0.win 3).blk t).view.set := by
  have h0 : (i 0 : Nat) < 64 := (i 0).isLt
  have h1 : (i 1 : Nat) < 3072 := (i 1).isLt
  obtain ⟨t, ht⟩ : ∃ t : Fin cfg0.N, t.val = (i 0).val / 64 * 4 + (i 1).val / 768 := ⟨⟨_, by rw [show cfg0.N = 4 from N_0]; omega⟩, rfl⟩
  refine ⟨t, flush0_3 _, ?_⟩
  show i ∈ ((View.whole main_v2).slice (win0_3.rect t)).set
  rw [View.set_slice_whole, Rect.mem_set_unit]
  obtain ⟨e0, e1⟩ := idx3 t
  intro a
  match a with
  | ⟨0, _⟩ => show win0_3.index t 0 * 64 ≤ (i 0 : Nat) ∧ (i 0 : Nat) < win0_3.index t 0 * 64 + 64; omega
  | ⟨1, _⟩ => show win0_3.index t 1 * 768 ≤ (i 1 : Nat) ∧ (i 1 : Nat) < win0_3.index t 1 * 768 + 768; omega

theorem final (c : Dev nD) : (dats m 0 c).arrAt 3 cfg0.N = out m c :=
  (dats m 0 c).arrAt_eq_of_cover 3 (out m c) (fun t _ => flushed_eq m c t) cover

/-- The first of each sequence's eight rows, at 512 columns from `o` on, as heads: the way the kernel's host lines cut the projection. -/
abbrev part (o : ℕ) (h : S8x8x3072.Slices ![0, 0, o] S8x1x512) (z : (⟨S64x3072, .f32⟩ : BufTy).Contents (Elt Ideal)) :
    (⟨S8x1x4x128, .f32⟩ : BufTy).Contents (Elt Ideal) :=
  shapeCast S8x1x4x128 (extractStridedSlice S8x1x512 ![0, 0, o] (shapeCast S8x8x3072 z shapeCasts_S64x3072_S8x8x3072) h) shapeCasts_S8x1x512_S8x1x4x128

theorem part_apply (o : ℕ) (h : S8x8x3072.Slices ![0, 0, o] S8x1x512) (z : (⟨S64x3072, .f32⟩ : BufTy).Contents (Elt Ideal)) (i : S8x1x4x128.Idx)
    (r : Fin 64) (d : Fin 3072) (hr : r.val = 8 * (i 0).val) (hd : d.val = o + ((i 2).val * 128 + (i 3).val)) : part o h z i = z (ix2 r d) := by
  have h0 : (i 0).val < 8 := (i 0).isLt
  have h1 : (i 1).val < 1 := (i 1).isLt
  have h2 : (i 2).val < 4 := (i 2).isLt
  have h3 : (i 3).val < 128 := (i 3).isLt
  refine (shapeCast_apply _ _ i (ix3 (⟨(i 0).val, h0⟩ : Fin 8) (0 : Fin 1) (⟨(i 2).val * 128 + (i 3).val, by omega⟩ : Fin 512)) ?_).trans ?_
  · rw [Shape.rowMajor_val_three, Shape.rowMajor_val_four]
    show ((i 0).val * 1 + 0) * 512 + ((i 2).val * 128 + (i 3).val) = (((i 0).val * 1 + (i 1).val) * 4 + (i 2).val) * 128 + (i 3).val
    omega
  refine (extractStridedSlice_apply _ _ _ _ (ix3 (⟨(i 0).val, h0⟩ : Fin 8) (0 : Fin 8) d) fun a => ?_).trans ?_
  · match a with
    | ⟨0, _⟩ => show (i 0).val = 0 + (i 0).val; omega
    | ⟨1, _⟩ => rfl
    | ⟨2, _⟩ => exact hd
  refine shapeCast_apply _ _ _ (ix2 r d) ?_
  rw [Shape.rowMajor_val_two, Shape.rowMajor_val_three]
  show r.val * 3072 + d.val = ((i 0).val * 8 + 0) * 3072 + d.val
  omega

/-- A window, shifted by one row, the new row at its end. -/
abbrev shifted (z : (⟨S8x512x4x128, .f32⟩ : BufTy).Contents (Elt Ideal)) (y : (⟨S8x1x4x128, .f32⟩ : BufTy).Contents (Elt Ideal)) :
    (⟨S8x512x4x128, .f32⟩ : BufTy).Contents (Elt Ideal) :=
  extractStridedSlice S8x512x4x128 ![0, 1, 0, 0]
    (concatenate S8x513x4x128 1 [⟨S8x512x4x128, z⟩, ⟨S8x1x4x128, y⟩] concatenates_S8x512x4x128_S8x1x4x128_S8x513x4x128_d1)
    slices_S8x513x4x128_S8x512x4x128_0_1_0_0

/-- The lines after the region find the projection in the region's result. -/
theorem region_result (c : Dev nD) : Pipeline.withArrays (cfgs 0).spec c (V0 m c) (fun w => (dats m 0 c).arrAt w (cfgs 0).N) (Proc.devRef .tc main_v2) = out m c :=
  (Pipeline.withArrays_arr (cfgs 0).spec (by decide) c (V0 m c) (fun w => (dats m 0 c).arrAt w (cfgs 0).N) 3).trans (final m c)

/-- What the lines after the region leave in the six results. -/
theorem tail (c : Dev nD) :
    Pipeline.afterTail₀ cfgs (dats m) 0 (V0 m) [hostOps1] c main_v5 = part 0 slices_S8x8x3072_S8x1x512_0_0_0 (out m c)
    ∧ Pipeline.afterTail₀ cfgs (dats m) 0 (V0 m) [hostOps1] c main_v7 = part 512 slices_S8x8x3072_S8x1x512_0_0_512 (out m c)
    ∧ Pipeline.afterTail₀ cfgs (dats m) 0 (V0 m) [hostOps1] c main_v9 = part 1024 slices_S8x8x3072_S8x1x512_0_0_1024 (out m c)
    ∧ Pipeline.afterTail₀ cfgs (dats m) 0 (V0 m) [hostOps1] c main_v11 = part 1536 slices_S8x8x3072_S8x1x512_0_0_1536 (out m c)
    ∧ Pipeline.afterTail₀ cfgs (dats m) 0 (V0 m) [hostOps1] c main_v17
      = shifted (m ((c : Thread nD τ).loc main_arg3)) (part 2048 slices_S8x8x3072_S8x1x512_0_0_2048 (out m c))
    ∧ Pipeline.afterTail₀ cfgs (dats m) 0 (V0 m) [hostOps1] c main_v19
      = shifted (m ((c : Thread nD τ).loc main_arg4)) (part 2560 slices_S8x8x3072_S8x1x512_0_0_2560 (out m c)) := by
  rw [← region_result m c]
  refine ⟨?_, ?_, ?_, ?_, ?_, ?_⟩ <;> unfold Pipeline.afterTail₀ <;> after_results_simp <;> rfl

/-- The kernel's run: the results hold the new rows and the shifted windows, and the arguments are as they were. -/
theorem run : θ_run defs (onTc (τ := τ) (main (F := Ideal))) ⟨m, fun _ => 0, ρ⟩ (fun r => ∀ c : Dev nD,
      r.2.mem ((c.tc : Thread nD τ).loc main_v5) = part 0 slices_S8x8x3072_S8x1x512_0_0_0 (out m c)
      ∧ r.2.mem ((c.tc : Thread nD τ).loc main_v7) = part 512 slices_S8x8x3072_S8x1x512_0_0_512 (out m c)
      ∧ r.2.mem ((c.tc : Thread nD τ).loc main_v9) = part 1024 slices_S8x8x3072_S8x1x512_0_0_1024 (out m c)
      ∧ r.2.mem ((c.tc : Thread nD τ).loc main_v11) = part 1536 slices_S8x8x3072_S8x1x512_0_0_1536 (out m c)
      ∧ r.2.mem ((c.tc : Thread nD τ).loc main_v17) = shifted (m ((c.tc : Thread nD τ).loc main_arg3)) (part 2048 slices_S8x8x3072_S8x1x512_0_0_2048 (out m c))
      ∧ r.2.mem ((c.tc : Thread nD τ).loc main_v19) = shifted (m ((c.tc : Thread nD τ).loc main_arg4)) (part 2560 slices_S8x8x3072_S8x1x512_0_0_2560 (out m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (θ_run_and (unchanged m ρ) (run_main m ρ))
  have rest := fun b hb => (h.2 c).2 b hb
  obtain ⟨e0, e1, e2, e3, e4, e5⟩ := tail m c
  exact ⟨(rest main_v5 (Pipeline.mem_restRefs_of main_v5 (by decide) (by decide))).trans e0,
    (rest main_v7 (Pipeline.mem_restRefs_of main_v7 (by decide) (by decide))).trans e1,
    (rest main_v9 (Pipeline.mem_restRefs_of main_v9 (by decide) (by decide))).trans e2,
    (rest main_v11 (Pipeline.mem_restRefs_of main_v11 (by decide) (by decide))).trans e3,
    (rest main_v17 (Pipeline.mem_restRefs_of main_v17 (by decide) (by decide))).trans e4,
    (rest main_v19 (Pipeline.mem_restRefs_of main_v19 (by decide) (by decide))).trans e5, h.1 c⟩

end Cert.NewKernelIdeal.Project

namespace Cert.Proof

open Cert.NewReferenceIdeal Cert.NewReferenceIdeal.Gen Cert.NewReferenceIdeal.Read
open Cert.NewKernelIdeal.Project (part part_apply)

section Reference

variable (x0 : (⟨S64x2048, .f32⟩ : BufTy).Contents (Elt Ideal)) (x1 : (⟨S2048, .f32⟩ : BufTy).Contents (Elt Ideal))
  (x2 : (⟨S2048x3072, .f32⟩ : BufTy).Contents (Elt Ideal))

/-- The new rows are the first of each sequence's eight. -/
theorem new_rows (b : Fin 8) (k : Fin 2048) (r : Fin 64) (hr : r.val = 8 * b.val) : val_main_v2 (F := Ideal) x0 (ix2 b k) = x0 (ix2 r k) := by
  rw [val_main_v2_apply, val_main_v1_apply, val_main_v0_apply]
  refine congrArg x0 (funext fun a => Fin.ext ?_)
  have hb := b.isLt
  have hk := k.isLt
  match a with
  | ⟨0, _⟩ => show (((b.val * 2048 + k.val) / 2048 * 8 + 0) * 2048 + (b.val * 2048 + k.val) % 2048) / 2048 = r.val; omega
  | ⟨1, _⟩ => show (((b.val * 2048 + k.val) / 2048 * 8 + 0) * 2048 + (b.val * 2048 + k.val) % 2048) % 2048 = k.val; omega

/-- The reference's product is the projection's rows of the new tokens. -/
theorem new_product (b : Fin 8) (d : Fin 3072) (r : Fin 64) (hr : r.val = 8 * b.val) :
    val_main_v16 (F := Ideal) x0 x1 x2 (ix2 b d) = projected x0 x1 x2 (ix2 r d) := by
  rw [val_main_v16_apply]
  refine Finset.sum_congr rfl fun k _ => ?_
  rw [show lidx_main_v16 (ix2 b d) k = ix2 b k from by funext a; match a with | ⟨0, _⟩ => rfl | ⟨1, _⟩ => rfl,
    show ridx_main_v16 (ix2 b d) k = ix2 k d from by funext a; match a with | ⟨0, _⟩ => rfl | ⟨1, _⟩ => rfl]
  refine congrArg (· * x2 (ix2 k d)) ((host_rms_apply (val_main_v2 (F := Ideal) x0) x1 _ (by decide) _ _ _ _ _ _ b k).trans ?_)
  rw [funext fun k => new_rows x0 b k r hr]

/-- The reference's cut of its product is the kernel's of the projection. -/
theorem new_part (o : ℕ) (ho : o + 512 ≤ 3072) (h : S8x3072.Slices ![0, o] S8x512) (h' : Cert.NewKernelIdeal.S8x8x3072.Slices ![0, 0, o] Cert.NewKernelIdeal.S8x1x512) :
    shapeCast S8x1x4x128 (extractStridedSlice S8x512 ![0, o] (val_main_v16 (F := Ideal) x0 x1 x2) h) shapeCasts_S8x512_S8x1x4x128
      = part o h' (projected x0 x1 x2) := by
  funext i
  have h0 : (i 0).val < 8 := (i 0).isLt
  have h1 : (i 1).val < 1 := (i 1).isLt
  have h2 : (i 2).val < 4 := (i 2).isLt
  have h3 : (i 3).val < 128 := (i 3).isLt
  obtain ⟨r, hr⟩ : ∃ r : Fin 64, r.val = 8 * (i 0).val := ⟨⟨_, by omega⟩, rfl⟩
  obtain ⟨d, hd⟩ : ∃ d : Fin 3072, d.val = o + ((i 2).val * 128 + (i 3).val) := ⟨⟨_, by omega⟩, rfl⟩
  refine Eq.trans ?_ (part_apply o h' _ i r d hr hd).symm
  refine (shapeCast_apply _ _ i (ix2 (⟨(i 0).val, h0⟩ : Fin 8) (⟨(i 2).val * 128 + (i 3).val, by omega⟩ : Fin 512)) ?_).trans ?_
  · rw [Shape.rowMajor_val_two, Shape.rowMajor_val_four]
    show (i 0).val * 512 + ((i 2).val * 128 + (i 3).val) = (((i 0).val * 1 + (i 1).val) * 4 + (i 2).val) * 128 + (i 3).val
    omega
  refine (extractStridedSlice_apply _ _ _ _ (ix2 (⟨(i 0).val, h0⟩ : Fin 8) d) fun a => ?_).trans (new_product x0 x1 x2 _ d r hr)
  match a with
  | ⟨0, _⟩ => show (i 0).val = 0 + (i 0).val; omega
  | ⟨1, _⟩ => exact hd

end Reference

/-- The kernel and the reference agree over the extended reals. -/
theorem algebraic_New : Cert.algebraic_NewKernelIdeal_NewReferenceIdeal := by
  intro m ρ m' ρ' _ hagree
  refine ⟨_, _, _, _, _, _, Cert.NewKernelIdeal.Project.run m ρ, ?_⟩
  refine (θ_run Cert.NewReferenceIdeal.defs _ _).mono (fun _ h c => ?_) (Cert.NewReferenceIdeal.Value.run (F := Ideal) m' ρ')
  obtain ⟨h0, h1, h2, h3, h4⟩ := hagree c
  obtain ⟨e0, e1, e2, e3, e4, e5, rest⟩ := h c
  rw [h0, h1, h2] at e0 e1 e2 e3 e4 e5
  rw [h3] at e4
  rw [h4] at e5
  exact ⟨e0.trans (new_part _ _ _ 0 (by omega) _ _), e1.trans (new_part _ _ _ 512 (by omega) _ _), e2.trans (new_part _ _ _ 1024 (by omega) _ _),
    e3.trans (new_part _ _ _ 1536 (by omega) _ _),
    e4.trans (congrArg (Cert.NewKernelIdeal.Project.shifted _) (new_part _ _ _ 2048 (by omega) _ _)),
    e5.trans (congrArg (Cert.NewKernelIdeal.Project.shifted _) (new_part _ _ _ 2560 (by omega) _ _)), rest⟩

end Cert.Proof

end
-- ==== Proof.lean ====
module

public import proofs.«01_k».proof.Defs
public import proofs.«01_k».proof.Proof.Mem
public import proofs.«01_k».proof.Proof.Gate
public import proofs.«01_k».proof.Proof.Down
public import proofs.«01_k».proof.Proof.Out
public import proofs.«01_k».proof.Proof.Mkv
public import proofs.«01_k».proof.Proof.Side
public import proofs.«01_k».proof.Proof.Inb
public import proofs.«01_k».proof.Proof.Rin
public import proofs.«01_k».proof.Proof.New
public import proofs.«01_k».proof.Proof.Gen.MemKernelIdeal.Value
public import proofs.«01_k».proof.Proof.Gen.OutKernelIdeal.Value
public import proofs.«01_k».proof.Proof.Gen.MemReferenceIdeal.Run
public import proofs.«01_k».proof.Proof.Gen.MemReferenceIdeal.Read
public import proofs.«01_k».proof.Proof.Gen.GateReferenceIdeal.Run
public import proofs.«01_k».proof.Proof.Gen.GateReferenceIdeal.Read
public import proofs.«01_k».proof.Proof.Gen.DownReferenceIdeal.Run
public import proofs.«01_k».proof.Proof.Gen.DownReferenceIdeal.Read
public import proofs.«01_k».proof.Proof.Gen.OutReferenceIdeal.Run
public import proofs.«01_k».proof.Proof.Gen.OutReferenceIdeal.Read
public import proofs.«01_k».proof.Proof.Gen.MkvReferenceIdeal.Run
public import proofs.«01_k».proof.Proof.Gen.MkvReferenceIdeal.Read
public import proofs.«01_k».proof.Proof.Gen.SideReferenceIdeal.Run
public import proofs.«01_k».proof.Proof.Gen.SideReferenceIdeal.Read
public import proofs.«01_k».proof.Proof.Gen.InbReferenceIdeal.Run
public import proofs.«01_k».proof.Proof.Gen.InbReferenceIdeal.Read
public import proofs.«01_k».proof.Proof.Gen.NewReferenceIdeal.Run
public import proofs.«01_k».proof.Proof.Gen.NewReferenceIdeal.Read
public import proofs.«01_k».proof.Proof.Gen.RinReferenceIdeal.Run
public import proofs.«01_k».proof.Proof.Gen.RinReferenceIdeal.Read
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemReferenceIdeal
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.MkvKernel
public import proofs.«01_k».proof.Proof.Gen.MkvKernel.Skeleton
public import proofs.«01_k».proof.Proof.Gen.MkvKernel.Launch
public import proofs.«01_k».proof.Proof.Gen.MkvKernel.Points
public import proofs.«01_k».proof.Proof.Gen.MkvKernel.Frame
public import proofs.«01_k».proof.Proof.Gen.MkvKernelIdeal
public import proofs.«01_k».proof.Proof.Gen.MkvKernelIdeal.Skeleton
public import proofs.«01_k».proof.Proof.Gen.MkvKernelIdeal.Launch
public import proofs.«01_k».proof.Proof.Gen.MkvKernelIdeal.Points
public import proofs.«01_k».proof.Proof.Gen.MkvKernelIdeal.Frame
public import proofs.«01_k».proof.Proof.Gen.MkvReferenceIdeal
public import proofs.«01_k».proof.Proof.Gen.SideKernel
public import proofs.«01_k».proof.Proof.Gen.SideKernel.Skeleton
public import proofs.«01_k».proof.Proof.Gen.SideKernel.Launch
public import proofs.«01_k».proof.Proof.Gen.SideKernel.Points
public import proofs.«01_k».proof.Proof.Gen.SideKernel.Frame
public import proofs.«01_k».proof.Proof.Gen.SideKernelIdeal
public import proofs.«01_k».proof.Proof.Gen.SideKernelIdeal.Skeleton
public import proofs.«01_k».proof.Proof.Gen.SideKernelIdeal.Launch
public import proofs.«01_k».proof.Proof.Gen.SideKernelIdeal.Points
public import proofs.«01_k».proof.Proof.Gen.SideKernelIdeal.Frame
public import proofs.«01_k».proof.Proof.Gen.SideReferenceIdeal
public import proofs.«01_k».proof.Proof.Gen.InbKernel
public import proofs.«01_k».proof.Proof.Gen.InbKernel.Skeleton
public import proofs.«01_k».proof.Proof.Gen.InbKernel.Launch
public import proofs.«01_k».proof.Proof.Gen.InbKernel.Points
public import proofs.«01_k».proof.Proof.Gen.InbKernel.Frame
public import proofs.«01_k».proof.Proof.Gen.InbKernelIdeal
public import proofs.«01_k».proof.Proof.Gen.InbKernelIdeal.Skeleton
public import proofs.«01_k».proof.Proof.Gen.InbKernelIdeal.Launch
public import proofs.«01_k».proof.Proof.Gen.InbKernelIdeal.Points
public import proofs.«01_k».proof.Proof.Gen.InbKernelIdeal.Frame
public import proofs.«01_k».proof.Proof.Gen.InbReferenceIdeal
public import proofs.«01_k».proof.Proof.Gen.NewKernel
public import proofs.«01_k».proof.Proof.Gen.NewKernel.Skeleton
public import proofs.«01_k».proof.Proof.Gen.NewKernel.Launch
public import proofs.«01_k».proof.Proof.Gen.NewKernel.Points
public import proofs.«01_k».proof.Proof.Gen.NewKernel.Frame
public import proofs.«01_k».proof.Proof.Gen.NewKernelIdeal
public import proofs.«01_k».proof.Proof.Gen.NewKernelIdeal.Skeleton
public import proofs.«01_k».proof.Proof.Gen.NewKernelIdeal.Launch
public import proofs.«01_k».proof.Proof.Gen.NewKernelIdeal.Points
public import proofs.«01_k».proof.Proof.Gen.NewKernelIdeal.Frame
public import proofs.«01_k».proof.Proof.Gen.NewReferenceIdeal
public import Idealize.ShloMosaic.Adequacy
public import Idealize.ShloMosaic.Init

@[expose] public section

noncomputable section

namespace Cert.Proof

open Idealize.ShloMosaic Idealize.SL.Sem

/-- Mem's reference runs, leaves its arguments as they were, and has no counter that could end at another value than zero. -/
theorem frame_MemReference : Cert.quiescent_MemReferenceIdeal := by
  intro m ρ _
  exact (θ_run Cert.MemReferenceIdeal.defs _ _).mono (fun r h => ⟨fun c => (h c).2,
      Idealize.ShloMosaic.sem_eq_zero_of_no_sems (by decide) r.2⟩)
    (Cert.MemReferenceIdeal.Value.run (F := Ideal) m ρ)

/-- Gate's reference runs, leaves its arguments as they were, and has no counter that could end at another value than zero. -/
theorem frame_GateReference : Cert.quiescent_GateReferenceIdeal := by
  intro m ρ _
  exact (θ_run Cert.GateReferenceIdeal.defs _ _).mono (fun r h => ⟨fun c => (h c).2,
      Idealize.ShloMosaic.sem_eq_zero_of_no_sems (by decide) r.2⟩)
    (Cert.GateReferenceIdeal.Value.run (F := Ideal) m ρ)

/-- Down's reference runs, leaves its arguments as they were, and has no counter that could end at another value than zero. -/
theorem frame_DownReference : Cert.quiescent_DownReferenceIdeal := by
  intro m ρ _
  exact (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- Out's reference runs, leaves its arguments as they were, and has no counter that could end at another value than zero. -/
theorem frame_OutReference : Cert.quiescent_OutReferenceIdeal := by
  intro m ρ _
  exact (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- Mkv's reference runs, leaves its arguments as they were, and has no counter that could end at another value than zero. -/
theorem frame_MkvReference : Cert.quiescent_MkvReferenceIdeal := by
  intro m ρ _
  exact (θ_run Cert.MkvReferenceIdeal.defs _ _).mono (fun r h => ⟨fun c => (h c).2,
      Idealize.ShloMosaic.sem_eq_zero_of_no_sems (by decide) r.2⟩)
    (Cert.MkvReferenceIdeal.Value.run (F := Ideal) m ρ)

/-- Side's reference runs, leaves its arguments as they were, and has no counter that could end at another value than zero. -/
theorem frame_SideReference : Cert.quiescent_SideReferenceIdeal := by
  intro m ρ _
  exact (θ_run Cert.SideReferenceIdeal.defs _ _).mono (fun r h => ⟨fun c => (h c).2.2.2.2.2.2,
      Idealize.ShloMosaic.sem_eq_zero_of_no_sems (by decide) r.2⟩)
    (Cert.SideReferenceIdeal.Value.run (F := Ideal) m ρ)

/-- Inb's reference runs, leaves its arguments as they were, and has no counter that could end at another value than zero. -/
theorem frame_InbReference : Cert.quiescent_InbReferenceIdeal := by
  intro m ρ _
  exact (θ_run Cert.InbReferenceIdeal.defs _ _).mono (fun r h => ⟨fun c => (h c).2,
      Idealize.ShloMosaic.sem_eq_zero_of_no_sems (by decide) r.2⟩)
    (Cert.InbReferenceIdeal.Value.run (F := Ideal) m ρ)

/-- Rin's reference runs, leaves its arguments as they were, and has no counter that could end at another value than zero. -/
theorem frame_RinReference : Cert.quiescent_RinReferenceIdeal := by
  intro m ρ _
  exact (θ_run Cert.RinReferenceIdeal.defs _ _).mono (fun r h => ⟨fun c => (h c).2.2,
      Idealize.ShloMosaic.sem_eq_zero_of_no_sems (by decide) r.2⟩)
    (Cert.RinReferenceIdeal.Value.run (F := Ideal) m ρ)

/-- New's reference runs, leaves its arguments as they were, and has no counter that could end at another value than zero. -/
theorem frame_NewReference : Cert.quiescent_NewReferenceIdeal := by
  intro m ρ _
  exact (θ_run Cert.NewReferenceIdeal.defs _ _).mono (fun r h => ⟨fun c => (h c).2.2.2.2.2.2,
      Idealize.ShloMosaic.sem_eq_zero_of_no_sems (by decide) r.2⟩)
    (Cert.NewReferenceIdeal.Value.run (F := Ideal) m ρ)

/-- All the claims, after the witnesses of the programs' stated facts. -/
theorem claim : Cert.Claim := ⟨Cert.MemKernel.Gen.facts, Cert.MemKernelIdeal.Gen.facts, Cert.MemReferenceIdeal.Gen.facts,
    Cert.GateKernel.Gen.facts, Cert.GateKernelIdeal.Gen.facts, Cert.GateReferenceIdeal.Gen.facts,
    Cert.DownKernel.Gen.facts, Cert.DownKernelIdeal.Gen.facts, Cert.DownReferenceIdeal.Gen.facts,
    Cert.OutKernel.Gen.facts, Cert.OutKernelIdeal.Gen.facts, Cert.OutReferenceIdeal.Gen.facts,
    Cert.MkvKernel.Gen.facts, Cert.MkvKernelIdeal.Gen.facts, Cert.MkvReferenceIdeal.Gen.facts,
    Cert.SideKernel.Gen.facts, Cert.SideKernelIdeal.Gen.facts, Cert.SideReferenceIdeal.Gen.facts,
    Cert.InbKernel.Gen.facts, Cert.InbKernelIdeal.Gen.facts, Cert.InbReferenceIdeal.Gen.facts,
    Cert.RinKernel.Gen.facts, Cert.RinKernelIdeal.Gen.facts, Cert.RinReferenceIdeal.Gen.facts,
    Cert.NewKernel.Gen.facts, Cert.NewKernelIdeal.Gen.facts, Cert.NewReferenceIdeal.Gen.facts, by
  exact ⟨fun m ρ _ => Cert.MemKernel.Gen.frame m ρ, fun m ρ _ => Cert.MemKernelIdeal.Gen.frame m ρ, frame_MemReference,
    fun m ρ _ => Cert.GateKernel.Gen.frame m ρ, fun m ρ _ => Cert.GateKernelIdeal.Gen.frame m ρ, frame_GateReference,
    fun m ρ _ => Cert.DownKernel.Gen.frame m ρ, fun m ρ _ => Cert.DownKernelIdeal.Gen.frame m ρ, frame_DownReference,
    fun m ρ _ => Cert.OutKernel.Gen.frame m ρ, fun m ρ _ => Cert.OutKernelIdeal.Gen.frame m ρ, frame_OutReference,
    fun m ρ _ => Cert.MkvKernel.Gen.frame m ρ, fun m ρ _ => Cert.MkvKernelIdeal.Gen.frame m ρ, frame_MkvReference,
    fun m ρ _ => Cert.SideKernel.Gen.frame m ρ, fun m ρ _ => Cert.SideKernelIdeal.Gen.frame m ρ, frame_SideReference,
    fun m ρ _ => Cert.InbKernel.Gen.frame m ρ, fun m ρ _ => Cert.InbKernelIdeal.Gen.frame m ρ, frame_InbReference,
    frame_RinKernel, fun m ρ _ => Cert.RinKernelIdeal.Body.frame m ρ, frame_RinReference,
    fun m ρ _ => Cert.NewKernel.Gen.frame m ρ, fun m ρ _ => Cert.NewKernelIdeal.Gen.frame m ρ, frame_NewReference,
    trivial, algebraic_Mem, trivial, algebraic_Gate, trivial, algebraic_Down, trivial, algebraic_Out, trivial, algebraic_Mkv, trivial, algebraic_Side, trivial, algebraic_Inb, trivial, algebraic_Rin, trivial, algebraic_New⟩⟩

end Cert.Proof

end
